-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_BlocksIdeal [hPre_experts_in_range : Cert.Pre_experts_in_range.Facts] (m : (ℓ : Loc Cert.BlocksIdeal.nD Cert.BlocksIdeal.τ Cert.BlocksIdeal.sig) → Buf (Elt Ideal) ℓ) : Prop :=
  ∀ c : Dev Cert.BlocksIdeal.nD,
    (Cert.Pre_experts_in_range.fn (F := Ideal) (m ((c.tc : Thread Cert.BlocksIdeal.nD Cert.BlocksIdeal.τ).loc Cert.BlocksIdeal.main_arg0)) (m ((c.tc : Thread Cert.BlocksIdeal.nD Cert.BlocksIdeal.τ).loc Cert.BlocksIdeal.main_arg1)) (m ((c.tc : Thread Cert.BlocksIdeal.nD Cert.BlocksIdeal.τ).loc Cert.BlocksIdeal.main_arg2)) (m ((c.tc : Thread Cert.BlocksIdeal.nD Cert.BlocksIdeal.τ).loc Cert.BlocksIdeal.main_arg3)) (m ((c.tc : Thread Cert.BlocksIdeal.nD Cert.BlocksIdeal.τ).loc Cert.BlocksIdeal.main_arg4)) (m ((c.tc : Thread Cert.BlocksIdeal.nD Cert.BlocksIdeal.τ).loc Cert.BlocksIdeal.main_arg5)) (m ((c.tc : Thread Cert.BlocksIdeal.nD Cert.BlocksIdeal.τ).loc Cert.BlocksIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_BlocksIdeal [hBlocksIdeal : Cert.BlocksIdeal.Facts] [hPre_experts_in_range : Cert.Pre_experts_in_range.Facts] : Prop :=
  ∀ (m : (ℓ : Loc Cert.BlocksIdeal.nD Cert.BlocksIdeal.τ Cert.BlocksIdeal.sig) → Buf (Elt Ideal) ℓ) (g : Dev Cert.BlocksIdeal.nD → PrngReg), Pre_BlocksIdeal m →
    θ_run (Cert.BlocksIdeal.defs (F := Ideal)) (onTc (τ := Cert.BlocksIdeal.τ) (Cert.BlocksIdeal.main (F := Ideal))) ⟨m, fun _ => 0, g⟩ (fun r => (∀ c : Dev Cert.BlocksIdeal.nD,
      r.2.mem ((c.tc : Thread Cert.BlocksIdeal.nD Cert.BlocksIdeal.τ).loc Cert.BlocksIdeal.main_arg0) = m ((c.tc : Thread Cert.BlocksIdeal.nD Cert.BlocksIdeal.τ).loc Cert.BlocksIdeal.main_arg0)
      ∧ r.2.mem ((c.tc : Thread Cert.BlocksIdeal.nD Cert.BlocksIdeal.τ).loc Cert.BlocksIdeal.main_arg1) = m ((c.tc : Thread Cert.BlocksIdeal.nD Cert.BlocksIdeal.τ).loc Cert.BlocksIdeal.main_arg1)
      ∧ r.2.mem ((c.tc : Thread Cert.BlocksIdeal.nD Cert.BlocksIdeal.τ).loc Cert.BlocksIdeal.main_arg2) = m ((c.tc : Thread Cert.BlocksIdeal.nD Cert.BlocksIdeal.τ).loc Cert.BlocksIdeal.main_arg2)
      ∧ r.2.mem ((c.tc : Thread Cert.BlocksIdeal.nD Cert.BlocksIdeal.τ).loc Cert.BlocksIdeal.main_arg3) = m ((c.tc : Thread Cert.BlocksIdeal.nD Cert.BlocksIdeal.τ).loc Cert.BlocksIdeal.main_arg3)
      ∧ r.2.mem ((c.tc : Thread Cert.BlocksIdeal.nD Cert.BlocksIdeal.τ).loc Cert.BlocksIdeal.main_arg4) = m ((c.tc : Thread Cert.BlocksIdeal.nD Cert.BlocksIdeal.τ).loc Cert.BlocksIdeal.main_arg4)
      ∧ r.2.mem ((c.tc : Thread Cert.BlocksIdeal.nD Cert.BlocksIdeal.τ).loc Cert.BlocksIdeal.main_arg5) = m ((c.tc : Thread Cert.BlocksIdeal.nD Cert.BlocksIdeal.τ).loc Cert.BlocksIdeal.main_arg5)
      ∧ r.2.mem ((c.tc : Thread Cert.BlocksIdeal.nD Cert.BlocksIdeal.τ).loc Cert.BlocksIdeal.main_arg6) = m ((c.tc : Thread Cert.BlocksIdeal.nD Cert.BlocksIdeal.τ).loc Cert.BlocksIdeal.main_arg6))
      ∧ r.2.sem = fun _ => 0)

def preserves_Kernel_KernelIdeal : Prop :=
  IdealRules.bf16_pair.BufferStatement Cert.KernelIdeal.S512x2x128 Cert.KernelIdeal.S512x1x128
  ∧ IdealRules.bf16_pair.Statement Cert.KernelIdeal.S128x2x128 Cert.KernelIdeal.S128x1x128
  ∧ IdealRules.bf16_pack.Statement Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v81_5)) (v1 : (c : Dev Cert.KernelIdeal.nD) → Buf (Elt Ideal) ((c.tc : Thread Cert.KernelIdeal.nD Cert.KernelIdeal.τ).loc Cert.KernelIdeal.main_v81_6)) (v2 : (c : Dev Cert.KernelIdeal.nD) → Buf (Elt Ideal) ((c.tc : Thread Cert.KernelIdeal.nD Cert.KernelIdeal.τ).loc Cert.KernelIdeal.main_v81_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_5) = v0 c
          ∧ r.2.mem ((c.tc : Thread Cert.KernelIdeal.nD Cert.KernelIdeal.τ).loc Cert.KernelIdeal.main_v81_6) = v1 c
          ∧ r.2.mem ((c.tc : Thread Cert.KernelIdeal.nD Cert.KernelIdeal.τ).loc Cert.KernelIdeal.main_v81_7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Experts_ExpertsIdeal : Prop :=
  True

def algebraic_ExpertsIdeal_BlocksIdeal [hExpertsIdeal : Cert.ExpertsIdeal.Facts] [hBlocksIdeal : Cert.BlocksIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.BlocksIdeal.nD Cert.BlocksIdeal.τ Cert.BlocksIdeal.sig) → Buf (Elt Ideal) ℓ) (g' : Dev Cert.BlocksIdeal.nD → PrngReg), Pre_ExpertsIdeal m →
    (∀ c : Dev Cert.ExpertsIdeal.nD,
      m' ((c.tc : Thread Cert.BlocksIdeal.nD Cert.BlocksIdeal.τ).loc Cert.BlocksIdeal.main_arg0) = m ((c.tc : Thread Cert.ExpertsIdeal.nD Cert.ExpertsIdeal.τ).loc Cert.ExpertsIdeal.main_arg0)
      ∧ m' ((c.tc : Thread Cert.BlocksIdeal.nD Cert.BlocksIdeal.τ).loc Cert.BlocksIdeal.main_arg1) = m ((c.tc : Thread Cert.ExpertsIdeal.nD Cert.ExpertsIdeal.τ).loc Cert.ExpertsIdeal.main_arg1)
      ∧ m' ((c.tc : Thread Cert.BlocksIdeal.nD Cert.BlocksIdeal.τ).loc Cert.BlocksIdeal.main_arg2) = m ((c.tc : Thread Cert.ExpertsIdeal.nD Cert.ExpertsIdeal.τ).loc Cert.ExpertsIdeal.main_arg2)
      ∧ m' ((c.tc : Thread Cert.BlocksIdeal.nD Cert.BlocksIdeal.τ).loc Cert.BlocksIdeal.main_arg3) = m ((c.tc : Thread Cert.ExpertsIdeal.nD Cert.ExpertsIdeal.τ).loc Cert.ExpertsIdeal.main_arg3)
      ∧ m' ((c.tc : Thread Cert.BlocksIdeal.nD Cert.BlocksIdeal.τ).loc Cert.BlocksIdeal.main_arg4) = m ((c.tc : Thread Cert.ExpertsIdeal.nD Cert.ExpertsIdeal.τ).loc Cert.ExpertsIdeal.main_arg4)
      ∧ m' ((c.tc : Thread Cert.BlocksIdeal.nD Cert.BlocksIdeal.τ).loc Cert.BlocksIdeal.main_arg5) = m ((c.tc : Thread Cert.ExpertsIdeal.nD Cert.ExpertsIdeal.τ).loc Cert.ExpertsIdeal.main_arg5)
      ∧ m' ((c.tc : Thread Cert.BlocksIdeal.nD Cert.BlocksIdeal.τ).loc Cert.BlocksIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v6)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v6) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.BlocksIdeal.defs (F := Ideal)) (onTc (τ := Cert.BlocksIdeal.τ) (Cert.BlocksIdeal.main (F := Ideal))) ⟨m', fun _ => 0, g'⟩ (fun r => ∀ c : Dev Cert.BlocksIdeal.nD,
          r.2.mem ((c.tc : Thread Cert.BlocksIdeal.nD Cert.BlocksIdeal.τ).loc Cert.BlocksIdeal.main_v105) = v0 c
          ∧ r.2.mem ((c.tc : Thread Cert.BlocksIdeal.nD Cert.BlocksIdeal.τ).loc Cert.BlocksIdeal.main_arg0) = m' ((c.tc : Thread Cert.BlocksIdeal.nD Cert.BlocksIdeal.τ).loc Cert.BlocksIdeal.main_arg0)
          ∧ r.2.mem ((c.tc : Thread Cert.BlocksIdeal.nD Cert.BlocksIdeal.τ).loc Cert.BlocksIdeal.main_arg1) = m' ((c.tc : Thread Cert.BlocksIdeal.nD Cert.BlocksIdeal.τ).loc Cert.BlocksIdeal.main_arg1)
          ∧ r.2.mem ((c.tc : Thread Cert.BlocksIdeal.nD Cert.BlocksIdeal.τ).loc Cert.BlocksIdeal.main_arg2) = m' ((c.tc : Thread Cert.BlocksIdeal.nD Cert.BlocksIdeal.τ).loc Cert.BlocksIdeal.main_arg2)
          ∧ r.2.mem ((c.tc : Thread Cert.BlocksIdeal.nD Cert.BlocksIdeal.τ).loc Cert.BlocksIdeal.main_arg3) = m' ((c.tc : Thread Cert.BlocksIdeal.nD Cert.BlocksIdeal.τ).loc Cert.BlocksIdeal.main_arg3)
          ∧ r.2.mem ((c.tc : Thread Cert.BlocksIdeal.nD Cert.BlocksIdeal.τ).loc Cert.BlocksIdeal.main_arg4) = m' ((c.tc : Thread Cert.BlocksIdeal.nD Cert.BlocksIdeal.τ).loc Cert.BlocksIdeal.main_arg4)
          ∧ r.2.mem ((c.tc : Thread Cert.BlocksIdeal.nD Cert.BlocksIdeal.τ).loc Cert.BlocksIdeal.main_arg5) = m' ((c.tc : Thread Cert.BlocksIdeal.nD Cert.BlocksIdeal.τ).loc Cert.BlocksIdeal.main_arg5)
          ∧ r.2.mem ((c.tc : Thread Cert.BlocksIdeal.nD Cert.BlocksIdeal.τ).loc Cert.BlocksIdeal.main_arg6) = m' ((c.tc : Thread Cert.BlocksIdeal.nD Cert.BlocksIdeal.τ).loc Cert.BlocksIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hBlocksIdeal : Cert.BlocksIdeal.Facts) (hPre_experts_in_range : Cert.Pre_experts_in_range.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_experts_in_range := hPre_experts_in_range)
    ∧ quiescent_ExpertsIdeal (hExpertsIdeal := hExpertsIdeal) (hPre_experts_in_range := hPre_experts_in_range)
    ∧ quiescent_BlocksIdeal (hBlocksIdeal := hBlocksIdeal) (hPre_experts_in_range := hPre_experts_in_range)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_BlocksIdeal (hExpertsIdeal := hExpertsIdeal) (hBlocksIdeal := hBlocksIdeal) (hPre_experts_in_range := hPre_experts_in_range)
-- ==== Pre_experts_in_range.lean ====
abbrev S154 : Shape := ⟨1, ![154]⟩
abbrev S1 : Shape := ⟨1, ![1]⟩
abbrev S335104x128 : Shape := ⟨2, ![335104, 128]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩

class Facts : Prop where
  bcast_S_S154 : S_.BroadcastsInDim S154 (![] : Fin 0 → Fin S154.rank)
  bcast_S_S1 : S_.BroadcastsInDim S1 (![] : Fin 0 → Fin S1.rank)
  bcast_S1_S154_0 : S1.BroadcastsInDim S154 (![0] : Fin 1 → Fin S154.rank)

variable [Facts]

def fn {F : FTy → Type} [FloatOps F] (main_arg0 : IVec S154 32) (main_arg1 : IVec S1 32) (main_arg2 : IVec S335104x128 32) (main_arg3 : FVec F S1x32x1024x2048 .f32) (main_arg4 : FVec F S1x32x2048 .f32) (main_arg5 : FVec F S1x32x1024x1024 .f32) (main_arg6 : FVec F S1x32x1024 .f32) : IVec S154 1 :=
  let main_c : IVec S_ 32 := constantI S_ 32 0#32
  let main_v0 : IVec S154 32 := broadcastInDim S154 ![] bcast_S_S154 main_c
  let main_v1 : IVec S154 1 := cmpi .sge main_arg0 main_v0
  let main_c_0 : IVec S_ 32 := constantI S_ 32 32#32
  let main_v2 : IVec S154 32 := broadcastInDim S154 ![] bcast_S_S154 main_c_0
  let main_v3 : IVec S154 1 := cmpi .slt main_arg0 main_v2
  let main_v4 : IVec S154 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S154 1 := broadcastInDim S154 ![0] bcast_S1_S154_0 main_v6
  let main_v8 : IVec S154 1 := andi main_v4 main_v7
  main_v8
-- ==== Kernel.lean ====
abbrev S128x1x1024 : Shape := ⟨3, ![128, 1, 1024]⟩
abbrev S1x128x4x64x128 : Shape := ⟨5, ![1, 128, 4, 64, 128]⟩
abbrev S1x128x128x2x64 : Shape := ⟨5, ![1, 128, 128, 2, 64]⟩
abbrev S32x8 : Shape := ⟨2, ![32, 8]⟩
abbrev S32x128 : Shape := ⟨2, ![32, 128]⟩
abbrev S1x1024 : Shape := ⟨2, ![1, 1024]⟩
abbrev S1x1024x2320 : Shape := ⟨3, ![1, 1024, 2320]⟩
abbrev S1x16x256 : Shape := ⟨3, ![1, 16, 256]⟩
abbrev S1x256 : Shape := ⟨2, ![1, 256]⟩
abbrev S1x128 : Shape := ⟨2, ![1, 128]⟩
abbrev S1x512 : Shape := ⟨2, ![1, 512]⟩
abbrev S1x8 : Shape := ⟨2, ![1, 8]⟩
abbrev S1x1024x1024 : Shape := ⟨3, ![1, 1024, 1024]⟩
abbrev S1x1024x32 : Shape := ⟨3, ![1, 1024, 32]⟩
abbrev S1x32 : Shape := ⟨2, ![1, 32]⟩
abbrev S1024x2320 : Shape := ⟨2, ![1024, 2320]⟩
abbrev S1024x256 : Shape := ⟨2, ![1024, 256]⟩
abbrev S1024x512 : Shape := ⟨2, ![1024, 512]⟩
abbrev S1024x16 : Shape := ⟨2, ![1024, 16]⟩
abbrev S1024x128 : Shape := ⟨2, ![1024, 128]⟩
abbrev S_ : Shape := ⟨0, ![]⟩
abbrev S1024x112 : Shape := ⟨2, ![1024, 112]⟩
abbrev S1024x2432 : Shape := ⟨2, ![1024, 2432]⟩
abbrev S16x256 : Shape := ⟨2, ![16, 256]⟩
abbrev S112x256 : Shape := ⟨2, ![112, 256]⟩
abbrev S128x256 : Shape := ⟨2, ![128, 256]⟩
abbrev S1024x32 : Shape := ⟨2, ![1024, 32]⟩
abbrev S32x1024 : Shape := ⟨2, ![32, 1024]⟩
abbrev S32 : Shape := ⟨1, ![32]⟩
abbrev S128 : Shape := ⟨1, ![128]⟩
abbrev S128x1 : Shape := ⟨2, ![128, 1]⟩
abbrev S128x32 : Shape := ⟨2, ![128, 32]⟩
abbrev S8x128 : Shape := ⟨2, ![8, 128]⟩
abbrev S16x128 : Shape := ⟨2, ![16, 128]⟩
abbrev S8 : Shape := ⟨1, ![8]⟩
abbrev S1024 : Shape := ⟨1, ![1024]⟩
abbrev S256 : Shape := ⟨1, ![256]⟩
abbrev S512 : Shape := ⟨1, ![512]⟩
abbrev S1024x1024 : Shape := ⟨2, ![1024, 1024]⟩
abbrev S64x1024 : Shape := ⟨2, ![64, 1024]⟩
abbrev S32x1 : Shape := ⟨2, ![32, 1]⟩
abbrev S128x1024 : Shape := ⟨2, ![128, 1024]⟩
abbrev S128x4x64x128 : Shape := ⟨4, ![128, 4, 64, 128]⟩
abbrev S128x128x2x64 : Shape := ⟨4, ![128, 128, 2, 64]⟩
abbrev S128x128x128 : Shape := ⟨3, ![128, 128, 128]⟩
abbrev S512x128 : Shape := ⟨2, ![512, 128]⟩
abbrev S16x4x64x128 : Shape := ⟨4, ![16, 4, 64, 128]⟩
abbrev S16x128x128 : Shape := ⟨3, ![16, 128, 128]⟩
abbrev S1280x128 : Shape := ⟨2, ![1280, 128]⟩
abbrev S128x512 : Shape := ⟨2, ![128, 512]⟩
abbrev S128x128 : Shape := ⟨2, ![128, 128]⟩
abbrev S128x768 : Shape := ⟨2, ![128, 768]⟩
abbrev S256x128 : Shape := ⟨2, ![256, 128]⟩
abbrev S16x512 : Shape := ⟨2, ![16, 512]⟩
abbrev S1 : Shape := ⟨1, ![1]⟩
abbrev S1x1 : Shape := ⟨2, ![1, 1]⟩
abbrev S8x1 : Shape := ⟨2, ![8, 1]⟩
abbrev S16x1 : Shape := ⟨2, ![16, 1]⟩
abbrev S1x4x64x128 : Shape := ⟨4, ![1, 4, 64, 128]⟩
abbrev S4x64x128 : Shape := ⟨3, ![4, 64, 128]⟩
abbrev S64x128 : Shape := ⟨2, ![64, 128]⟩
abbrev S1x128x128 : Shape := ⟨3, ![1, 128, 128]⟩
abbrev S16 : Shape := ⟨1, ![16]⟩
abbrev S512x1024 : Shape := ⟨2, ![512, 1024]⟩
abbrev S4x128 : Shape := ⟨2, ![4, 128]⟩

abbrev nBuf : Space → Nat
  | .hbm => 121
  | .vmem => 39
  | .smem => 1
  | _ => 0

abbrev bufTy : (tb : Table) → Fin (tcTables nBuf tb) → BufTy
  | .hbm, ⟨0, _⟩ => ⟨S128x1x1024, .f32⟩
  | .hbm, ⟨1, _⟩ => ⟨S1x128x4x64x128, .f32⟩
  | .hbm, ⟨2, _⟩ => ⟨S1x128x128x2x64, .f32⟩
  | .hbm, ⟨3, _⟩ => ⟨S1x128x128x2x64, .f32⟩
  | .hbm, ⟨4, _⟩ => ⟨S32x8, .f32⟩
  | .hbm, ⟨5, _⟩ => ⟨S32x128, .f32⟩
  | .hbm, ⟨6, _⟩ => ⟨S1x1024, .f32⟩
  | .hbm, ⟨7, _⟩ => ⟨S1x1024x2320, .f32⟩
  | .hbm, ⟨8, _⟩ => ⟨S1x16x256, .f32⟩
  | .hbm, ⟨9, _⟩ => ⟨S1x256, .f32⟩
  | .hbm, ⟨10, _⟩ => ⟨S1x128, .f32⟩
  | .hbm, ⟨11, _⟩ => ⟨S1x512, .f32⟩
  | .hbm, ⟨12, _⟩ => ⟨S1x8, .f32⟩
  | .hbm, ⟨13, _⟩ => ⟨S1x1024x1024, .f32⟩
  | .hbm, ⟨14, _⟩ => ⟨S1x1024, .f32⟩
  | .hbm, ⟨15, _⟩ => ⟨S1x1024x32, .f32⟩
  | .hbm, ⟨16, _⟩ => ⟨S1x32, .f32⟩
  | .hbm, ⟨17, _⟩ => ⟨S1024x2320, .f32⟩
  | .hbm, ⟨18, _⟩ => ⟨S1024x256, .f32⟩
  | .hbm, ⟨19, _⟩ => ⟨S1024x256, .f32⟩
  | .hbm, ⟨20, _⟩ => ⟨S1024x512, .f32⟩
  | .hbm, ⟨21, _⟩ => ⟨S1024x512, .f32⟩
  | .hbm, ⟨22, _⟩ => ⟨S1024x16, .f32⟩
  | .hbm, ⟨23, _⟩ => ⟨S1024x512, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x112, .f32⟩
  | .hbm, ⟨34, _⟩ => ⟨S1024x2432, .f32⟩
  | .hbm, ⟨35, _⟩ => ⟨S1024x2432, .bf16⟩
  | .hbm, ⟨36, _⟩ => ⟨S16x256, .f32⟩
  | .hbm, ⟨37, _⟩ => ⟨S_, .f32⟩
  | .hbm, ⟨38, _⟩ => ⟨S112x256, .f32⟩
  | .hbm, ⟨39, _⟩ => ⟨S128x256, .f32⟩
  | .hbm, ⟨40, _⟩ => ⟨S128x256, .bf16⟩
  | .hbm, ⟨41, _⟩ => ⟨S1024x32, .f32⟩
  | .hbm, ⟨42, _⟩ => ⟨S32x1024, .f32⟩
  | .hbm, ⟨43, _⟩ => ⟨S32x1024, .bf16⟩
  | .hbm, ⟨44, _⟩ => ⟨S32x1024, .f32⟩
  | .hbm, ⟨45, _⟩ => ⟨S32x1024, .f32⟩
  | .hbm, ⟨46, _⟩ => ⟨S32x1024, .bf16⟩
  | .hbm, ⟨47, _⟩ => ⟨S32, .i32⟩
  | .hbm, ⟨48, _⟩ => ⟨S128, .i32⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128, .i32⟩
  | .hbm, ⟨70, _⟩ => ⟨S_, .i32⟩
  | .hbm, ⟨71, _⟩ => ⟨S128, .i32⟩
  | .hbm, ⟨72, _⟩ => ⟨S128, .i32⟩
  | .hbm, ⟨73, _⟩ => ⟨S_, .i32⟩
  | .hbm, ⟨74, _⟩ => ⟨S128, .i32⟩
  | .hbm, ⟨75, _⟩ => ⟨S128, .i32⟩
  | .hbm, ⟨76, _⟩ => ⟨S_, .i32⟩
  | .hbm, ⟨77, _⟩ => ⟨S128, .i32⟩
  | .hbm, ⟨78, _⟩ => ⟨S128, .i1⟩
  | .hbm, ⟨79, _⟩ => ⟨S128, .i32⟩
  | .hbm, ⟨80, _⟩ => ⟨S128x1, .i32⟩
  | .hbm, ⟨81, _⟩ => ⟨S1x32, .i32⟩
  | .hbm, ⟨82, _⟩ => ⟨S128x32, .i32⟩
  | .hbm, ⟨83, _⟩ => ⟨S128x32, .i32⟩
  | .hbm, ⟨84, _⟩ => ⟨S128x32, .i1⟩
  | .hbm, ⟨85, _⟩ => ⟨S128x32, .f32⟩
  | .hbm, ⟨86, _⟩ => ⟨S8x128, .f32⟩
  | .hbm, ⟨87, _⟩ => ⟨S_, .f32⟩
  | .hbm, ⟨88, _⟩ => ⟨S8x128, .f32⟩
  | .hbm, ⟨89, _⟩ => ⟨S16x128, .f32⟩
  | .hbm, ⟨90, _⟩ => ⟨S8, .f32⟩
  | .hbm, ⟨91, _⟩ => ⟨S1024, .f32⟩
  | .hbm, ⟨92, _⟩ => ⟨S1x1024, .f32⟩
  | .hbm, ⟨93, _⟩ => ⟨S256, .f32⟩
  | .hbm, ⟨94, _⟩ => ⟨S1x256, .f32⟩
  | .hbm, ⟨95, _⟩ => ⟨S128, .f32⟩
  | .hbm, ⟨96, _⟩ => ⟨S1x128, .f32⟩
  | .hbm, ⟨97, _⟩ => ⟨S512, .f32⟩
  | .hbm, ⟨98, _⟩ => ⟨S1x512, .f32⟩
  | .hbm, ⟨99, _⟩ => ⟨S1024x1024, .f32⟩
  | .hbm, ⟨100, _⟩ => ⟨S1024x1024, .bf16⟩
  | .hbm, ⟨101, _⟩ => ⟨S1024, .f32⟩
  | .hbm, ⟨102, _⟩ => ⟨S1x1024, .f32⟩
  | .hbm, ⟨103, _⟩ => ⟨S64x1024, .bf16⟩
  | .hbm, ⟨104, _⟩ => ⟨S32, .f32⟩
  | .hbm, ⟨105, _⟩ => ⟨S32x1, .f32⟩
  | .hbm, ⟨106, _⟩ => ⟨S128x1024, .f32⟩
  | .hbm, ⟨107, _⟩ => ⟨S128x4x64x128, .f32⟩
  | .hbm, ⟨108, _⟩ => ⟨S128x128x2x64, .f32⟩
  | .hbm, ⟨109, _⟩ => ⟨S128x128x128, .f32⟩
  | .hbm, ⟨110, _⟩ => ⟨S128x128x2x64, .f32⟩
  | .hbm, ⟨111, _⟩ => ⟨S128x128x128, .f32⟩
  | .hbm, ⟨112, _⟩ => ⟨S128x1024, .f32⟩
  | .hbm, ⟨113, _⟩ => ⟨S512x128, .i32⟩
  | .hbm, ⟨114, _⟩ => ⟨S8x128, .i32⟩
  | .hbm, ⟨115, _⟩ => ⟨S8x128, .f32⟩
  | .hbm, ⟨116, _⟩ => ⟨S8x128, .i32⟩
  | .hbm, ⟨117, _⟩ => ⟨S128x4x64x128, .f32⟩
  | .hbm, ⟨118, _⟩ => ⟨S128x128x128, .f32⟩
  | .hbm, ⟨119, _⟩ => ⟨S128x128x128, .f32⟩
  | .hbm, ⟨120, _⟩ => ⟨S32x128, .f32⟩
  | .local _ .vmem, ⟨0, _⟩ => ⟨S128x1024, .f32⟩
  | .local _ .vmem, ⟨1, _⟩ => ⟨S16x4x64x128, .f32⟩
  | .local _ .vmem, ⟨2, _⟩ => ⟨S16x4x64x128, .f32⟩
  | .local _ .vmem, ⟨3, _⟩ => ⟨S16x128x128, .f32⟩
  | .local _ .vmem, ⟨4, _⟩ => ⟨S16x128x128, .f32⟩
  | .local _ .vmem, ⟨5, _⟩ => ⟨S16x128x128, .f32⟩
  | .local _ .vmem, ⟨6, _⟩ => ⟨S16x128x128, .f32⟩
  | .local _ .vmem, ⟨7, _⟩ => ⟨S32x128, .f32⟩
  | .local _ .vmem, ⟨8, _⟩ => ⟨S16x128, .f32⟩
  | .local _ .vmem, ⟨9, _⟩ => ⟨S1x1024, .f32⟩
  | .local _ .vmem, ⟨10, _⟩ => ⟨S1024x2432, .bf16⟩
  | .local _ .vmem, ⟨11, _⟩ => ⟨S128x256, .bf16⟩
  | .local _ .vmem, ⟨12, _⟩ => ⟨S1x256, .f32⟩
  | .local _ .vmem, ⟨13, _⟩ => ⟨S1x128, .f32⟩
  | .local _ .vmem, ⟨14, _⟩ => ⟨S1x512, .f32⟩
  | .local _ .vmem, ⟨15, _⟩ => ⟨S1024x1024, .bf16⟩
  | .local _ .vmem, ⟨16, _⟩ => ⟨S1x1024, .f32⟩
  | .local _ .vmem, ⟨17, _⟩ => ⟨S64x1024, .bf16⟩
  | .local _ .vmem, ⟨18, _⟩ => ⟨S32x1, .f32⟩
  | .local _ .vmem, ⟨19, _⟩ => ⟨S128x1024, .f32⟩
  | .local _ .vmem, ⟨20, _⟩ => ⟨S512x128, .i32⟩
  | .local _ .vmem, ⟨21, _⟩ => ⟨S8x128, .i32⟩
  | .local _ .vmem, ⟨22, _⟩ => ⟨S8x128, .f32⟩
  | .local _ .vmem, ⟨23, _⟩ => ⟨S8x128, .i32⟩
  | .local _ .vmem, ⟨24, _⟩ => ⟨S16x4x64x128, .f32⟩
  | .local _ .vmem, ⟨25, _⟩ => ⟨S16x4x64x128, .f32⟩
  | .local _ .vmem, ⟨26, _⟩ => ⟨S16x128x128, .f32⟩
  | .local _ .vmem, ⟨27, _⟩ => ⟨S16x128x128, .f32⟩
  | .local _ .vmem, ⟨28, _⟩ => ⟨S16x128x128, .f32⟩
  | .local _ .vmem, ⟨29, _⟩ => ⟨S16x128x128, .f32⟩
  | .local _ .vmem, ⟨30, _⟩ => ⟨S32x128, .f32⟩
  | .local _ .vmem, ⟨31, _⟩ => ⟨S1280x128, .bf16⟩
  | .local _ .vmem, ⟨32, _⟩ => ⟨S128x512, .f32⟩
  | .local _ .vmem, ⟨33, _⟩ => ⟨S128x512, .f32⟩
  | .local _ .vmem, ⟨34, _⟩ => ⟨S128x512, .f32⟩
  | .local _ .vmem, ⟨35, _⟩ => ⟨S128x128, .f32⟩
  | .local _ .vmem, ⟨36, _⟩ => ⟨S128x128, .f32⟩
  | .local _ .vmem, ⟨37, _⟩ => ⟨S128x512, .f32⟩
  | .local _ .vmem, ⟨38, _⟩ => ⟨S128x512, .f32⟩
  | .local _ .smem, ⟨0, _⟩ => ⟨S8, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_v29 : Ref sig .tc := ⟨.hbm, 51, rfl⟩
abbrev main_c_3 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_v43 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_c_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81_0 : Ref sig .tc := ⟨.hbm, 112, rfl⟩
abbrev main_v81_1 : Ref sig .tc := ⟨.hbm, 113, rfl⟩
abbrev main_v81_2 : Ref sig .tc := ⟨.hbm, 114, rfl⟩
abbrev main_v81_3 : Ref sig .tc := ⟨.hbm, 115, rfl⟩
abbrev main_v81_4 : Ref sig .tc := ⟨.hbm, 116, rfl⟩
abbrev main_v81_5 : Ref sig .tc := ⟨.hbm, 117, rfl⟩
abbrev main_v81_6 : Ref sig .tc := ⟨.hbm, 118, rfl⟩
abbrev main_v81_7 : Ref sig .tc := ⟨.hbm, 119, rfl⟩
abbrev main_v81_8 : Ref sig .tc := ⟨.hbm, 120, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg22_1 : Ref sig .tc := ⟨.vmem, 25, rfl⟩
abbrev cc0_stg23_0 : Ref sig .tc := ⟨.vmem, 26, rfl⟩
abbrev cc0_stg23_1 : Ref sig .tc := ⟨.vmem, 27, rfl⟩
abbrev cc0_stg24_0 : Ref sig .tc := ⟨.vmem, 28, rfl⟩
abbrev cc0_stg24_1 : Ref sig .tc := ⟨.vmem, 29, rfl⟩
abbrev cc0_stg25_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem22_1 : DmaSem sig := 26
abbrev cc0_sem23_0 : DmaSem sig := 27
abbrev cc0_sem23_1 : DmaSem sig := 28
abbrev cc0_sem24_0 : DmaSem sig := 29
abbrev cc0_sem24_1 : DmaSem sig := 30
abbrev cc0_sem25_0 : DmaSem sig := 31

abbrev nD : Nat := 1
abbrev τ : Topo := Topo.v7x

variable {F : FTy → Type} [BitOps F]

abbrev grid0 : Pipeline.Grid := ⟨1, ![8], ![false]⟩

@[reducible] def k0_t1_loop : Scf.Loop 32 :=
  let c0_i32_7 : BitVec 32 := 0#32
  let c16_i32 : BitVec 32 := 16#32
  let v53 : BitVec 32 := Scalar.addi c0_i32_7 c16_i32
  let c1_i32_8 : BitVec 32 := 1#32
  ⟨c0_i32_7, v53, c1_i32_8⟩
def k0_off1 (k0_t1 : Fin k0_t1_loop.trips) : Fin 4 → Nat :=
  let c0_i32_7 : BitVec 32 := 0#32
  let c1_i32_8 : BitVec 32 := 1#32
  let arg35 : BitVec 32 := Scf.iv c0_i32_7 c1_i32_8 k0_t1
  let v73 : Index := Scalar.indexCast arg35
  let c0_15 : Index := 0#32
  let c0_16 : Index := 0#32
  let c0_17 : Index := 0#32
  ![v73.toNat, 0, 0, 0]
def k0_off2 (i : grid0.Coords) (k0_t1 : Fin k0_t1_loop.trips) : Fin 2 → Nat :=
  let arg0 : BitVec 32 := BitVec.ofNat 32 (i 0).val
  let c16_i32_11 : BitVec 32 := 16#32
  let v57 : BitVec 32 := Scalar.muli arg0 c16_i32_11
  let c0_i32_7 : BitVec 32 := 0#32
  let c1_i32_8 : BitVec 32 := 1#32
  let arg35 : BitVec 32 := Scf.iv c0_i32_7 c1_i32_8 k0_t1
  let v58 : BitVec 32 := Scalar.addi v57 arg35
  let v77 : Index := Scalar.indexCast v58
  let c0_18 : Index := 0#32
  ![v77.toNat, 0]
def k0_off3 (i : grid0.Coords) (k0_t1 : Fin k0_t1_loop.trips) : Fin 2 → Nat :=
  let arg0 : BitVec 32 := BitVec.ofNat 32 (i 0).val
  let c16_i32_11 : BitVec 32 := 16#32
  let v57 : BitVec 32 := Scalar.muli arg0 c16_i32_11
  let c0_i32_7 : BitVec 32 := 0#32
  let c1_i32_8 : BitVec 32 := 1#32
  let arg35 : BitVec 32 := Scf.iv c0_i32_7 c1_i32_8 k0_t1
  let v58 : BitVec 32 := Scalar.addi v57 arg35
  let v118 : Index := Scalar.indexCast v58
  let c0_27 : Index := 0#32
  ![v118.toNat, 0]
def k0_off4 (k0_t1 : Fin k0_t1_loop.trips) : Fin 3 → Nat :=
  let c0_i32_7 : BitVec 32 := 0#32
  let c1_i32_8 : BitVec 32 := 1#32
  let arg35 : BitVec 32 := Scf.iv c0_i32_7 c1_i32_8 k0_t1
  let v124 : Index := Scalar.indexCast arg35
  let c0_29 : Index := 0#32
  let c0_30 : Index := 0#32
  ![v124.toNat, 0, 0]
def k0_cond2 (i : grid0.Coords) : BitVec 1 :=
  let arg0 : BitVec 32 := BitVec.ofNat 32 (i 0).val
  let c7_i32 : BitVec 32 := 7#32
  let v54 : BitVec 1 := Scalar.cmpi .eq arg0 c7_i32
  let v55 : BitVec 32 := Scalar.extui v54
  let c0_i32_10 : BitVec 32 := 0#32
  let v56 : BitVec 1 := Scalar.cmpi .ne v55 c0_i32_10
  v56

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x4x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2432 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x128 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x128 .i32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S16x4x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S16x128x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S16x128x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S32x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== KernelIdeal.lean ====
abbrev S128x1x1024 : Shape := ⟨3, ![128, 1, 1024]⟩
abbrev S1x128x4x64x128 : Shape := ⟨5, ![1, 128, 4, 64, 128]⟩
abbrev S1x128x128x2x64 : Shape := ⟨5, ![1, 128, 128, 2, 64]⟩
abbrev S32x8 : Shape := ⟨2, ![32, 8]⟩
abbrev S32x128 : Shape := ⟨2, ![32, 128]⟩
abbrev S1x1024 : Shape := ⟨2, ![1, 1024]⟩
abbrev S1x1024x2320 : Shape := ⟨3, ![1, 1024, 2320]⟩
abbrev S1x16x256 : Shape := ⟨3, ![1, 16, 256]⟩
abbrev S1x256 : Shape := ⟨2, ![1, 256]⟩
abbrev S1x128 : Shape := ⟨2, ![1, 128]⟩
abbrev S1x512 : Shape := ⟨2, ![1, 512]⟩
abbrev S1x8 : Shape := ⟨2, ![1, 8]⟩
abbrev S1x1024x1024 : Shape := ⟨3, ![1, 1024, 1024]⟩
abbrev S1x1024x32 : Shape := ⟨3, ![1, 1024, 32]⟩
abbrev S1x32 : Shape := ⟨2, ![1, 32]⟩
abbrev S1024x2320 : Shape := ⟨2, ![1024, 2320]⟩
abbrev S1024x256 : Shape := ⟨2, ![1024, 256]⟩
abbrev S1024x512 : Shape := ⟨2, ![1024, 512]⟩
abbrev S1024x16 : Shape := ⟨2, ![1024, 16]⟩
abbrev S1024x128 : Shape := ⟨2, ![1024, 128]⟩
abbrev S_ : Shape := ⟨0, ![]⟩
abbrev S1024x112 : Shape := ⟨2, ![1024, 112]⟩
abbrev S1024x2432 : Shape := ⟨2, ![1024, 2432]⟩
abbrev S16x256 : Shape := ⟨2, ![16, 256]⟩
abbrev S112x256 : Shape := ⟨2, ![112, 256]⟩
abbrev S128x256 : Shape := ⟨2, ![128, 256]⟩
abbrev S1024x32 : Shape := ⟨2, ![1024, 32]⟩
abbrev S32x1024 : Shape := ⟨2, ![32, 1024]⟩
abbrev S32 : Shape := ⟨1, ![32]⟩
abbrev S128 : Shape := ⟨1, ![128]⟩
abbrev S128x1 : Shape := ⟨2, ![128, 1]⟩
abbrev S128x32 : Shape := ⟨2, ![128, 32]⟩
abbrev S8x128 : Shape := ⟨2, ![8, 128]⟩
abbrev S16x128 : Shape := ⟨2, ![16, 128]⟩
abbrev S8 : Shape := ⟨1, ![8]⟩
abbrev S1024 : Shape := ⟨1, ![1024]⟩
abbrev S256 : Shape := ⟨1, ![256]⟩
abbrev S512 : Shape := ⟨1, ![512]⟩
abbrev S1024x1024 : Shape := ⟨2, ![1024, 1024]⟩
abbrev S64x1024 : Shape := ⟨2, ![64, 1024]⟩
abbrev S32x1 : Shape := ⟨2, ![32, 1]⟩
abbrev S128x1024 : Shape := ⟨2, ![128, 1024]⟩
abbrev S128x4x64x128 : Shape := ⟨4, ![128, 4, 64, 128]⟩
abbrev S128x128x2x64 : Shape := ⟨4, ![128, 128, 2, 64]⟩
abbrev S128x128x128 : Shape := ⟨3, ![128, 128, 128]⟩
abbrev S512x2x128 : Shape := ⟨3, ![512, 2, 128]⟩
abbrev S512x1x128 : Shape := ⟨3, ![512, 1, 128]⟩
abbrev S512x128 : Shape := ⟨2, ![512, 128]⟩
abbrev S16x4x64x128 : Shape := ⟨4, ![16, 4, 64, 128]⟩
abbrev S16x128x128 : Shape := ⟨3, ![16, 128, 128]⟩
abbrev S1280x128 : Shape := ⟨2, ![1280, 128]⟩
abbrev S128x512 : Shape := ⟨2, ![128, 512]⟩
abbrev S128x128 : Shape := ⟨2, ![128, 128]⟩
abbrev S128x768 : Shape := ⟨2, ![128, 768]⟩
abbrev S256x128 : Shape := ⟨2, ![256, 128]⟩
abbrev S16x512 : Shape := ⟨2, ![16, 512]⟩
abbrev S1 : Shape := ⟨1, ![1]⟩
abbrev S1x1 : Shape := ⟨2, ![1, 1]⟩
abbrev S8x1 : Shape := ⟨2, ![8, 1]⟩
abbrev S16x1 : Shape := ⟨2, ![16, 1]⟩
abbrev S1x4x64x128 : Shape := ⟨4, ![1, 4, 64, 128]⟩
abbrev S4x64x128 : Shape := ⟨3, ![4, 64, 128]⟩
abbrev S64x128 : Shape := ⟨2, ![64, 128]⟩
abbrev S1x128x128 : Shape := ⟨3, ![1, 128, 128]⟩
abbrev S16 : Shape := ⟨1, ![16]⟩
abbrev S512x1024 : Shape := ⟨2, ![512, 1024]⟩
abbrev S4x128 : Shape := ⟨2, ![4, 128]⟩
abbrev S128x2x128 : Shape := ⟨3, ![128, 2, 128]⟩
abbrev S128x1x128 : Shape := ⟨3, ![128, 1, 128]⟩

abbrev nBuf : Space → Nat
  | .hbm => 121
  | .vmem => 39
  | .smem => 1
  | _ => 0

abbrev bufTy : (tb : Table) → Fin (tcTables nBuf tb) → BufTy
  | .hbm, ⟨0, _⟩ => ⟨S128x1x1024, .f32⟩
  | .hbm, ⟨1, _⟩ => ⟨S1x128x4x64x128, .f32⟩
  | .hbm, ⟨2, _⟩ => ⟨S1x128x128x2x64, .f32⟩
  | .hbm, ⟨3, _⟩ => ⟨S1x128x128x2x64, .f32⟩
  | .hbm, ⟨4, _⟩ => ⟨S32x8, .f32⟩
  | .hbm, ⟨5, _⟩ => ⟨S32x128, .f32⟩
  | .hbm, ⟨6, _⟩ => ⟨S1x1024, .f32⟩
  | .hbm, ⟨7, _⟩ => ⟨S1x1024x2320, .f32⟩
  | .hbm, ⟨8, _⟩ => ⟨S1x16x256, .f32⟩
  | .hbm, ⟨9, _⟩ => ⟨S1x256, .f32⟩
  | .hbm, ⟨10, _⟩ => ⟨S1x128, .f32⟩
  | .hbm, ⟨11, _⟩ => ⟨S1x512, .f32⟩
  | .hbm, ⟨12, _⟩ => ⟨S1x8, .f32⟩
  | .hbm, ⟨13, _⟩ => ⟨S1x1024x1024, .f32⟩
  | .hbm, ⟨14, _⟩ => ⟨S1x1024, .f32⟩
  | .hbm, ⟨15, _⟩ => ⟨S1x1024x32, .f32⟩
  | .hbm, ⟨16, _⟩ => ⟨S1x32, .f32⟩
  | .hbm, ⟨17, _⟩ => ⟨S1024x2320, .f32⟩
  | .hbm, ⟨18, _⟩ => ⟨S1024x256, .f32⟩
  | .hbm, ⟨19, _⟩ => ⟨S1024x256, .f32⟩
  | .hbm, ⟨20, _⟩ => ⟨S1024x512, .f32⟩
  | .hbm, ⟨21, _⟩ => ⟨S1024x512, .f32⟩
  | .hbm, ⟨22, _⟩ => ⟨S1024x16, .f32⟩
  | .hbm, ⟨23, _⟩ => ⟨S1024x512, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x112, .f32⟩
  | .hbm, ⟨34, _⟩ => ⟨S1024x2432, .f32⟩
  | .hbm, ⟨35, _⟩ => ⟨S1024x2432, .bf16⟩
  | .hbm, ⟨36, _⟩ => ⟨S16x256, .f32⟩
  | .hbm, ⟨37, _⟩ => ⟨S_, .f32⟩
  | .hbm, ⟨38, _⟩ => ⟨S112x256, .f32⟩
  | .hbm, ⟨39, _⟩ => ⟨S128x256, .f32⟩
  | .hbm, ⟨40, _⟩ => ⟨S128x256, .bf16⟩
  | .hbm, ⟨41, _⟩ => ⟨S1024x32, .f32⟩
  | .hbm, ⟨42, _⟩ => ⟨S32x1024, .f32⟩
  | .hbm, ⟨43, _⟩ => ⟨S32x1024, .bf16⟩
  | .hbm, ⟨44, _⟩ => ⟨S32x1024, .f32⟩
  | .hbm, ⟨45, _⟩ => ⟨S32x1024, .f32⟩
  | .hbm, ⟨46, _⟩ => ⟨S32x1024, .bf16⟩
  | .hbm, ⟨47, _⟩ => ⟨S32, .i32⟩
  | .hbm, ⟨48, _⟩ => ⟨S128, .i32⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128, .i32⟩
  | .hbm, ⟨70, _⟩ => ⟨S_, .i32⟩
  | .hbm, ⟨71, _⟩ => ⟨S128, .i32⟩
  | .hbm, ⟨72, _⟩ => ⟨S128, .i32⟩
  | .hbm, ⟨73, _⟩ => ⟨S_, .i32⟩
  | .hbm, ⟨74, _⟩ => ⟨S128, .i32⟩
  | .hbm, ⟨75, _⟩ => ⟨S128, .i32⟩
  | .hbm, ⟨76, _⟩ => ⟨S_, .i32⟩
  | .hbm, ⟨77, _⟩ => ⟨S128, .i32⟩
  | .hbm, ⟨78, _⟩ => ⟨S128, .i1⟩
  | .hbm, ⟨79, _⟩ => ⟨S128, .i32⟩
  | .hbm, ⟨80, _⟩ => ⟨S128x1, .i32⟩
  | .hbm, ⟨81, _⟩ => ⟨S1x32, .i32⟩
  | .hbm, ⟨82, _⟩ => ⟨S128x32, .i32⟩
  | .hbm, ⟨83, _⟩ => ⟨S128x32, .i32⟩
  | .hbm, ⟨84, _⟩ => ⟨S128x32, .i1⟩
  | .hbm, ⟨85, _⟩ => ⟨S128x32, .f32⟩
  | .hbm, ⟨86, _⟩ => ⟨S8x128, .f32⟩
  | .hbm, ⟨87, _⟩ => ⟨S_, .f32⟩
  | .hbm, ⟨88, _⟩ => ⟨S8x128, .f32⟩
  | .hbm, ⟨89, _⟩ => ⟨S16x128, .f32⟩
  | .hbm, ⟨90, _⟩ => ⟨S8, .f32⟩
  | .hbm, ⟨91, _⟩ => ⟨S1024, .f32⟩
  | .hbm, ⟨92, _⟩ => ⟨S1x1024, .f32⟩
  | .hbm, ⟨93, _⟩ => ⟨S256, .f32⟩
  | .hbm, ⟨94, _⟩ => ⟨S1x256, .f32⟩
  | .hbm, ⟨95, _⟩ => ⟨S128, .f32⟩
  | .hbm, ⟨96, _⟩ => ⟨S1x128, .f32⟩
  | .hbm, ⟨97, _⟩ => ⟨S512, .f32⟩
  | .hbm, ⟨98, _⟩ => ⟨S1x512, .f32⟩
  | .hbm, ⟨99, _⟩ => ⟨S1024x1024, .f32⟩
  | .hbm, ⟨100, _⟩ => ⟨S1024x1024, .bf16⟩
  | .hbm, ⟨101, _⟩ => ⟨S1024, .f32⟩
  | .hbm, ⟨102, _⟩ => ⟨S1x1024, .f32⟩
  | .hbm, ⟨103, _⟩ => ⟨S64x1024, .bf16⟩
  | .hbm, ⟨104, _⟩ => ⟨S32, .f32⟩
  | .hbm, ⟨105, _⟩ => ⟨S32x1, .f32⟩
  | .hbm, ⟨106, _⟩ => ⟨S128x1024, .f32⟩
  | .hbm, ⟨107, _⟩ => ⟨S128x4x64x128, .f32⟩
  | .hbm, ⟨108, _⟩ => ⟨S128x128x2x64, .f32⟩
  | .hbm, ⟨109, _⟩ => ⟨S128x128x128, .f32⟩
  | .hbm, ⟨110, _⟩ => ⟨S128x128x2x64, .f32⟩
  | .hbm, ⟨111, _⟩ => ⟨S128x128x128, .f32⟩
  | .hbm, ⟨112, _⟩ => ⟨S128x1024, .f32⟩
  | .hbm, ⟨113, _⟩ => ⟨S512x2x128, .bf16⟩
  | .hbm, ⟨114, _⟩ => ⟨S8x128, .i32⟩
  | .hbm, ⟨115, _⟩ => ⟨S8x128, .f32⟩
  | .hbm, ⟨116, _⟩ => ⟨S8x128, .i32⟩
  | .hbm, ⟨117, _⟩ => ⟨S128x4x64x128, .f32⟩
  | .hbm, ⟨118, _⟩ => ⟨S128x128x128, .f32⟩
  | .hbm, ⟨119, _⟩ => ⟨S128x128x128, .f32⟩
  | .hbm, ⟨120, _⟩ => ⟨S32x128, .f32⟩
  | .local _ .vmem, ⟨0, _⟩ => ⟨S128x1024, .f32⟩
  | .local _ .vmem, ⟨1, _⟩ => ⟨S16x4x64x128, .f32⟩
  | .local _ .vmem, ⟨2, _⟩ => ⟨S16x4x64x128, .f32⟩
  | .local _ .vmem, ⟨3, _⟩ => ⟨S16x128x128, .f32⟩
  | .local _ .vmem, ⟨4, _⟩ => ⟨S16x128x128, .f32⟩
  | .local _ .vmem, ⟨5, _⟩ => ⟨S16x128x128, .f32⟩
  | .local _ .vmem, ⟨6, _⟩ => ⟨S16x128x128, .f32⟩
  | .local _ .vmem, ⟨7, _⟩ => ⟨S32x128, .f32⟩
  | .local _ .vmem, ⟨8, _⟩ => ⟨S16x128, .f32⟩
  | .local _ .vmem, ⟨9, _⟩ => ⟨S1x1024, .f32⟩
  | .local _ .vmem, ⟨10, _⟩ => ⟨S1024x2432, .bf16⟩
  | .local _ .vmem, ⟨11, _⟩ => ⟨S128x256, .bf16⟩
  | .local _ .vmem, ⟨12, _⟩ => ⟨S1x256, .f32⟩
  | .local _ .vmem, ⟨13, _⟩ => ⟨S1x128, .f32⟩
  | .local _ .vmem, ⟨14, _⟩ => ⟨S1x512, .f32⟩
  | .local _ .vmem, ⟨15, _⟩ => ⟨S1024x1024, .bf16⟩
  | .local _ .vmem, ⟨16, _⟩ => ⟨S1x1024, .f32⟩
  | .local _ .vmem, ⟨17, _⟩ => ⟨S64x1024, .bf16⟩
  | .local _ .vmem, ⟨18, _⟩ => ⟨S32x1, .f32⟩
  | .local _ .vmem, ⟨19, _⟩ => ⟨S128x1024, .f32⟩
  | .local _ .vmem, ⟨20, _⟩ => ⟨S512x2x128, .bf16⟩
  | .local _ .vmem, ⟨21, _⟩ => ⟨S8x128, .i32⟩
  | .local _ .vmem, ⟨22, _⟩ => ⟨S8x128, .f32⟩
  | .local _ .vmem, ⟨23, _⟩ => ⟨S8x128, .i32⟩
  | .local _ .vmem, ⟨24, _⟩ => ⟨S16x4x64x128, .f32⟩
  | .local _ .vmem, ⟨25, _⟩ => ⟨S16x4x64x128, .f32⟩
  | .local _ .vmem, ⟨26, _⟩ => ⟨S16x128x128, .f32⟩
  | .local _ .vmem, ⟨27, _⟩ => ⟨S16x128x128, .f32⟩
  | .local _ .vmem, ⟨28, _⟩ => ⟨S16x128x128, .f32⟩
  | .local _ .vmem, ⟨29, _⟩ => ⟨S16x128x128, .f32⟩
  | .local _ .vmem, ⟨30, _⟩ => ⟨S32x128, .f32⟩
  | .local _ .vmem, ⟨31, _⟩ => ⟨S1280x128, .bf16⟩
  | .local _ .vmem, ⟨32, _⟩ => ⟨S128x512, .f32⟩
  | .local _ .vmem, ⟨33, _⟩ => ⟨S128x512, .f32⟩
  | .local _ .vmem, ⟨34, _⟩ => ⟨S128x512, .f32⟩
  | .local _ .vmem, ⟨35, _⟩ => ⟨S128x128, .f32⟩
  | .local _ .vmem, ⟨36, _⟩ => ⟨S128x128, .f32⟩
  | .local _ .vmem, ⟨37, _⟩ => ⟨S128x512, .f32⟩
  | .local _ .vmem, ⟨38, _⟩ => ⟨S128x512, .f32⟩
  | .local _ .smem, ⟨0, _⟩ => ⟨S8, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_v29 : Ref sig .tc := ⟨.hbm, 51, rfl⟩
abbrev main_c_3 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_v43 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_c_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81_0 : Ref sig .tc := ⟨.hbm, 112, rfl⟩
abbrev main_v81_1 : Ref sig .tc := ⟨.hbm, 113, rfl⟩
abbrev main_v81_2 : Ref sig .tc := ⟨.hbm, 114, rfl⟩
abbrev main_v81_3 : Ref sig .tc := ⟨.hbm, 115, rfl⟩
abbrev main_v81_4 : Ref sig .tc := ⟨.hbm, 116, rfl⟩
abbrev main_v81_5 : Ref sig .tc := ⟨.hbm, 117, rfl⟩
abbrev main_v81_6 : Ref sig .tc := ⟨.hbm, 118, rfl⟩
abbrev main_v81_7 : Ref sig .tc := ⟨.hbm, 119, rfl⟩
abbrev main_v81_8 : Ref sig .tc := ⟨.hbm, 120, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg22_1 : Ref sig .tc := ⟨.vmem, 25, rfl⟩
abbrev cc0_stg23_0 : Ref sig .tc := ⟨.vmem, 26, rfl⟩
abbrev cc0_stg23_1 : Ref sig .tc := ⟨.vmem, 27, rfl⟩
abbrev cc0_stg24_0 : Ref sig .tc := ⟨.vmem, 28, rfl⟩
abbrev cc0_stg24_1 : Ref sig .tc := ⟨.vmem, 29, rfl⟩
abbrev cc0_stg25_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem22_1 : DmaSem sig := 26
abbrev cc0_sem23_0 : DmaSem sig := 27
abbrev cc0_sem23_1 : DmaSem sig := 28
abbrev cc0_sem24_0 : DmaSem sig := 29
abbrev cc0_sem24_1 : DmaSem sig := 30
abbrev cc0_sem25_0 : DmaSem sig := 31

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_7 : BitVec 32 := 0#32
  let c16_i32 : BitVec 32 := 16#32
  let v53 : BitVec 32 := Scalar.addi c0_i32_7 c16_i32
  let c1_i32_8 : BitVec 32 := 1#32
  ⟨c0_i32_7, v53, c1_i32_8⟩
def k0_off1 (k0_t1 : Fin k0_t1_loop.trips) : Fin 4 → Nat :=
  let c0_i32_7 : BitVec 32 := 0#32
  let c1_i32_8 : BitVec 32 := 1#32
  let arg35 : BitVec 32 := Scf.iv c0_i32_7 c1_i32_8 k0_t1
  let v73 : Index := Scalar.indexCast arg35
  let c0_15 : Index := 0#32
  let c0_16 : Index := 0#32
  let c0_17 : Index := 0#32
  ![v73.toNat, 0, 0, 0]
def k0_off2 (i : grid0.Coords) (k0_t1 : Fin k0_t1_loop.trips) : Fin 2 → Nat :=
  let arg0 : BitVec 32 := BitVec.ofNat 32 (i 0).val
  let c16_i32_11 : BitVec 32 := 16#32
  let v57 : BitVec 32 := Scalar.muli arg0 c16_i32_11
  let c0_i32_7 : BitVec 32 := 0#32
  let c1_i32_8 : BitVec 32 := 1#32
  let arg35 : BitVec 32 := Scf.iv c0_i32_7 c1_i32_8 k0_t1
  let v58 : BitVec 32 := Scalar.addi v57 arg35
  let v77 : Index := Scalar.indexCast v58
  let c0_18 : Index := 0#32
  ![v77.toNat, 0]
def k0_off3 (i : grid0.Coords) (k0_t1 : Fin k0_t1_loop.trips) : Fin 2 → Nat :=
  let arg0 : BitVec 32 := BitVec.ofNat 32 (i 0).val
  let c16_i32_11 : BitVec 32 := 16#32
  let v57 : BitVec 32 := Scalar.muli arg0 c16_i32_11
  let c0_i32_7 : BitVec 32 := 0#32
  let c1_i32_8 : BitVec 32 := 1#32
  let arg35 : BitVec 32 := Scf.iv c0_i32_7 c1_i32_8 k0_t1
  let v58 : BitVec 32 := Scalar.addi v57 arg35
  let v118 : Index := Scalar.indexCast v58
  let c0_27 : Index := 0#32
  ![v118.toNat, 0]
def k0_off4 (k0_t1 : Fin k0_t1_loop.trips) : Fin 3 → Nat :=
  let c0_i32_7 : BitVec 32 := 0#32
  let c1_i32_8 : BitVec 32 := 1#32
  let arg35 : BitVec 32 := Scf.iv c0_i32_7 c1_i32_8 k0_t1
  let v124 : Index := Scalar.indexCast arg35
  let c0_29 : Index := 0#32
  let c0_30 : Index := 0#32
  ![v124.toNat, 0, 0]
def k0_cond2 (i : grid0.Coords) : BitVec 1 :=
  let arg0 : BitVec 32 := BitVec.ofNat 32 (i 0).val
  let c7_i32 : BitVec 32 := 7#32
  let v54 : BitVec 1 := Scalar.cmpi .eq arg0 c7_i32
  let v55 : BitVec 32 := Scalar.extui v54
  let c0_i32_10 : BitVec 32 := 0#32
  let v56 : BitVec 1 := Scalar.cmpi .ne v55 c0_i32_10
  v56

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, 0, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x4x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2432 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x2x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x128 .i32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S16x4x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S16x128x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S16x128x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S32x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== ReferenceIdeal.lean ====
abbrev S128x1x1024 : Shape := ⟨3, ![128, 1, 1024]⟩
abbrev S1x128x4x64x128 : Shape := ⟨5, ![1, 128, 4, 64, 128]⟩
abbrev S1x128x128x2x64 : Shape := ⟨5, ![1, 128, 128, 2, 64]⟩
abbrev S32x8 : Shape := ⟨2, ![32, 8]⟩
abbrev S32x128 : Shape := ⟨2, ![32, 128]⟩
abbrev S1x1024 : Shape := ⟨2, ![1, 1024]⟩
abbrev S1x1024x2320 : Shape := ⟨3, ![1, 1024, 2320]⟩
abbrev S1x16x256 : Shape := ⟨3, ![1, 16, 256]⟩
abbrev S1x256 : Shape := ⟨2, ![1, 256]⟩
abbrev S1x128 : Shape := ⟨2, ![1, 128]⟩
abbrev S1x512 : Shape := ⟨2, ![1, 512]⟩
abbrev S1x8 : Shape := ⟨2, ![1, 8]⟩
abbrev S1x1024x1024 : Shape := ⟨3, ![1, 1024, 1024]⟩
abbrev S1x1024x32 : Shape := ⟨3, ![1, 1024, 32]⟩
abbrev S1x32 : Shape := ⟨2, ![1, 32]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x2320 : Shape := ⟨2, ![1024, 2320]⟩
abbrev S16x256 : Shape := ⟨2, ![16, 256]⟩
abbrev S256 : Shape := ⟨1, ![256]⟩
abbrev S128x1x2320 : Shape := ⟨3, ![128, 1, 2320]⟩
abbrev S128x1x256 : Shape := ⟨3, ![128, 1, 256]⟩
abbrev S128x1x512 : Shape := ⟨3, ![128, 1, 512]⟩
abbrev S128x1x16 : Shape := ⟨3, ![128, 1, 16]⟩
abbrev S128x1x128 : Shape := ⟨3, ![128, 1, 128]⟩
abbrev S128x1x4x64 : Shape := ⟨4, ![128, 1, 4, 64]⟩
abbrev S128x1x4x128 : Shape := ⟨4, ![128, 1, 4, 128]⟩
abbrev S1x1x256 : Shape := ⟨3, ![1, 1, 256]⟩
abbrev S128x1x2x4x64 : Shape := ⟨5, ![128, 1, 2, 4, 64]⟩
abbrev S128x1x2x64 : Shape := ⟨4, ![128, 1, 2, 64]⟩
abbrev S128x4x64 : Shape := ⟨3, ![128, 4, 64]⟩
abbrev S128x4x64x1 : Shape := ⟨4, ![128, 4, 64, 1]⟩
abbrev S128x4x64x128 : Shape := ⟨4, ![128, 4, 64, 128]⟩
abbrev S128x4x128 : Shape := ⟨3, ![128, 4, 128]⟩
abbrev S128x4x1x128 : Shape := ⟨4, ![128, 4, 1, 128]⟩
abbrev S128x128x2x64 : Shape := ⟨4, ![128, 128, 2, 64]⟩
abbrev S128x129x2x64 : Shape := ⟨4, ![128, 129, 2, 64]⟩
abbrev S128x128x128 : Shape := ⟨3, ![128, 128, 128]⟩

abbrev nBuf : Space → Nat
  | .hbm => 101
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x128x4x64x128, .f32⟩
  | .hbm, ⟨2, _⟩ => ⟨S1x128x128x2x64, .f32⟩
  | .hbm, ⟨3, _⟩ => ⟨S1x128x128x2x64, .f32⟩
  | .hbm, ⟨4, _⟩ => ⟨S32x8, .f32⟩
  | .hbm, ⟨5, _⟩ => ⟨S32x128, .f32⟩
  | .hbm, ⟨6, _⟩ => ⟨S1x1024, .f32⟩
  | .hbm, ⟨7, _⟩ => ⟨S1x1024x2320, .f32⟩
  | .hbm, ⟨8, _⟩ => ⟨S1x16x256, .f32⟩
  | .hbm, ⟨9, _⟩ => ⟨S1x256, .f32⟩
  | .hbm, ⟨10, _⟩ => ⟨S1x128, .f32⟩
  | .hbm, ⟨11, _⟩ => ⟨S1x512, .f32⟩
  | .hbm, ⟨12, _⟩ => ⟨S1x8, .f32⟩
  | .hbm, ⟨13, _⟩ => ⟨S1x1024x1024, .f32⟩
  | .hbm, ⟨14, _⟩ => ⟨S1x1024, .f32⟩
  | .hbm, ⟨15, _⟩ => ⟨S1x1024x32, .f32⟩
  | .hbm, ⟨16, _⟩ => ⟨S1x32, .f32⟩
  | .hbm, ⟨17, _⟩ => ⟨S1024, .f32⟩
  | .hbm, ⟨18, _⟩ => ⟨S128x1x1024, .f32⟩
  | .hbm, ⟨19, _⟩ => ⟨S_, .f32⟩
  | .hbm, ⟨20, _⟩ => ⟨S128x1, .f32⟩
  | .hbm, ⟨21, _⟩ => ⟨S128x1x1, .f32⟩
  | .hbm, ⟨22, _⟩ => ⟨S_, .f32⟩
  | .hbm, ⟨23, _⟩ => ⟨S128x1x1, .f32⟩
  | .hbm, ⟨24, _⟩ => ⟨S128x1x1, .f32⟩
  | .hbm, ⟨25, _⟩ => ⟨S_, .f32⟩
  | .hbm, ⟨26, _⟩ => ⟨S128x1x1, .f32⟩
  | .hbm, ⟨27, _⟩ => ⟨S128x1x1, .f32⟩
  | .hbm, ⟨28, _⟩ => ⟨S128x1x1, .f32⟩
  | .hbm, ⟨29, _⟩ => ⟨S128x1x1024, .f32⟩
  | .hbm, ⟨30, _⟩ => ⟨S128x1x1024, .f32⟩
  | .hbm, ⟨31, _⟩ => ⟨S1x1x1024, .f32⟩
  | .hbm, ⟨32, _⟩ => ⟨S128x1x1024, .f32⟩
  | .hbm, ⟨33, _⟩ => ⟨S128x1x1024, .f32⟩
  | .hbm, ⟨34, _⟩ => ⟨S1024x2320, .f32⟩
  | .hbm, ⟨35, _⟩ => ⟨S16x256, .f32⟩
  | .hbm, ⟨36, _⟩ => ⟨S256, .f32⟩
  | .hbm, ⟨37, _⟩ => ⟨S128x1x2320, .f32⟩
  | .hbm, ⟨38, _⟩ => ⟨S128x1x256, .f32⟩
  | .hbm, ⟨39, _⟩ => ⟨S128x1x256, .f32⟩
  | .hbm, ⟨40, _⟩ => ⟨S128x1x512, .f32⟩
  | .hbm, ⟨41, _⟩ => ⟨S128x1x512, .f32⟩
  | .hbm, ⟨42, _⟩ => ⟨S128x1x16, .f32⟩
  | .hbm, ⟨43, _⟩ => ⟨S128x1x512, .f32⟩
  | .hbm, ⟨44, _⟩ => ⟨S128x1x128, .f32⟩
  | .hbm, ⟨45, _⟩ => ⟨S128x1x128, .f32⟩
  | .hbm, ⟨46, _⟩ => ⟨S128x1x4x64, .f32⟩
  | .hbm, ⟨47, _⟩ => ⟨S_, .f32⟩
  | .hbm, ⟨48, _⟩ => ⟨S128x1x4x64, .f32⟩
  | .hbm, ⟨49, _⟩ => ⟨S128x1x4x64, .f32⟩
  | .hbm, ⟨50, _⟩ => ⟨S128x1x4x64, .f32⟩
  | .hbm, ⟨51, _⟩ => ⟨S128x1x4x128, .f32⟩
  | .hbm, ⟨52, _⟩ => ⟨S128x1x256, .f32⟩
  | .hbm, ⟨53, _⟩ => ⟨S1x1x256, .f32⟩
  | .hbm, ⟨54, _⟩ => ⟨S128x1x256, .f32⟩
  | .hbm, ⟨55, _⟩ => ⟨S128x1x256, .f32⟩
  | .hbm, ⟨56, _⟩ => ⟨S128x1x256, .f32⟩
  | .hbm, ⟨57, _⟩ => ⟨S_, .f32⟩
  | .hbm, ⟨58, _⟩ => ⟨S128x1x256, .f32⟩
  | .hbm, ⟨59, _⟩ => ⟨S128x1x256, .f32⟩
  | .hbm, ⟨60, _⟩ => ⟨S128x1x256, .f32⟩
  | .hbm, ⟨61, _⟩ => ⟨S128x1x256, .f32⟩
  | .hbm, ⟨62, _⟩ => ⟨S128x1x256, .i1⟩
  | .hbm, ⟨63, _⟩ => ⟨S128x1x256, .f32⟩
  | .hbm, ⟨64, _⟩ => ⟨S128x1x256, .f32⟩
  | .hbm, ⟨65, _⟩ => ⟨S128x1x256, .f32⟩
  | .hbm, ⟨66, _⟩ => ⟨S128x1x256, .f32⟩
  | .hbm, ⟨67, _⟩ => ⟨S128x1x256, .f32⟩
  | .hbm, ⟨68, _⟩ => ⟨S128x1x256, .f32⟩
  | .hbm, ⟨69, _⟩ => ⟨S128x1x256, .f32⟩
  | .hbm, ⟨70, _⟩ => ⟨S128x1x256, .f32⟩
  | .hbm, ⟨71, _⟩ => ⟨S128x1x256, .f32⟩
  | .hbm, ⟨72, _⟩ => ⟨S_, .f32⟩
  | .hbm, ⟨73, _⟩ => ⟨S128x1x256, .f32⟩
  | .hbm, ⟨74, _⟩ => ⟨S128x1x256, .f32⟩
  | .hbm, ⟨75, _⟩ => ⟨S128x1x4x64, .f32⟩
  | .hbm, ⟨76, _⟩ => ⟨S128x1x2x4x64, .f32⟩
  | .hbm, ⟨77, _⟩ => ⟨S128x1x2x64, .f32⟩
  | .hbm, ⟨78, _⟩ => ⟨S128x1x2x64, .f32⟩
  | .hbm, ⟨79, _⟩ => ⟨S128x4x64, .f32⟩
  | .hbm, ⟨80, _⟩ => ⟨S128x4x64, .f32⟩
  | .hbm, ⟨81, _⟩ => ⟨S128x4x64x1, .f32⟩
  | .hbm, ⟨82, _⟩ => ⟨S128x4x64x128, .f32⟩
  | .hbm, ⟨83, _⟩ => ⟨S128x4x64x128, .f32⟩
  | .hbm, ⟨84, _⟩ => ⟨S128x4x64x128, .f32⟩
  | .hbm, ⟨85, _⟩ => ⟨S128x4x64, .f32⟩
  | .hbm, ⟨86, _⟩ => ⟨S128x4x64x1, .f32⟩
  | .hbm, ⟨87, _⟩ => ⟨S128x4x128, .f32⟩
  | .hbm, ⟨88, _⟩ => ⟨S128x4x1x128, .f32⟩
  | .hbm, ⟨89, _⟩ => ⟨S128x4x64x128, .f32⟩
  | .hbm, ⟨90, _⟩ => ⟨S128x4x64x128, .f32⟩
  | .hbm, ⟨91, _⟩ => ⟨S128x4x64x128, .f32⟩
  | .hbm, ⟨92, _⟩ => ⟨S128x4x64x128, .f32⟩
  | .hbm, ⟨93, _⟩ => ⟨S128x128x2x64, .f32⟩
  | .hbm, ⟨94, _⟩ => ⟨S128x129x2x64, .f32⟩
  | .hbm, ⟨95, _⟩ => ⟨S128x128x2x64, .f32⟩
  | .hbm, ⟨96, _⟩ => ⟨S128x128x2x64, .f32⟩
  | .hbm, ⟨97, _⟩ => ⟨S128x129x2x64, .f32⟩
  | .hbm, ⟨98, _⟩ => ⟨S128x128x2x64, .f32⟩
  | .hbm, ⟨99, _⟩ => ⟨S128x128x128, .f32⟩
  | .hbm, ⟨100, _⟩ => ⟨S128x128x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call0_v0 : Ref sig .tc := ⟨.hbm, 56, rfl⟩
abbrev main_call0_call0_cst : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_v7 : Ref sig .tc := ⟨.hbm, 65, rfl⟩
abbrev main_call0_call0_v8 : Ref sig .tc := ⟨.hbm, 66, rfl⟩
abbrev main_call0_call0_v9 : Ref sig .tc := ⟨.hbm, 67, rfl⟩
abbrev main_call0_call0_v10 : Ref sig .tc := ⟨.hbm, 68, rfl⟩
abbrev main_call0_call0_v11 : Ref sig .tc := ⟨.hbm, 69, rfl⟩
abbrev main_call0_v1 : Ref sig .tc := ⟨.hbm, 70, rfl⟩
abbrev main_v35 : Ref sig .tc := ⟨.hbm, 71, rfl⟩
abbrev main_cst_3 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩

abbrev nD : Nat := 1
abbrev τ : Topo := Topo.v7x

variable {F : FTy → Type} [FloatOps F]
-- ==== Experts.lean ====
abbrev S154 : Shape := ⟨1, ![154]⟩
abbrev S1 : Shape := ⟨1, ![1]⟩
abbrev S335104x128 : Shape := ⟨2, ![335104, 128]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S83776x1024 : Shape := ⟨2, ![83776, 1024]⟩
abbrev S2176x128 : Shape := ⟨2, ![2176, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S544x1024 : Shape := ⟨2, ![544, 1024]⟩
abbrev S1024x2048 : Shape := ⟨2, ![1024, 2048]⟩
abbrev S1024x1024 : Shape := ⟨2, ![1024, 1024]⟩
abbrev S544x128 : Shape := ⟨2, ![544, 128]⟩
abbrev S1024x256 : Shape := ⟨2, ![1024, 256]⟩
abbrev S544x256 : Shape := ⟨2, ![544, 256]⟩
abbrev S1x1x256 : Shape := ⟨3, ![1, 1, 256]⟩
abbrev S1x256 : Shape := ⟨2, ![1, 256]⟩

abbrev nBuf : Space → Nat
  | .hbm => 12
  | .vmem => 16
  | .smem => 2
  | _ => 0

abbrev bufTy : (tb : Table) → Fin (tcTables nBuf tb) → BufTy
  | .hbm, ⟨0, _⟩ => ⟨S335104x128, .i32⟩
  | .hbm, ⟨1, _⟩ => ⟨S1x32x1024x2048, .f32⟩
  | .hbm, ⟨2, _⟩ => ⟨S1x32x2048, .f32⟩
  | .hbm, ⟨3, _⟩ => ⟨S1x32x1024x1024, .f32⟩
  | .hbm, ⟨4, _⟩ => ⟨S1x32x1024, .f32⟩
  | .hbm, ⟨5, _⟩ => ⟨S32x1024x2048, .f32⟩
  | .hbm, ⟨6, _⟩ => ⟨S32x2048, .f32⟩
  | .hbm, ⟨7, _⟩ => ⟨S32x1024x1024, .f32⟩
  | .hbm, ⟨8, _⟩ => ⟨S32x1024, .f32⟩
  | .hbm, ⟨9, _⟩ => ⟨S32x1x2048, .f32⟩
  | .hbm, ⟨10, _⟩ => ⟨S32x1x1024, .f32⟩
  | .hbm, ⟨11, _⟩ => ⟨S83776x1024, .bf16⟩
  | .local _ .vmem, ⟨0, _⟩ => ⟨S2176x128, .i32⟩
  | .local _ .vmem, ⟨1, _⟩ => ⟨S2176x128, .i32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S544x1024, .bf16⟩
  | .local _ .vmem, ⟨11, _⟩ => ⟨S544x1024, .bf16⟩
  | .local _ .vmem, ⟨12, _⟩ => ⟨S544x1024, .bf16⟩
  | .local _ .vmem, ⟨13, _⟩ => ⟨S544x1024, .bf16⟩
  | .local _ .vmem, ⟨14, _⟩ => ⟨S1024x2048, .bf16⟩
  | .local _ .vmem, ⟨15, _⟩ => ⟨S1024x1024, .bf16⟩
  | .local _ .smem, ⟨0, _⟩ => ⟨S154, .i32⟩
  | .local _ .smem, ⟨1, _⟩ => ⟨S1, .i32⟩
  | _, _ => ⟨S335104x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![154], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BlocksIdeal.lean ====
abbrev S154 : Shape := ⟨1, ![154]⟩
abbrev S1 : Shape := ⟨1, ![1]⟩
abbrev S335104x128 : Shape := ⟨2, ![335104, 128]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S83776x512 : Shape := ⟨2, ![83776, 512]⟩
abbrev S83776x1024 : Shape := ⟨2, ![83776, 1024]⟩
abbrev S154x544x1024 : Shape := ⟨3, ![154, 544, 1024]⟩
abbrev S154x1 : Shape := ⟨2, ![154, 1]⟩
abbrev S154x3 : Shape := ⟨2, ![154, 3]⟩
abbrev S154x1x1024x2048 : Shape := ⟨4, ![154, 1, 1024, 2048]⟩
abbrev S154x1024x2048 : Shape := ⟨3, ![154, 1024, 2048]⟩
abbrev S154x544x2048 : Shape := ⟨3, ![154, 544, 2048]⟩
abbrev S154x2 : Shape := ⟨2, ![154, 2]⟩
abbrev S154x1x2048 : Shape := ⟨3, ![154, 1, 2048]⟩
abbrev S154x2048 : Shape := ⟨2, ![154, 2048]⟩
abbrev S154x1x1024x1024 : Shape := ⟨4, ![154, 1, 1024, 1024]⟩
abbrev S154x1024x1024 : Shape := ⟨3, ![154, 1024, 1024]⟩
abbrev S154x1x1024 : Shape := ⟨3, ![154, 1, 1024]⟩
abbrev S154x1024 : Shape := ⟨2, ![154, 1024]⟩
abbrev S544x1024 : Shape := ⟨2, ![544, 1024]⟩

abbrev nBuf : Space → Nat
  | .hbm => 170
  | .vmem => 0
  | .smem => 0
  | _ => 0

abbrev hbmTy0_0 (i : Nat) : BufTy := match i % 128 with
  | 0 => ⟨S154, .i32⟩
  | 1 => ⟨S1, .i32⟩
  | 2 => ⟨S335104x128, .i32⟩
  | 3 => ⟨S1x32x1024x2048, .f32⟩
  | 4 => ⟨S1x32x2048, .f32⟩
  | 5 => ⟨S1x32x1024x1024, .f32⟩
  | 6 => ⟨S1x32x1024, .f32⟩
  | 7 => ⟨S32x1024x2048, .f32⟩
  | 8 => ⟨S32x2048, .f32⟩
  | 9 => ⟨S32x1024x1024, .f32⟩
  | 10 => ⟨S32x1024, .f32⟩
  | 11 => ⟨S_, .i32⟩
  | 12 => ⟨S335104x128, .i32⟩
  | 13 => ⟨S335104x128, .i32⟩
  | 14 => ⟨S335104x128, .f32⟩
  | 15 => ⟨S83776x512, .f32⟩
  | 16 => ⟨S_, .i32⟩
  | 17 => ⟨S335104x128, .i32⟩
  | 18 => ⟨S335104x128, .i32⟩
  | 19 => ⟨S335104x128, .f32⟩
  | 20 => ⟨S83776x512, .f32⟩
  | 21 => ⟨S83776x1024, .f32⟩
  | 22 => ⟨S154x544x1024, .f32⟩
  | 23 => ⟨S154, .i32⟩
  | 24 => ⟨S_, .i32⟩
  | 25 => ⟨S154, .i32⟩
  | 26 => ⟨S154, .i1⟩
  | 27 => ⟨S_, .i32⟩
  | 28 => ⟨S154, .i32⟩
  | 29 => ⟨S154, .i32⟩
  | 30 => ⟨S154, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S154x1, .i32⟩
  | 48 => ⟨S154x1, .i32⟩
  | 49 => ⟨S154x1, .i32⟩
  | 50 => ⟨S154x3, .i32⟩
  | 51 => ⟨S154x1x1024x2048, .f32⟩
  | 52 => ⟨S154x1024x2048, .f32⟩
  | 53 => ⟨S154x544x2048, .f32⟩
  | 54 => ⟨S_, .i32⟩
  | 55 => ⟨S154, .i32⟩
  | 56 => ⟨S154, .i1⟩
  | 57 => ⟨S_, .i32⟩
  | 58 => ⟨S154, .i32⟩
  | 59 => ⟨S154, .i32⟩
  | 60 => ⟨S154, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S154x1, .i32⟩
  | 70 => ⟨S154x1, .i32⟩
  | 71 => ⟨S154x2, .i32⟩
  | 72 => ⟨S154x1x2048, .f32⟩
  | 73 => ⟨S154x2048, .f32⟩
  | 74 => ⟨S154x1x2048, .f32⟩
  | 75 => ⟨S154x544x2048, .f32⟩
  | 76 => ⟨S154x544x2048, .f32⟩
  | 77 => ⟨S154x544x1024, .f32⟩
  | 78 => ⟨S_, .f32⟩
  | 79 => ⟨S154x544x1024, .f32⟩
  | 80 => ⟨S154x544x1024, .f32⟩
  | 81 => ⟨S154x544x1024, .f32⟩
  | 82 => ⟨S_, .f32⟩
  | 83 => ⟨S_, .f32⟩
  | 84 => ⟨S_, .f32⟩
  | 85 => ⟨S154x544x1024, .f32⟩
  | 86 => ⟨S154x544x1024, .f32⟩
  | 87 => ⟨S_, .f32⟩
  | 88 => ⟨S154x544x1024, .f32⟩
  | 89 => ⟨S154x544x1024, .f32⟩
  | 90 => ⟨S_, .f32⟩
  | 91 => ⟨S154x544x1024, .f32⟩
  | 92 => ⟨S154x544x1024, .f32⟩
  | 93 => ⟨S154x544x1024, .f32⟩
  | 94 => ⟨S154x544x1024, .f32⟩
  | 95 => ⟨S_, .f32⟩
  | 96 => ⟨S154x544x1024, .f32⟩
  | 97 => ⟨S154x544x1024, .f32⟩
  | 98 => ⟨S_, .f32⟩
  | 99 => ⟨S154x544x1024, .f32⟩
  | 100 => ⟨S154x544x1024, .f32⟩
  | 101 => ⟨S154x544x1024, .f32⟩
  | 102 => ⟨S_, .f32⟩
  | 103 => ⟨S154x544x1024, .f32⟩
  | 104 => ⟨S154x544x1024, .f32⟩
  | 105 => ⟨S154x544x1024, .f32⟩
  | 106 => ⟨S_, .i32⟩
  | 107 => ⟨S154, .i32⟩
  | 108 => ⟨S154, .i1⟩
  | 109 => ⟨S_, .i32⟩
  | 110 => ⟨S154, .i32⟩
  | 111 => ⟨S154, .i32⟩
  | 112 => ⟨S154, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S154, .i32⟩

abbrev hbmTy0_1 (i : Nat) : BufTy := match i % 128 with
  | 0 => ⟨S_, .i32⟩
  | 1 => ⟨S154x1, .i32⟩
  | 2 => ⟨S154x1, .i32⟩
  | 3 => ⟨S154x1, .i32⟩
  | 4 => ⟨S154x3, .i32⟩
  | 5 => ⟨S154x1x1024x1024, .f32⟩
  | 6 => ⟨S154x1024x1024, .f32⟩
  | 7 => ⟨S154x544x1024, .f32⟩
  | 8 => ⟨S_, .i32⟩
  | 9 => ⟨S154, .i32⟩
  | 10 => ⟨S154, .i1⟩
  | 11 => ⟨S_, .i32⟩
  | 12 => ⟨S154, .i32⟩
  | 13 => ⟨S154, .i32⟩
  | 14 => ⟨S154, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S154x1, .i32⟩
  | 24 => ⟨S154x1, .i32⟩
  | 25 => ⟨S154x2, .i32⟩
  | 26 => ⟨S154x1x1024, .f32⟩
  | 27 => ⟨S154x1024, .f32⟩
  | 28 => ⟨S154x1x1024, .f32⟩
  | 29 => ⟨S154x544x1024, .f32⟩
  | 30 => ⟨S154x544x1024, .f32⟩
  | 31 => ⟨S_, .i32⟩
  | 32 => ⟨S154, .i32⟩
  | 33 => ⟨S154, .i1⟩
  | 34 => ⟨S_, .f32⟩
  | 35 => ⟨S_, .f32⟩
  | 36 => ⟨S544x1024, .f32⟩
  | 37 => ⟨S154x544x1024, .f32⟩
  | 38 => ⟨S154x544x1024, .i1⟩
  | 39 => ⟨S154x544x1024, .f32⟩
  | 40 => ⟨S83776x1024, .f32⟩
  | 41 => ⟨S83776x1024, .bf16⟩
  | _ => ⟨S154, .i32⟩

abbrev hbmTy (i : Nat) : BufTy := match i / 128 with
  | 0 => hbmTy0_0 i
  | 1 => hbmTy0_1 i
  | _ => ⟨S154, .i32⟩

abbrev bufTy : (tb : Table) → Fin (tcTables nBuf tb) → BufTy
  | .hbm, ⟨i, _⟩ => hbmTy i
  | _, _ => ⟨S154, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_c_4 : Ref sig .tc := ⟨.hbm, 32, rfl⟩
abbrev main_v20 : Ref sig .tc := ⟨.hbm, 33, rfl⟩
abbrev main_c_5 : Ref sig .tc := ⟨.hbm, 34, rfl⟩
abbrev main_c_6 : Ref sig .tc := ⟨.hbm, 35, rfl⟩
abbrev main_v21 : Ref sig .tc := ⟨.hbm, 36, rfl⟩
abbrev main_c_7 : Ref sig .tc := ⟨.hbm, 37, rfl⟩
abbrev main_v22 : Ref sig .tc := ⟨.hbm, 38, rfl⟩
abbrev main_c_8 : Ref sig .tc := ⟨.hbm, 39, rfl⟩
abbrev main_c_9 : Ref sig .tc := ⟨.hbm, 40, rfl⟩
abbrev main_v23 : Ref sig .tc := ⟨.hbm, 41, rfl⟩
abbrev main_c_10 : Ref sig .tc := ⟨.hbm, 42, rfl⟩
abbrev main_c_11 : Ref sig .tc := ⟨.hbm, 43, rfl⟩
abbrev main_v24 : Ref sig .tc := ⟨.hbm, 44, rfl⟩
abbrev main_c_12 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_13 : Ref sig .tc := ⟨.hbm, 54, rfl⟩
abbrev main_v33 : Ref sig .tc := ⟨.hbm, 55, rfl⟩
abbrev main_v34 : Ref sig .tc := ⟨.hbm, 56, rfl⟩
abbrev main_c_14 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_15 : Ref sig .tc := ⟨.hbm, 61, rfl⟩
abbrev main_c_16 : Ref sig .tc := ⟨.hbm, 62, rfl⟩
abbrev main_v38 : Ref sig .tc := ⟨.hbm, 63, rfl⟩
abbrev main_c_17 : Ref sig .tc := ⟨.hbm, 64, rfl⟩
abbrev main_c_18 : Ref sig .tc := ⟨.hbm, 65, rfl⟩
abbrev main_v39 : Ref sig .tc := ⟨.hbm, 66, rfl⟩
abbrev main_c_19 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_20 : Ref sig .tc := ⟨.hbm, 82, rfl⟩
abbrev main_cst_21 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_v53 : Ref sig .tc := ⟨.hbm, 89, rfl⟩
abbrev main_cst_22 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_23 : Ref sig .tc := ⟨.hbm, 95, rfl⟩
abbrev main_v58 : Ref sig .tc := ⟨.hbm, 96, rfl⟩
abbrev main_v59 : Ref sig .tc := ⟨.hbm, 97, rfl⟩
abbrev main_cst_24 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_25 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_c_26 : Ref sig .tc := ⟨.hbm, 106, rfl⟩
abbrev main_v66 : Ref sig .tc := ⟨.hbm, 107, rfl⟩
abbrev main_v67 : Ref sig .tc := ⟨.hbm, 108, rfl⟩
abbrev main_c_27 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_28 : Ref sig .tc := ⟨.hbm, 113, rfl⟩
abbrev main_c_29 : Ref sig .tc := ⟨.hbm, 114, rfl⟩
abbrev main_v71 : Ref sig .tc := ⟨.hbm, 115, rfl⟩
abbrev main_c_30 : Ref sig .tc := ⟨.hbm, 116, rfl⟩
abbrev main_c_31 : Ref sig .tc := ⟨.hbm, 117, rfl⟩
abbrev main_v72 : Ref sig .tc := ⟨.hbm, 118, rfl⟩
abbrev main_c_32 : Ref sig .tc := ⟨.hbm, 119, rfl⟩
abbrev main_v73 : Ref sig .tc := ⟨.hbm, 120, rfl⟩
abbrev main_c_33 : Ref sig .tc := ⟨.hbm, 121, rfl⟩
abbrev main_c_34 : Ref sig .tc := ⟨.hbm, 122, rfl⟩
abbrev main_v74 : Ref sig .tc := ⟨.hbm, 123, rfl⟩
abbrev main_c_35 : Ref sig .tc := ⟨.hbm, 124, rfl⟩
abbrev main_c_36 : Ref sig .tc := ⟨.hbm, 125, rfl⟩
abbrev main_v75 : Ref sig .tc := ⟨.hbm, 126, rfl⟩
abbrev main_c_37 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_c_38 : Ref sig .tc := ⟨.hbm, 136, rfl⟩
abbrev main_v84 : Ref sig .tc := ⟨.hbm, 137, rfl⟩
abbrev main_v85 : Ref sig .tc := ⟨.hbm, 138, rfl⟩
abbrev main_c_39 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_c_40 : Ref sig .tc := ⟨.hbm, 143, rfl⟩
abbrev main_c_41 : Ref sig .tc := ⟨.hbm, 144, rfl⟩
abbrev main_v89 : Ref sig .tc := ⟨.hbm, 145, rfl⟩
abbrev main_c_42 : Ref sig .tc := ⟨.hbm, 146, rfl⟩
abbrev main_c_43 : Ref sig .tc := ⟨.hbm, 147, rfl⟩
abbrev main_v90 : Ref sig .tc := ⟨.hbm, 148, rfl⟩
abbrev main_c_44 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_cst_45 : Ref sig .tc := ⟨.hbm, 162, rfl⟩
abbrev main_call1_v0 : Ref sig .tc := ⟨.hbm, 163, rfl⟩
abbrev main_call1_v1 : Ref sig .tc := ⟨.hbm, 164, rfl⟩
abbrev main_call1_v2 : Ref sig .tc := ⟨.hbm, 165, rfl⟩
abbrev main_call1_v3 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩

abbrev nD : Nat := 1
abbrev τ : Topo := Topo.v7x

variable {F : FTy → Type} [FloatOps F]
-- ==== Proof.KernelIdealFrame.lean ====
module

public import proofs.«01_k».proof.Proof.Gen.KernelIdeal.Frame
public import proofs.«01_k».proof.Proof.Gen.KernelIdeal.Loops
public import Idealize.ShloMosaic.Lib.WritesUnit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

local notation "𝕄" => MT nD τ sig Unit (Elt F) ℕ (UR sig nD τ) ℕ

/-! ## The branch conditions -/

/-- The body's first branch is taken: the point projects the activations. -/
abbrev first (i : grid0.Coords) : Prop :=
  (Scalar.cmpi .ne (Scalar.extui (Scalar.cmpi .eq (BitVec.ofNat 32 (i 0).val) 0#32)) 0#32) = 1#1
theorem first_iff : ∀ t : Fin cfg0.N, first (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [first, e0]
    word_cmp
   : ∀ t : Fin grid0.N, first (grid0.coords t) ↔ t.val % 8 = 0)

/-- The body's last branch is taken: the point finishes the layer. -/
abbrev last (i : grid0.Coords) : Prop := k0_cond2 i = 1#1
theorem last_iff : ∀ t : Fin cfg0.N, last (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [last, k0_cond2, e0]
    word_cmp
   : ∀ t : Fin grid0.N, last (grid0.coords t) ↔ t.val % 8 = 7)

/-! ## The operands at a point -/

abbrev ms0 (t : Fin cfg0.N) : Memref sig .tc .smem S8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x4x64x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x2432 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x256 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x512 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1024x1024 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x1024 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S64x1024 .bf16 := win0_15.stage (cfg0.slots t 15)
abbrev hs15 (t : Fin cfg0.N) : (ms15 t).IsWhole := hstage0_15 ((cfg0.slots t 15).cast nbuf0_15)
abbrev ms16 (t : Fin cfg0.N) : Memref sig .tc .vmem S32x1 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S128x1024 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S512x2x128 .bf16 := win0_18.stage (cfg0.slots t 18)
abbrev hs18 (t : Fin cfg0.N) : (ms18 t).IsWhole := hstage0_18 ((cfg0.slots t 18).cast nbuf0_18)
abbrev ms19 (t : Fin cfg0.N) : Memref sig .tc .vmem S8x128 .i32 := win0_19.stage (cfg0.slots t 19)
abbrev hs19 (t : Fin cfg0.N) : (ms19 t).IsWhole := hstage0_19 ((cfg0.slots t 19).cast nbuf0_19)
abbrev ms20 (t : Fin cfg0.N) : Memref sig .tc .vmem S8x128 .f32 := win0_20.stage (cfg0.slots t 20)
abbrev hs20 (t : Fin cfg0.N) : (ms20 t).IsWhole := hstage0_20 ((cfg0.slots t 20).cast nbuf0_20)
abbrev ms21 (t : Fin cfg0.N) : Memref sig .tc .vmem S8x128 .i32 := win0_21.stage (cfg0.slots t 21)
abbrev hs21 (t : Fin cfg0.N) : (ms21 t).IsWhole := hstage0_21 ((cfg0.slots t 21).cast nbuf0_21)
abbrev ms22 (t : Fin cfg0.N) : Memref sig .tc .vmem S16x4x64x128 .f32 := win0_22.stage (cfg0.slots t 22)
abbrev hs22 (t : Fin cfg0.N) : (ms22 t).IsWhole := hstage0_22 ((cfg0.slots t 22).cast nbuf0_22)
abbrev ms23 (t : Fin cfg0.N) : Memref sig .tc .vmem S16x128x128 .f32 := win0_23.stage (cfg0.slots t 23)
abbrev hs23 (t : Fin cfg0.N) : (ms23 t).IsWhole := hstage0_23 ((cfg0.slots t 23).cast nbuf0_23)
abbrev ms24 (t : Fin cfg0.N) : Memref sig .tc .vmem S16x128x128 .f32 := win0_24.stage (cfg0.slots t 24)
abbrev hs24 (t : Fin cfg0.N) : (ms24 t).IsWhole := hstage0_24 ((cfg0.slots t 24).cast nbuf0_24)
abbrev ms25 (t : Fin cfg0.N) : Memref sig .tc .vmem S32x128 .f32 := win0_25.stage (cfg0.slots t 25)
abbrev hs25 (t : Fin cfg0.N) : (ms25 t).IsWhole := hstage0_25 ((cfg0.slots t 25).cast nbuf0_25)
abbrev sc0 : Memref sig .tc .vmem S1280x128 .bf16 := Memref.whole cc0_scratch0
abbrev sc1 : Memref sig .tc .vmem S128x512 .f32 := Memref.whole cc0_scratch1
abbrev sc2 : Memref sig .tc .vmem S128x512 .f32 := Memref.whole cc0_scratch2
abbrev sc3 : Memref sig .tc .vmem S128x512 .f32 := Memref.whole cc0_scratch3
abbrev sc4 : Memref sig .tc .vmem S128x128 .f32 := Memref.whole cc0_scratch4
abbrev sc5 : Memref sig .tc .vmem S128x128 .f32 := Memref.whole cc0_scratch5
abbrev sc6 : Memref sig .tc .vmem S128x512 .f32 := Memref.whole cc0_scratch6
abbrev sc7 : Memref sig .tc .vmem S128x512 .f32 := Memref.whole cc0_scratch7

/-- The launch's scratch as owned memrefs. -/
theorem PhiA_eq (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA; rw [scopedRest0_eq]; simp only [sc0, sc1, sc2, sc3, sc4, sc5, sc6, sc7, owns_whole]; try rfl

/-! ## The body at any staging memrefs, case by case

In each case the body returns every input buffer as found and every other buffer at some contents. -/

section Cases

variable (c : Dev nD) (i : grid0.Coords) (arg1 : Memref sig .tc .smem S8 .f32) (harg1 : arg1.IsWhole) (arg2 : Memref sig .tc .vmem S128x1024 .f32) (harg2 : arg2.IsWhole) (arg3 : Memref sig .tc .vmem S16x4x64x128 .f32) (harg3 : arg3.IsWhole) (arg4 : Memref sig .tc .vmem S16x128x128 .f32) (harg4 : arg4.IsWhole) (arg5 : Memref sig .tc .vmem S16x128x128 .f32) (harg5 : arg5.IsWhole) (arg6 : Memref sig .tc .vmem S32x128 .f32) (harg6 : arg6.IsWhole) (arg7 : Memref sig .tc .vmem S16x128 .f32) (harg7 : arg7.IsWhole) (arg8 : Memref sig .tc .vmem S1x1024 .f32) (harg8 : arg8.IsWhole) (arg9 : Memref sig .tc .vmem S1024x2432 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x128 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S64x1024 .bf16) (harg16 : arg16.IsWhole) (arg17 : Memref sig .tc .vmem S32x1 .f32) (harg17 : arg17.IsWhole) (arg18 : Memref sig .tc .vmem S128x1024 .f32) (harg18 : arg18.IsWhole) (arg19 : Memref sig .tc .vmem S512x2x128 .bf16) (harg19 : arg19.IsWhole) (arg20 : Memref sig .tc .vmem S8x128 .i32) (harg20 : arg20.IsWhole) (arg21 : Memref sig .tc .vmem S8x128 .f32) (harg21 : arg21.IsWhole) (arg22 : Memref sig .tc .vmem S8x128 .i32) (harg22 : arg22.IsWhole) (arg23 : Memref sig .tc .vmem S16x4x64x128 .f32) (harg23 : arg23.IsWhole) (arg24 : Memref sig .tc .vmem S16x128x128 .f32) (harg24 : arg24.IsWhole) (arg25 : Memref sig .tc .vmem S16x128x128 .f32) (harg25 : arg25.IsWhole) (arg26 : Memref sig .tc .vmem S32x128 .f32) (harg26 : arg26.IsWhole) (arg27 : Memref sig .tc .vmem S1280x128 .bf16) (harg27 : arg27.IsWhole) (arg28 : Memref sig .tc .vmem S128x512 .f32) (harg28 : arg28.IsWhole) (arg29 : Memref sig .tc .vmem S128x512 .f32) (harg29 : arg29.IsWhole) (arg30 : Memref sig .tc .vmem S128x512 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S128x512 .f32) (harg33 : arg33.IsWhole) (arg34 : Memref sig .tc .vmem S128x512 .f32) (harg34 : arg34.IsWhole)
variable (x0 : S8.Idx → Elt F .f32) (x1 : S128x1024.Idx → Elt F .f32) (x2 : S16x4x64x128.Idx → Elt F .f32) (x3 : S16x128x128.Idx → Elt F .f32) (x4 : S16x128x128.Idx → Elt F .f32) (x5 : S32x128.Idx → Elt F .f32) (x6 : S16x128.Idx → Elt F .f32) (x7 : S1x1024.Idx → Elt F .f32) (x8 : S1024x2432.Idx → Elt F .bf16) (x9 : S128x256.Idx → Elt F .bf16) (x10 : S1x256.Idx → Elt F .f32) (x11 : S1x128.Idx → Elt F .f32) (x12 : S1x512.Idx → Elt F .f32) (x13 : S1024x1024.Idx → Elt F .bf16) (x14 : S1x1024.Idx → Elt F .f32) (x15 : S64x1024.Idx → Elt F .bf16) (x16 : S32x1.Idx → Elt F .f32)

/-- The input buffers at their contents. -/
abbrev insAt : sProp 𝕄 := iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16)
/-- The output and scratch buffers, at any contents. -/
abbrev restAt : sProp 𝕄 := iprop((∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d))

set_option maxHeartbeats 8000000 in
theorem bodyA (hc0 : first i) (hc1 : ¬ last i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)) -∗ K ⟨⟩))
      ⊢ wp frame (wpE (defs₀ (F := F)) Variants.none c none) Set.univ (cc0_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
    simp only [cc0_decode_eq_skeleton]; unfold cc0_decode_skel
    simp only [k0_part13_eq_skeleton, k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg16.eq_unread hf15
    obtain rfl := harg17.eq_unread hf16
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    iexists _, _; isplitr; swap; · iexact H33
    ipureintro; rfl

set_option maxHeartbeats 8000000 in
theorem bodyB (hc0 : ¬ first i) (hc1 : ¬ last i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)) -∗ K ⟨⟩))
      ⊢ wp frame (wpE (defs₀ (F := F)) Variants.none c none) Set.univ (cc0_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
    simp only [cc0_decode_eq_skeleton]; unfold cc0_decode_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg16.eq_unread hf15
    obtain rfl := harg17.eq_unread hf16
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    iexists _, _; isplitr; swap; · iexact H33
    ipureintro; rfl

set_option maxHeartbeats 8000000 in
theorem bodyC (hc0 : ¬ first i) (hc1 : last i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)) -∗ K ⟨⟩))
      ⊢ wp frame (wpE (defs₀ (F := F)) Variants.none c none) Set.univ (cc0_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
    simp only [cc0_decode_eq_skeleton]; unfold cc0_decode_skel
    simp only [k0_part13_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg16.eq_unread hf15
    obtain rfl := harg17.eq_unread hf16
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    iexists _, _; isplitr; swap; · iexact H33
    ipureintro; rfl

end Cases

/-! ## The pipeline's proof data -/

variable (m : (ℓ : Loc nD τ sig) → Buf (Elt F) ℓ) (ρ : Dev nD → PrngReg)

/-- The output windows: nothing is stated of what the body leaves in them. -/
def forgets : Fin 26 → Bool := fun w => w.val == 17 || w.val == 18 || w.val == 19 || w.val == 20 || w.val == 21 || w.val == 22 || w.val == 23 || w.val == 24 || w.val == 25

/-- The proof data on core `c`: the arrays as the region finds them; each input's buffer at its block after every point; the scratch
    at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem leaves_0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (ms6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (ms7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (ms8 t) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (ms9 t) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (ms10 t) fullShare (iblk m c 10 t) := by
  unfold Dat.leavesExact; rw [show cfg0.idle 10 (grid0.coords t) = false from rfl, after_10]
theorem leaves_11 (c : Dev nD) (t : Fin cfg0.N) : (dats m 0 c).leavesExact 11 t = owns (c : Thread nD τ) (ms11 t) fullShare (iblk m c 11 t) := by
  unfold Dat.leavesExact; rw [show cfg0.idle 11 (grid0.coords t) = false from rfl, after_11]
theorem leaves_12 (c : Dev nD) (t : Fin cfg0.N) : (dats m 0 c).leavesExact 12 t = owns (c : Thread nD τ) (ms12 t) fullShare (iblk m c 12 t) := by
  unfold Dat.leavesExact; rw [show cfg0.idle 12 (grid0.coords t) = false from rfl, after_12]
theorem leaves_13 (c : Dev nD) (t : Fin cfg0.N) : (dats m 0 c).leavesExact 13 t = owns (c : Thread nD τ) (ms13 t) fullShare (iblk m c 13 t) := by
  unfold Dat.leavesExact; rw [show cfg0.idle 13 (grid0.coords t) = false from rfl, after_13]
theorem leaves_14 (c : Dev nD) (t : Fin cfg0.N) : (dats m 0 c).leavesExact 14 t = owns (c : Thread nD τ) (ms14 t) fullShare (iblk m c 14 t) := by
  unfold Dat.leavesExact; rw [show cfg0.idle 14 (grid0.coords t) = false from rfl, after_14]
theorem leaves_15 (c : Dev nD) (t : Fin cfg0.N) : (dats m 0 c).leavesExact 15 t = owns (c : Thread nD τ) (ms15 t) fullShare (iblk m c 15 t) := by
  unfold Dat.leavesExact; rw [show cfg0.idle 15 (grid0.coords t) = false from rfl, after_15]
theorem leaves_16 (c : Dev nD) (t : Fin cfg0.N) : (dats m 0 c).leavesExact 16 t = owns (c : Thread nD τ) (ms16 t) fullShare (iblk m c 16 t) := by
  unfold Dat.leavesExact; rw [show cfg0.idle 16 (grid0.coords t) = false from rfl, after_16]

/-! ## The body obligation -/

/-- What the body is called with at point `t`, window by window, -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ d, owns (c : Thread nD τ) (ms14 t) fullShare ((dats m 0 c).before 14 t d)) ∗ (∃ d, owns (c : Thread nD τ) (ms15 t) fullShare ((dats m 0 c).before 15 t d)) ∗ (∃ d, owns (c : Thread nD τ) (ms16 t) fullShare ((dats m 0 c).before 16 t d)) ∗ (∃ d, owns (c : Thread nD τ) (ms17 t) fullShare d) ∗ (∃ d, owns (c : Thread nD τ) (ms18 t) fullShare d) ∗ (∃ d, owns (c : Thread nD τ) (ms19 t) fullShare d) ∗ (∃ d, owns (c : Thread nD τ) (ms20 t) fullShare d) ∗ (∃ d, owns (c : Thread nD τ) (ms21 t) fullShare d) ∗ (∃ d, owns (c : Thread nD τ) (ms22 t) fullShare d) ∗ (∃ d, owns (c : Thread nD τ) (ms23 t) fullShare d) ∗ (∃ d, owns (c : Thread nD τ) (ms24 t) fullShare d) ∗ (∃ d, owns (c : Thread nD τ) (ms25 t) fullShare d))

/-- and what it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (∃ d, owns (c : Thread nD τ) (ms17 t) fullShare d) ∗ (∃ d, owns (c : Thread nD τ) (ms18 t) fullShare d) ∗ (∃ d, owns (c : Thread nD τ) (ms19 t) fullShare d) ∗ (∃ d, owns (c : Thread nD τ) (ms20 t) fullShare d) ∗ (∃ d, owns (c : Thread nD τ) (ms21 t) fullShare d) ∗ (∃ d, owns (c : Thread nD τ) (ms22 t) fullShare d) ∗ (∃ d, owns (c : Thread nD τ) (ms23 t) fullShare d) ∗ (∃ d, owns (c : Thread nD τ) (ms24 t) fullShare d) ∗ (∃ d, owns (c : Thread nD τ) (ms25 t) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16]
  simp only [leaves_0, leaves_1, leaves_2, leaves_3, leaves_4, leaves_5, leaves_6, leaves_7, leaves_8, leaves_9, leaves_10, leaves_11, leaves_12, leaves_13, leaves_14, leaves_15, leaves_16]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  have hN : t.val < 8 := lt_of_lt_of_eq t.isLt (show cfg0.N = 8 from N_0)
  by_cases h0 : t.val % 8 = 0
  · have h1 : ¬ t.val % 8 = 7 := by omega
    · skip
      iintro ⟨⟨⟨H26, H27, H28, H29, H30, H31, H32, H33⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, H17, H18, H19, H20, H21, H22, H23, H24, H25⟩
      iapply (bodyA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((first_iff t).mpr h0) (fun h => h1 ((last_iff t).mp h)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      iintro ⟨H0, H1, H2, H3, H4, H5, H6, H7, H8, H9, H10, H11, H12, H13, H14, H15, H16, H17, H18, H19, H20, H21, H22, H23, H24, H25, H26, H27, H28, H29, H30, H31, H32, H33⟩
      isplitl [H26 H27 H28 H29 H30 H31 H32 H33 Hg]
      · isplitl [H26 H27 H28 H29 H30 H31 H32 H33]
        · isplitl [H26]; · iexact H26
          isplitl [H27]; · iexact H27
          isplitl [H28]; · iexact H28
          isplitl [H29]; · iexact H29
          isplitl [H30]; · iexact H30
          isplitl [H31]; · iexact H31
          isplitl [H32]; · iexact H32
          iexact H33
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      iexact H25

  · by_cases h1 : t.val % 8 = 7
    · skip
      iintro ⟨⟨⟨H26, H27, H28, H29, H30, H31, H32, H33⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, H17, H18, H19, H20, H21, H22, H23, H24, H25⟩
      iapply (bodyC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun h => h0 ((first_iff t).mp h)) ((last_iff t).mpr h1) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      iintro ⟨H0, H1, H2, H3, H4, H5, H6, H7, H8, H9, H10, H11, H12, H13, H14, H15, H16, H17, H18, H19, H20, H21, H22, H23, H24, H25, H26, H27, H28, H29, H30, H31, H32, H33⟩
      isplitl [H26 H27 H28 H29 H30 H31 H32 H33 Hg]
      · isplitl [H26 H27 H28 H29 H30 H31 H32 H33]
        · isplitl [H26]; · iexact H26
          isplitl [H27]; · iexact H27
          isplitl [H28]; · iexact H28
          isplitl [H29]; · iexact H29
          isplitl [H30]; · iexact H30
          isplitl [H31]; · iexact H31
          isplitl [H32]; · iexact H32
          iexact H33
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      iexact H25

    · skip
      iintro ⟨⟨⟨H26, H27, H28, H29, H30, H31, H32, H33⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, H17, H18, H19, H20, H21, H22, H23, H24, H25⟩
      iapply (bodyB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun h => h0 ((first_iff t).mp h)) (fun h => h1 ((last_iff t).mp h)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      iintro ⟨H0, H1, H2, H3, H4, H5, H6, H7, H8, H9, H10, H11, H12, H13, H14, H15, H16, H17, H18, H19, H20, H21, H22, H23, H24, H25, H26, H27, H28, H29, H30, H31, H32, H33⟩
      isplitl [H26 H27 H28 H29 H30 H31 H32 H33 Hg]
      · isplitl [H26 H27 H28 H29 H30 H31 H32 H33]
        · isplitl [H26]; · iexact H26
          isplitl [H27]; · iexact H27
          isplitl [H28]; · iexact H28
          isplitl [H29]; · iexact H29
          isplitl [H30]; · iexact H30
          isplitl [H31]; · iexact H31
          isplitl [H32]; · iexact H32
          iexact H33
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      iexact H25

theorem row (t : Fin cfg0.N) : defs₀ (F := F) .tc cfg0.body (cfg0.bodyArgs t (cfg0.slots t)) = bodyAt0 t := by
  unfold defs₀; rw [Defs.onTc_tc]

set_option maxHeartbeats 1000000 in
theorem body_obligation (c : Dev nD) : BodyObligation (dats (F := F) m 0 c) (defs₀ (F := F)) Variants.none () Set.univ forgets := fun t => by
  rw [bigSep_W0, bigSep_W0, row]
  exact triple_restated (sound_body m c t) rfl .rfl fun _ => .rfl

/-! ## The run and the frame -/

set_option backward.isDefEq.respectTransparency.types false in
/-- The launch: what the inputs and the other buffers end at, and every semaphore counter at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- Every argument array ends as it began, off any relational data's run. -/
theorem unchanged_of (rdat : (c : Dev nD) → RDat τ (Elt F) Unit ℕ (UR sig nD τ) ℕ (cfgs 0) c)
    (hA : ∀ c w, (rdat c).A w = V m c (Pipeline.arrRef spec0 w)) {r : PUnit × MemSt nD τ sig (Elt F)}
    (h : Pipeline.RDat.FramePost (cfgs 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩

set_option maxHeartbeats 1000000 in
/-- The frame: the run ends, every argument array ends as it began, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ h => ⟨fun c => unchanged_of m _ (fun c w => A_eq m c w) h.1 c, h.2⟩) (run_main m ρ)

end Cert.KernelIdeal.Run

end
-- ==== Proof.KernelIdealTrips.lean ====
module

public import proofs.«01_k».proof.Proof.Gen.KernelIdeal.Frame
public import proofs.«01_k».proof.Proof.Gen.KernelIdeal.Loops
public import Idealize.ShloMosaic.Lib.WritesUnit
public import Idealize.ShloMosaic.Lib.VecWindow
public import Idealize.ShloMosaic.Lib.Pointwise.Index
public import Idealize.ShloMosaic.Lib.ValueIdx

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

local notation "𝕄" => MT nD τ sig Unit (Elt F) ℕ (UR sig nD τ) ℕ

/-! ## What one trip of the loop over a block's sequences writes -/

/-- The state of the block's sequence `k` after its token. -/
def stTrip (i : grid0.Coords) (k : Fin k0_t1_loop.trips) (x2 : S16x4x64x128.Idx → Elt F .f32) (tq : S1280x128.Idx → Elt F .bf16)
    (gv : S128x512.Idx → Elt F .f32) : S1x4x64x128.Idx → Elt F .f32 :=
  k0_pay21 (BitVec.ofNat 32 (i 0).val) (iota .tc S128x128 32 [0] iota_S128x128_d0_w32) 0#32 1#32 k tq
    (VecWindow.window (s := S16x4x64x128) x2 (k0_off1 k) S1x4x64x128.size (k0_off1_inb k))
    (VecWindow.window (s := S128x512) gv (k0_off2 i k) S1x512.size (k0_off2_inb i k))

/-- The linear attention's output row of that sequence. -/
def ogTrip (i : grid0.Coords) (k : Fin k0_t1_loop.trips) (x2 : S16x4x64x128.Idx → Elt F .f32) (tq : S1280x128.Idx → Elt F .bf16)
    (gv : S128x512.Idx → Elt F .f32) : S1x512.Idx → Elt F .f32 :=
  k0_pay24
    (k0_pay22 (BitVec.ofNat 32 (i 0).val) (iota .tc S128x128 32 [0] iota_S128x128_d0_w32) 0#32 1#32 k tq
      (VecWindow.window (s := S16x4x64x128) x2 (k0_off1 k) S1x4x64x128.size (k0_off1_inb k))
      (VecWindow.window (s := S128x512) gv (k0_off2 i k) S1x512.size (k0_off2_inb i k)))
    (k0_pay23 (BitVec.ofNat 32 (i 0).val) (iota .tc S128x128 32 [0] iota_S128x128_d0_w32) 0#32 1#32 k tq
      (VecWindow.window (s := S16x4x64x128) x2 (k0_off1 k) S1x4x64x128.size (k0_off1_inb k))
      (VecWindow.window (s := S128x512) gv (k0_off2 i k) S1x512.size (k0_off2_inb i k)))

/-- The rolled cache (keys or values) of that sequence, two dimensional. -/
def rolled (i : grid0.Coords) (k : Fin k0_t1_loop.trips) (x3 : S16x128x128.Idx → Elt F .f32) (sk : S128x128.Idx → Elt F .f32) : S128x128.Idx → Elt F .f32 :=
  k0_pay25 (iota .tc S128x128 32 [0] iota_S128x128_d0_w32) (VecWindow.window (s := S128x128) sk (k0_off3 i k) S1x128.size (k0_off3_inb i k))
    (VecWindow.window (s := S16x128x128) x3 (k0_off4 k) S1x128x128.size (k0_off4_inb k))

/-- The cache block's sequence `k` after its token. -/
def knTrip (i : grid0.Coords) (k : Fin k0_t1_loop.trips) (x3 : S16x128x128.Idx → Elt F .f32) (sk : S128x128.Idx → Elt F .f32) : S1x128x128.Idx → Elt F .f32 :=
  k0_pay28 (rolled i k x3 sk)

/-- The window attention's output row of that sequence; `sc` is the column of sink logits. -/
def osTrip (i : grid0.Coords) (k : Fin k0_t1_loop.trips) (sc : FVec F S16x1 .f32) (x3 x4 : S16x128x128.Idx → Elt F .f32) (x6 : S16x128.Idx → Elt F .f32)
    (sq : S128x512.Idx → Elt F .f32) (sk sv : S128x128.Idx → Elt F .f32) : S1x512.Idx → Elt F .f32 :=
  k0_pay2 k0_pay98 (k0_pay29 k0_pay97 (rolled i k x4 sv))
    (k0_pay33 k0_pay97 k0_pay98 sc (rolled i k x3 sk) (VecWindow.window (s := S128x512) sq (k0_off2 i k) S1x512.size (k0_off2_inb i k)) x6)
    (k0_pay34 k0_pay97 k0_pay98 sc (rolled i k x3 sk) (VecWindow.window (s := S128x512) sq (k0_off2 i k) S1x512.size (k0_off2_inb i k)) x6)
    (constant S16x512 .f32 0x00000000#32)

theorem trips_eq : k0_t1_loop.trips = 16 := by decide

/-! ## The offsets of a trip -/

theorem off1_eq (k : Fin k0_t1_loop.trips) : k0_off1 k = ![k.val, 0, 0, 0] := by
  obtain ⟨k, hk⟩ := k
  have hk' : k < 16 := trips_eq ▸ hk
  unfold k0_off1; dsimp only
  interval_cases k <;> rfl

theorem off4_eq (k : Fin k0_t1_loop.trips) : k0_off4 k = ![k.val, 0, 0] := by
  obtain ⟨k, hk⟩ := k
  have hk' : k < 16 := trips_eq ▸ hk
  unfold k0_off4; dsimp only
  interval_cases k <;> rfl

theorem word_eq (a k : ℕ) (ha : a < 8) (hk : k < 16) :
    (Scalar.addi (Scalar.muli (BitVec.ofNat 32 a) 16#32) (BitVec.ofNat 32 k)) = BitVec.ofNat 32 (16 * a + k) := by
  interval_cases a <;> interval_cases k <;> rfl

theorem iv_eq (k : Fin k0_t1_loop.trips) : Scf.iv 0#32 1#32 k = BitVec.ofNat 32 k.val := by
  obtain ⟨k, hk⟩ := k
  have hk' : k < 16 := trips_eq ▸ hk
  interval_cases k <;> rfl

theorem off2_eq (i : grid0.Coords) (k : Fin k0_t1_loop.trips) : k0_off2 i k = ![16 * (i 0).val + k.val, 0] := by
  have hk' : k.val < 16 := trips_eq ▸ k.isLt
  have hi : (i 0).val < 8 := (i 0).isLt
  unfold k0_off2; dsimp only
  rw [iv_eq, word_eq _ _ hi hk']
  have : (Scalar.indexCast (BitVec.ofNat 32 (16 * (i 0).val + k.val)) : Index).toNat = 16 * (i 0).val + k.val := by
    show (BitVec.ofNat 32 _).toNat = _
    rw [BitVec.toNat_ofNat]; omega
  rw [this]

theorem off3_eq (i : grid0.Coords) (k : Fin k0_t1_loop.trips) : k0_off3 i k = ![16 * (i 0).val + k.val, 0] := off2_eq i k

/-! ## The blocks the loop leaves -/

/-- The state block after the loop. -/
def stOut (i : grid0.Coords) (x2 : S16x4x64x128.Idx → Elt F .f32) (tq : S1280x128.Idx → Elt F .bf16)
    (gv : S128x512.Idx → Elt F .f32) : S16x4x64x128.Idx → Elt F .f32 :=
  fun y => stTrip i ⟨(y 0).val, Nat.lt_of_lt_of_eq (y 0).isLt trips_eq.symm⟩ x2 tq gv (ix4 (0 : Fin 1) (y 1) (y 2) (y 3))

/-- A cache block after the loop. -/
def knOut (i : grid0.Coords) (x3 : S16x128x128.Idx → Elt F .f32) (sk : S128x128.Idx → Elt F .f32) : S16x128x128.Idx → Elt F .f32 :=
  fun y => knTrip i ⟨(y 0).val, Nat.lt_of_lt_of_eq (y 0).isLt trips_eq.symm⟩ x3 sk (ix3 (0 : Fin 1) (y 1) (y 2))

/-- A row buffer after the loop: the block's sixteen rows written, the others as they were. -/
def rowOut (i : grid0.Coords) (T : Fin k0_t1_loop.trips → S1x512.Idx → Elt F .f32) (d : S128x512.Idx → Elt F .f32) : S128x512.Idx → Elt F .f32 :=
  fun y => if h : 16 * (i 0).val ≤ (y 0).val ∧ (y 0).val < 16 * (i 0).val + 16 then
    T ⟨(y 0).val - 16 * (i 0).val, Nat.lt_of_lt_of_eq (by omega) trips_eq.symm⟩ (ix2 (0 : Fin 1) (y 1)) else d y

/-- The members of lists put in front of each other, one per trip. -/
theorem mem_accumulated {α : Type} {N : ℕ} (T : Fin N → List α) (L : ℕ → List α) (h0 : L 0 = [])
    (hs : ∀ k : Fin N, L (k.val + 1) = T k ++ L k.val) : ∀ n, n ≤ N → ∀ p, p ∈ L n ↔ ∃ k : Fin N, k.val < n ∧ p ∈ T k
  | 0, _, p => by rw [h0]; exact ⟨fun h => absurd h List.not_mem_nil, fun ⟨k, hk, _⟩ => absurd hk (Nat.not_lt_zero _)⟩
  | n + 1, hn, p => by
    rw [show L (n + 1) = T ⟨n, hn⟩ ++ L n from hs ⟨n, hn⟩, List.mem_append, mem_accumulated T L h0 hs n (by omega) p]
    constructor
    · rintro (h | ⟨k, hk, h⟩)
      · exact ⟨⟨n, hn⟩, Nat.lt_succ_self n, h⟩
      · exact ⟨k, by omega, h⟩
    · rintro ⟨k, hk, h⟩
      by_cases e : k.val = n
      · obtain rfl : k = ⟨n, hn⟩ := Fin.ext e
        exact .inl h
      · exact .inr ⟨k, by omega, h⟩

/-! ### A trip's rectangle -/

theorem block4_pull {α : Type} (T : Fin k0_t1_loop.trips → S1x4x64x128.Idx → α) (k : Fin k0_t1_loop.trips) (off : Fin 4 → ℕ)
    (inb : ∀ a, off a + S1x4x64x128.size a ≤ S16x4x64x128.size a) (h : off = ![k.val, 0, 0, 0]) (x : (Rect.unit (s := S16x4x64x128) off S1x4x64x128.size inb).shape.Idx) :
    (fun y : S16x4x64x128.Idx => T ⟨(y 0).val, Nat.lt_of_lt_of_eq (y 0).isLt trips_eq.symm⟩ (ix4 (0 : Fin 1) (y 1) (y 2) (y 3))) ((Rect.unit (s := S16x4x64x128) off S1x4x64x128.size inb).emb x) = T k x := by
  subst h
  have h0 : (x 0).val < 1 := (x 0).isLt
  have e : (⟨(((Rect.unit (s := S16x4x64x128) ![k.val, 0, 0, 0] S1x4x64x128.size inb).emb x) 0).val,
      Nat.lt_of_lt_of_eq (((Rect.unit (s := S16x4x64x128) ![k.val, 0, 0, 0] S1x4x64x128.size inb).emb x) 0).isLt trips_eq.symm⟩ : Fin k0_t1_loop.trips) = k :=
    Fin.ext (by show k.val + 1 * (x 0).val = k.val; omega)
  show T _ _ = T k x
  rw [e]
  refine congrArg (T k) (funext fun a => Fin.ext ?_)
  match a with
  | ⟨0, _⟩ => show 0 = (x 0).val; omega
  | ⟨1, _⟩ => show 0 + 1 * (x 1).val = (x 1).val; omega
  | ⟨2, _⟩ => show 0 + 1 * (x 2).val = (x 2).val; omega
  | ⟨3, _⟩ => show 0 + 1 * (x 3).val = (x 3).val; omega

theorem block4_mem (k : ℕ) (off : Fin 4 → ℕ) (inb : ∀ a, off a + S1x4x64x128.size a ≤ S16x4x64x128.size a) (h : off = ![k, 0, 0, 0])
    (y : S16x4x64x128.Idx) (hy : (y 0).val = k) : y ∈ (Rect.unit (s := S16x4x64x128) off S1x4x64x128.size inb).set := by
  subst h
  refine Rect.mem_set_unit.mpr fun a => ?_
  match a with
  | ⟨0, _⟩ => exact ⟨by show k ≤ (y 0).val; omega, by show (y 0).val < k + 1; omega⟩
  | ⟨1, _⟩ => exact ⟨Nat.zero_le _, Nat.lt_of_lt_of_eq (y 1).isLt (Nat.zero_add _).symm⟩
  | ⟨2, _⟩ => exact ⟨Nat.zero_le _, Nat.lt_of_lt_of_eq (y 2).isLt (Nat.zero_add _).symm⟩
  | ⟨3, _⟩ => exact ⟨Nat.zero_le _, Nat.lt_of_lt_of_eq (y 3).isLt (Nat.zero_add _).symm⟩

theorem block3_pull {α : Type} (T : Fin k0_t1_loop.trips → S1x128x128.Idx → α) (k : Fin k0_t1_loop.trips) (off : Fin 3 → ℕ)
    (inb : ∀ a, off a + S1x128x128.size a ≤ S16x128x128.size a) (h : off = ![k.val, 0, 0]) (x : (Rect.unit (s := S16x128x128) off S1x128x128.size inb).shape.Idx) :
    (fun y : S16x128x128.Idx => T ⟨(y 0).val, Nat.lt_of_lt_of_eq (y 0).isLt trips_eq.symm⟩ (ix3 (0 : Fin 1) (y 1) (y 2))) ((Rect.unit (s := S16x128x128) off S1x128x128.size inb).emb x) = T k x := by
  subst h
  have h0 : (x 0).val < 1 := (x 0).isLt
  have e : (⟨(((Rect.unit (s := S16x128x128) ![k.val, 0, 0] S1x128x128.size inb).emb x) 0).val,
      Nat.lt_of_lt_of_eq (((Rect.unit (s := S16x128x128) ![k.val, 0, 0] S1x128x128.size inb).emb x) 0).isLt trips_eq.symm⟩ : Fin k0_t1_loop.trips) = k :=
    Fin.ext (by show k.val + 1 * (x 0).val = k.val; omega)
  show T _ _ = T k x
  rw [e]
  refine congrArg (T k) (funext fun a => Fin.ext ?_)
  match a with
  | ⟨0, _⟩ => show 0 = (x 0).val; omega
  | ⟨1, _⟩ => show 0 + 1 * (x 1).val = (x 1).val; omega
  | ⟨2, _⟩ => show 0 + 1 * (x 2).val = (x 2).val; omega

theorem block3_mem (k : ℕ) (off : Fin 3 → ℕ) (inb : ∀ a, off a + S1x128x128.size a ≤ S16x128x128.size a) (h : off = ![k, 0, 0])
    (y : S16x128x128.Idx) (hy : (y 0).val = k) : y ∈ (Rect.unit (s := S16x128x128) off S1x128x128.size inb).set := by
  subst h
  refine Rect.mem_set_unit.mpr fun a => ?_
  match a with
  | ⟨0, _⟩ => exact ⟨by show k ≤ (y 0).val; omega, by show (y 0).val < k + 1; omega⟩
  | ⟨1, _⟩ => exact ⟨Nat.zero_le _, Nat.lt_of_lt_of_eq (y 1).isLt (Nat.zero_add _).symm⟩
  | ⟨2, _⟩ => exact ⟨Nat.zero_le _, Nat.lt_of_lt_of_eq (y 2).isLt (Nat.zero_add _).symm⟩

theorem rows_pull (i : grid0.Coords) (T : Fin k0_t1_loop.trips → S1x512.Idx → Elt F .f32) (d : S128x512.Idx → Elt F .f32) (k : Fin k0_t1_loop.trips) (off : Fin 2 → ℕ)
    (inb : ∀ a, off a + S1x512.size a ≤ S128x512.size a) (h : off = ![16 * (i 0).val + k.val, 0]) (x : (Rect.unit (s := S128x512) off S1x512.size inb).shape.Idx) :
    rowOut i T d ((Rect.unit (s := S128x512) off S1x512.size inb).emb x) = T k x := by
  subst h
  have h0 : (x 0).val < 1 := (x 0).isLt
  have hk : k.val < 16 := Nat.lt_of_lt_of_eq k.isLt trips_eq
  have e0 : (((Rect.unit (s := S128x512) ![16 * (i 0).val + k.val, 0] S1x512.size inb).emb x) 0).val = 16 * (i 0).val + k.val := by
    show 16 * (i 0).val + k.val + 1 * (x 0).val = _; omega
  refine (dif_pos ⟨by omega, by omega⟩).trans ?_
  have e : ∀ q, (⟨(((Rect.unit (s := S128x512) ![16 * (i 0).val + k.val, 0] S1x512.size inb).emb x) 0).val - 16 * (i 0).val, q⟩ : Fin k0_t1_loop.trips) = k :=
    fun q => Fin.ext (by show _ - _ = k.val; omega)
  rw [e]
  refine congrArg (T k) (funext fun a => Fin.ext ?_)
  match a with
  | ⟨0, _⟩ => show 0 = (x 0).val; omega
  | ⟨1, _⟩ => show 0 + 1 * (x 1).val = (x 1).val; omega

theorem rows_mem (r : ℕ) (off : Fin 2 → ℕ) (inb : ∀ a, off a + S1x512.size a ≤ S128x512.size a) (h : off = ![r, 0])
    (y : S128x512.Idx) (hy : (y 0).val = r) : y ∈ (Rect.unit (s := S128x512) off S1x512.size inb).set := by
  subst h
  refine Rect.mem_set_unit.mpr fun a => ?_
  match a with
  | ⟨0, _⟩ => exact ⟨by show r ≤ (y 0).val; omega, by show (y 0).val < r + 1; omega⟩
  | ⟨1, _⟩ => exact ⟨Nat.zero_le _, Nat.lt_of_lt_of_eq (y 1).isLt (Nat.zero_add _).symm⟩

theorem rows_of_mem (r : ℕ) (off : Fin 2 → ℕ) (inb : ∀ a, off a + S1x512.size a ≤ S128x512.size a) (h : off = ![r, 0])
    (y : S128x512.Idx) (hy : y ∈ (Rect.unit (s := S128x512) off S1x512.size inb).set) : (y 0).val = r := by
  subst h
  have h := Rect.mem_set_unit.mp hy 0
  have h1 : r ≤ (y 0).val := h.1
  have h2 : (y 0).val < r + 1 := h.2
  omega

section Trips

variable (c : Dev nD) (i : grid0.Coords) (arg1 : Memref sig .tc .smem S8 .f32) (harg1 : arg1.IsWhole) (arg2 : Memref sig .tc .vmem S128x1024 .f32) (harg2 : arg2.IsWhole) (arg3 : Memref sig .tc .vmem S16x4x64x128 .f32) (harg3 : arg3.IsWhole) (arg4 : Memref sig .tc .vmem S16x128x128 .f32) (harg4 : arg4.IsWhole) (arg5 : Memref sig .tc .vmem S16x128x128 .f32) (harg5 : arg5.IsWhole) (arg6 : Memref sig .tc .vmem S32x128 .f32) (harg6 : arg6.IsWhole) (arg7 : Memref sig .tc .vmem S16x128 .f32) (harg7 : arg7.IsWhole) (arg8 : Memref sig .tc .vmem S1x1024 .f32) (harg8 : arg8.IsWhole) (arg9 : Memref sig .tc .vmem S1024x2432 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x128 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S64x1024 .bf16) (harg16 : arg16.IsWhole) (arg17 : Memref sig .tc .vmem S32x1 .f32) (harg17 : arg17.IsWhole) (arg18 : Memref sig .tc .vmem S128x1024 .f32) (harg18 : arg18.IsWhole) (arg19 : Memref sig .tc .vmem S512x2x128 .bf16) (harg19 : arg19.IsWhole) (arg20 : Memref sig .tc .vmem S8x128 .i32) (harg20 : arg20.IsWhole) (arg21 : Memref sig .tc .vmem S8x128 .f32) (harg21 : arg21.IsWhole) (arg22 : Memref sig .tc .vmem S8x128 .i32) (harg22 : arg22.IsWhole) (arg23 : Memref sig .tc .vmem S16x4x64x128 .f32) (harg23 : arg23.IsWhole) (arg24 : Memref sig .tc .vmem S16x128x128 .f32) (harg24 : arg24.IsWhole) (arg25 : Memref sig .tc .vmem S16x128x128 .f32) (harg25 : arg25.IsWhole) (arg26 : Memref sig .tc .vmem S32x128 .f32) (harg26 : arg26.IsWhole) (arg27 : Memref sig .tc .vmem S1280x128 .bf16) (harg27 : arg27.IsWhole) (arg28 : Memref sig .tc .vmem S128x512 .f32) (harg28 : arg28.IsWhole) (arg29 : Memref sig .tc .vmem S128x512 .f32) (harg29 : arg29.IsWhole) (arg30 : Memref sig .tc .vmem S128x512 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S128x512 .f32) (harg33 : arg33.IsWhole) (arg34 : Memref sig .tc .vmem S128x512 .f32) (harg34 : arg34.IsWhole)
variable (v36 : FVec F S1x1 .f32) (v38 : FVec F S1x1 .f32) (v40 : FVec F S1x1 .f32) (v42 : FVec F S1x1 .f32) (v43 : Elt F .f32) (v45 : Elt F .f32) (v47 : Elt F .f32) (v49 : Elt F .f32)
variable (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg27 : BufTy.Contents (Elt F) arg27.view.ty) (X_arg28 : BufTy.Contents (Elt F) arg28.view.ty) (X_arg30 : BufTy.Contents (Elt F) arg30.view.ty) (X_arg31 : BufTy.Contents (Elt F) arg31.view.ty) (X_arg32 : BufTy.Contents (Elt F) arg32.view.ty)

/-! ### The pieces of one trip -/

set_option maxHeartbeats 1000000 in
theorem trip_st (k : Fin k0_t1_loop.trips) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k).1 = [⟨Rect.unit (k0_off1 k) S1x4x64x128.size (k0_off1_inb k), stTrip i k (arg3.view.read (Elt F) X_arg3) (arg27.view.read (Elt F) X_arg27) (arg28.view.read (Elt F) X_arg28)⟩] := by
  have e : (arg27.view.readAt (Elt F) (Rect.unit (s := S1280x128) ![0, 0] S1280x128.size inb_S1280x128_S1280x128_0_0).toLoadRect X_arg27) = (arg27.view.read (Elt F) X_arg27) := View.readAt_full _ _ _
  rw [← e]
  unfold trip_k0_t1 stTrip
  dsimp only
  refine congrArg (fun z => [z]) ?_
  refine congrArg (fun z => (⟨_, z⟩ : View.Piece (Elt F) S16x4x64x128 .f32)) ?_
  rfl

set_option maxHeartbeats 1000000 in
theorem trip_kn (k : Fin k0_t1_loop.trips) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k).2.1 = [⟨Rect.unit (k0_off4 k) S1x128x128.size (k0_off4_inb k), knTrip i k (arg4.view.read (Elt F) X_arg4) (arg31.view.read (Elt F) X_arg31)⟩] := by
  unfold trip_k0_t1 knTrip rolled
  dsimp only
  refine congrArg (fun z => [z]) ?_
  refine congrArg (fun z => (⟨_, z⟩ : View.Piece (Elt F) S16x128x128 .f32)) ?_
  rfl

set_option maxHeartbeats 1000000 in
theorem trip_vn (k : Fin k0_t1_loop.trips) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k).2.2.1 = [⟨Rect.unit (k0_off4 k) S1x128x128.size (k0_off4_inb k), knTrip i k (arg5.view.read (Elt F) X_arg5) (arg32.view.read (Elt F) X_arg32)⟩] := by
  unfold trip_k0_t1 knTrip rolled
  unfold trip_k0_t1.sl.r_3
  dsimp only
  refine congrArg (fun z => [z]) ?_
  refine congrArg (fun z => (⟨_, z⟩ : View.Piece (Elt F) S16x128x128 .f32)) ?_
  rfl

set_option maxHeartbeats 1000000 in
theorem trip_og (k : Fin k0_t1_loop.trips) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k).2.2.2.1 = [⟨Rect.unit (k0_off2 i k) S1x512.size (k0_off2_inb i k), ogTrip i k (arg3.view.read (Elt F) X_arg3) (arg27.view.read (Elt F) X_arg27) (arg28.view.read (Elt F) X_arg28)⟩] := by
  have e : (arg27.view.readAt (Elt F) (Rect.unit (s := S1280x128) ![0, 0] S1280x128.size inb_S1280x128_S1280x128_0_0).toLoadRect X_arg27) = (arg27.view.read (Elt F) X_arg27) := View.readAt_full _ _ _
  rw [← e]
  unfold trip_k0_t1 ogTrip
  unfold trip_k0_t1.sl.r trip_k0_t1.sl.r_1
  dsimp only
  refine congrArg (fun z => [z]) ?_
  refine congrArg (fun z => (⟨_, z⟩ : View.Piece (Elt F) S128x512 .f32)) ?_
  rfl

set_option maxHeartbeats 1000000 in
theorem trip_os (k : Fin k0_t1_loop.trips) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k).2.2.2.2.1 = [⟨Rect.unit (k0_off2 i k) S1x512.size (k0_off2_inb i k), osTrip i k (k0_pay1 v36 v38 v40 v42 v43 v45 v47 v49) (arg4.view.read (Elt F) X_arg4) (arg5.view.read (Elt F) X_arg5) (arg7.view.read (Elt F) X_arg7) (arg30.view.read (Elt F) X_arg30) (arg31.view.read (Elt F) X_arg31) (arg32.view.read (Elt F) X_arg32)⟩] := by
  have e : (arg7.view.readAt (Elt F) (Rect.unit (s := S16x128) ![0, 0] S16x128.size inb_S16x128_S16x128_0_0).toLoadRect X_arg7) = (arg7.view.read (Elt F) X_arg7) := View.readAt_full _ _ _
  rw [← e]
  unfold trip_k0_t1 osTrip rolled
  unfold trip_k0_t1.sl.r_4 trip_k0_t1.sl.r_5 trip_k0_t1.sl.r_6 trip_k0_t1.sl.cst_50
  dsimp only
  refine congrArg (fun z => [z]) ?_
  refine congrArg (fun z => (⟨_, z⟩ : View.Piece (Elt F) S128x512 .f32)) ?_
  refine congr (congr (congr (congrArg (k0_pay2 k0_pay98) ?_) ?_) ?_) ?_
  · rfl
  · rfl
  · rfl
  · rfl

theorem mem_st (p) : p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k0_t1_loop.trips).1 ↔ ∃ k : Fin k0_t1_loop.trips,
    p = ⟨Rect.unit (k0_off1 k) S1x4x64x128.size (k0_off1_inb k), stTrip i k (arg3.view.read (Elt F) X_arg3) (arg27.view.read (Elt F) X_arg27) (arg28.view.read (Elt F) X_arg28)⟩ := by
  rw [mem_accumulated (fun k => (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k).1) (fun n => (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 n).1) rfl
    (fun k => congrArg (fun z => z.1) (pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k)) _ (le_refl _) p]
  exact ⟨fun ⟨k, _, h⟩ => ⟨k, List.mem_singleton.mp ((congrArg (p ∈ ·) (trip_st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 k)).mp h)⟩,
    fun ⟨k, h⟩ => ⟨k, k.isLt, (congrArg (p ∈ ·) (trip_st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 k)).mpr (List.mem_singleton.mpr h)⟩⟩

theorem mem_kn (p) : p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k0_t1_loop.trips).2.1 ↔ ∃ k : Fin k0_t1_loop.trips,
    p = ⟨Rect.unit (k0_off4 k) S1x128x128.size (k0_off4_inb k), knTrip i k (arg4.view.read (Elt F) X_arg4) (arg31.view.read (Elt F) X_arg31)⟩ := by
  rw [mem_accumulated (fun k => (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k).2.1) (fun n => (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 n).2.1) rfl
    (fun k => congrArg (fun z => z.2.1) (pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k)) _ (le_refl _) p]
  exact ⟨fun ⟨k, _, h⟩ => ⟨k, List.mem_singleton.mp ((congrArg (p ∈ ·) (trip_kn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 k)).mp h)⟩,
    fun ⟨k, h⟩ => ⟨k, k.isLt, (congrArg (p ∈ ·) (trip_kn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 k)).mpr (List.mem_singleton.mpr h)⟩⟩

theorem mem_vn (p) : p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k0_t1_loop.trips).2.2.1 ↔ ∃ k : Fin k0_t1_loop.trips,
    p = ⟨Rect.unit (k0_off4 k) S1x128x128.size (k0_off4_inb k), knTrip i k (arg5.view.read (Elt F) X_arg5) (arg32.view.read (Elt F) X_arg32)⟩ := by
  rw [mem_accumulated (fun k => (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k).2.2.1) (fun n => (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 n).2.2.1) rfl
    (fun k => congrArg (fun z => z.2.2.1) (pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k)) _ (le_refl _) p]
  exact ⟨fun ⟨k, _, h⟩ => ⟨k, List.mem_singleton.mp ((congrArg (p ∈ ·) (trip_vn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 k)).mp h)⟩,
    fun ⟨k, h⟩ => ⟨k, k.isLt, (congrArg (p ∈ ·) (trip_vn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 k)).mpr (List.mem_singleton.mpr h)⟩⟩

theorem mem_og (p) : p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k0_t1_loop.trips).2.2.2.1 ↔ ∃ k : Fin k0_t1_loop.trips,
    p = ⟨Rect.unit (k0_off2 i k) S1x512.size (k0_off2_inb i k), ogTrip i k (arg3.view.read (Elt F) X_arg3) (arg27.view.read (Elt F) X_arg27) (arg28.view.read (Elt F) X_arg28)⟩ := by
  rw [mem_accumulated (fun k => (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k).2.2.2.1) (fun n => (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 n).2.2.2.1) rfl
    (fun k => congrArg (fun z => z.2.2.2.1) (pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k)) _ (le_refl _) p]
  exact ⟨fun ⟨k, _, h⟩ => ⟨k, List.mem_singleton.mp ((congrArg (p ∈ ·) (trip_og c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 k)).mp h)⟩,
    fun ⟨k, h⟩ => ⟨k, k.isLt, (congrArg (p ∈ ·) (trip_og c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 k)).mpr (List.mem_singleton.mpr h)⟩⟩

theorem mem_os (p) : p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k0_t1_loop.trips).2.2.2.2 ↔ ∃ k : Fin k0_t1_loop.trips,
    p = ⟨Rect.unit (k0_off2 i k) S1x512.size (k0_off2_inb i k), osTrip i k (k0_pay1 v36 v38 v40 v42 v43 v45 v47 v49) (arg4.view.read (Elt F) X_arg4) (arg5.view.read (Elt F) X_arg5) (arg7.view.read (Elt F) X_arg7) (arg30.view.read (Elt F) X_arg30) (arg31.view.read (Elt F) X_arg31) (arg32.view.read (Elt F) X_arg32)⟩ := by
  rw [mem_accumulated (fun k => (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k).2.2.2.2.1) (fun n => (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 n).2.2.2.2) rfl
    (fun k => congrArg (fun z => z.2.2.2.2) (pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k)) _ (le_refl _) p]
  exact ⟨fun ⟨k, _, h⟩ => ⟨k, List.mem_singleton.mp ((congrArg (p ∈ ·) (trip_os c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 k)).mp h)⟩,
    fun ⟨k, h⟩ => ⟨k, k.isLt, (congrArg (p ∈ ·) (trip_os c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 k)).mpr (List.mem_singleton.mpr h)⟩⟩

/-! ### What the loop leaves -/

theorem read_st (G : BufTy.Contents (Elt F) arg23.view.ty) :
    arg23.view.read (Elt F) (arg23.view.writes (Elt F) G (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k0_t1_loop.trips).1) = stOut i (arg3.view.read (Elt F) X_arg3) (arg27.view.read (Elt F) X_arg27) (arg28.view.read (Elt F) X_arg28) := by
  funext y
  refine View.read_writes_apply_of_pieces _ _ _ _ ?_ y ?_
  · intro p hp x
    obtain ⟨k, rfl⟩ := (mem_st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 p).mp hp
    exact (block4_pull (fun k => stTrip i k (arg3.view.read (Elt F) X_arg3) (arg27.view.read (Elt F) X_arg27) (arg28.view.read (Elt F) X_arg28)) k _ (k0_off1_inb k) (off1_eq k) x).symm
  · exact ⟨_, (mem_st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 _).mpr ⟨⟨(y 0).val, Nat.lt_of_lt_of_eq (y 0).isLt trips_eq.symm⟩, rfl⟩,
      block4_mem _ _ (k0_off1_inb _) (off1_eq _) y rfl⟩

theorem read_kn (G : BufTy.Contents (Elt F) arg24.view.ty) :
    arg24.view.read (Elt F) (arg24.view.writes (Elt F) G (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k0_t1_loop.trips).2.1) = knOut i (arg4.view.read (Elt F) X_arg4) (arg31.view.read (Elt F) X_arg31) := by
  funext y
  refine View.read_writes_apply_of_pieces _ _ _ _ ?_ y ?_
  · intro p hp x
    obtain ⟨k, rfl⟩ := (mem_kn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 p).mp hp
    exact (block3_pull (fun k => knTrip i k (arg4.view.read (Elt F) X_arg4) (arg31.view.read (Elt F) X_arg31)) k _ (k0_off4_inb k) (off4_eq k) x).symm
  · exact ⟨_, (mem_kn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 _).mpr ⟨⟨(y 0).val, Nat.lt_of_lt_of_eq (y 0).isLt trips_eq.symm⟩, rfl⟩,
      block3_mem _ _ (k0_off4_inb _) (off4_eq _) y rfl⟩

theorem read_vn (G : BufTy.Contents (Elt F) arg25.view.ty) :
    arg25.view.read (Elt F) (arg25.view.writes (Elt F) G (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k0_t1_loop.trips).2.2.1) = knOut i (arg5.view.read (Elt F) X_arg5) (arg32.view.read (Elt F) X_arg32) := by
  funext y
  refine View.read_writes_apply_of_pieces _ _ _ _ ?_ y ?_
  · intro p hp x
    obtain ⟨k, rfl⟩ := (mem_vn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 p).mp hp
    exact (block3_pull (fun k => knTrip i k (arg5.view.read (Elt F) X_arg5) (arg32.view.read (Elt F) X_arg32)) k _ (k0_off4_inb k) (off4_eq k) x).symm
  · exact ⟨_, (mem_vn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 _).mpr ⟨⟨(y 0).val, Nat.lt_of_lt_of_eq (y 0).isLt trips_eq.symm⟩, rfl⟩,
      block3_mem _ _ (k0_off4_inb _) (off4_eq _) y rfl⟩

theorem read_og (G : BufTy.Contents (Elt F) arg33.view.ty) :
    arg33.view.read (Elt F) (arg33.view.writes (Elt F) G (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k0_t1_loop.trips).2.2.2.1) = rowOut i (ogTrip i · (arg3.view.read (Elt F) X_arg3) (arg27.view.read (Elt F) X_arg27) (arg28.view.read (Elt F) X_arg28)) (arg33.view.read (Elt F) G) := by
  funext y
  by_cases h : 16 * (i 0).val ≤ (y 0).val ∧ (y 0).val < 16 * (i 0).val + 16
  · refine View.read_writes_apply_of_pieces _ _ _ _ ?_ y ?_
    · intro p hp x
      obtain ⟨k, rfl⟩ := (mem_og c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 p).mp hp
      exact (rows_pull i (fun k => ogTrip i k (arg3.view.read (Elt F) X_arg3) (arg27.view.read (Elt F) X_arg27) (arg28.view.read (Elt F) X_arg28)) _ k _ (k0_off2_inb i k) (off2_eq i k) x).symm
    · exact ⟨_, (mem_og c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 _).mpr ⟨⟨(y 0).val - 16 * (i 0).val, Nat.lt_of_lt_of_eq (by omega) trips_eq.symm⟩, rfl⟩,
        rows_mem _ _ (k0_off2_inb i _) (off2_eq i _) y (by show (y 0).val = 16 * (i 0).val + ((y 0).val - 16 * (i 0).val); omega)⟩
  · rw [View.read_writes_apply_of_forall_not_mem]
    · unfold rowOut; rw [dif_neg h]
    · intro p hp hy
      obtain ⟨k, rfl⟩ := (mem_og c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 p).mp hp
      have := rows_of_mem _ _ (k0_off2_inb i k) (off2_eq i k) y hy
      have hk : k.val < 16 := Nat.lt_of_lt_of_eq k.isLt trips_eq
      omega

theorem read_os (G : BufTy.Contents (Elt F) arg34.view.ty) :
    arg34.view.read (Elt F) (arg34.view.writes (Elt F) G (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 (BitVec.ofNat 32 (i 0).val) (iota .tc S128x128 32 [0] iota_S128x128_d0_w32) k0_pay97 (iota .tc S128x128 32 [0] iota_S128x128_d0_w32) k0_pay98 v36 v38 v40 v42 v43 v45 v47 v49 X_arg3 X_arg4 X_arg5 X_arg7 X_arg27 X_arg28 X_arg30 X_arg31 X_arg32 k0_t1_loop.trips).2.2.2.2) = rowOut i (osTrip i · (k0_pay1 v36 v38 v40 v42 v43 v45 v47 v49) (arg4.view.read (Elt F) X_arg4) (arg5.view.read (Elt F) X_arg5) (arg7.view.read (Elt F) X_arg7) (arg30.view.read (Elt F) X_arg30) (arg31.view.read (Elt F) X_arg31) (arg32.view.read (Elt F) X_arg32)) (arg34.view.read (Elt F) G) := by
  funext y
  by_cases h : 16 * (i 0).val ≤ (y 0).val ∧ (y 0).val < 16 * (i 0).val + 16
  · refine View.read_writes_apply_of_pieces _ _ _ _ ?_ y ?_
    · intro p hp x
      obtain ⟨k, rfl⟩ := (mem_os c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 p).mp hp
      exact (rows_pull i (fun k => osTrip i k (k0_pay1 v36 v38 v40 v42 v43 v45 v47 v49) (arg4.view.read (Elt F) X_arg4) (arg5.view.read (Elt F) X_arg5) (arg7.view.read (Elt F) X_arg7) (arg30.view.read (Elt F) X_arg30) (arg31.view.read (Elt F) X_arg31) (arg32.view.read (Elt F) X_arg32)) _ k _ (k0_off2_inb i k) (off2_eq i k) x).symm
    · exact ⟨_, (mem_os c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 _).mpr ⟨⟨(y 0).val - 16 * (i 0).val, Nat.lt_of_lt_of_eq (by omega) trips_eq.symm⟩, rfl⟩,
        rows_mem _ _ (k0_off2_inb i _) (off2_eq i _) y (by show (y 0).val = 16 * (i 0).val + ((y 0).val - 16 * (i 0).val); omega)⟩
  · rw [View.read_writes_apply_of_forall_not_mem]
    · unfold rowOut; rw [dif_neg h]
    · intro p hp hy
      obtain ⟨k, rfl⟩ := (mem_os c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v36 v38 v40 v42 v43 v45 v47 v49 X_arg3 X_arg4 X_arg5 X_arg7 X_arg27 X_arg28 X_arg30 X_arg31 X_arg32 p).mp hp
      have := rows_of_mem _ _ (k0_off2_inb i k) (off2_eq i k) y hy
      have hk : k.val < 16 := Nat.lt_of_lt_of_eq k.isLt trips_eq
      omega

end Trips

end Cert.KernelIdeal.Run

end
-- ==== Proof.KernelIdealTrack.lean ====
module

public import proofs.«01_k».proof.Proof.KernelIdealFrame
public import proofs.«01_k».proof.Proof.KernelIdealTrips

@[expose] public section

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen
open Cert.KernelIdeal.Run hiding frame

variable {F : FTy → Type} [FloatOps F]

local notation "𝕄" => MT nD τ sig Unit (Elt F) ℕ (UR sig nD τ) ℕ

/-! ## What the first point's projections leave in the scratch -/

/-- A slab of 256 columns of the weights. -/
abbrev slab (o : ℕ) (h : ∀ a, (![0, o] : Fin 2 → ℕ) a + S1024x256.size a ≤ S1024x2432.size a) (w : S1024x2432.Idx → Elt F .bf16) : S1024x256.Idx → Elt F .bf16 :=
  VecWindow.window (s := S1024x2432) w ![0, o] S1024x256.size h

/-- The gate's slab of 128 columns. -/
abbrev gateSlab (w : S1024x2432.Idx → Elt F .bf16) : S1024x128.Idx → Elt F .bf16 :=
  VecWindow.window (s := S1024x2432) w ![0, 2304] S1024x128.size inb_S1024x2432_S1024x128_0_2304

section
variable (x1 : S128x1024.Idx → Elt F .f32) (x7 : S1x1024.Idx → Elt F .f32) (x8 : S1024x2432.Idx → Elt F .bf16) (x9 : S128x256.Idx → Elt F .bf16) (x10 : S1x256.Idx → Elt F .f32)

def tqOf : S1280x128.Idx → Elt F .bf16 :=
  k0_pay13 (k0_pay7 (k0_pay6 x1 x7 x9 x10 (gateSlab x8)) (Scalar.ofBits .f32 0x00000000#32))
    (k0_pay8 (k0_pay5 x1 x7) (slab 0 inb_S1024x2432_S1024x256_0_0 x8) (slab 256 inb_S1024x2432_S1024x256_0_256 x8))
def gvOf : S128x512.Idx → Elt F .f32 :=
  k0_pay14 (k0_pay9 (k0_pay5 x1 x7) (slab 512 inb_S1024x2432_S1024x256_0_512 x8) (slab 768 inb_S1024x2432_S1024x256_0_768 x8))
def grOf : S128x512.Idx → Elt F .f32 :=
  k0_pay15 (k0_pay5 x1 x7) (k0_pay11 (k0_pay5 x1 x7) (slab 1024 inb_S1024x2432_S1024x256_0_1024 x8)) (k0_pay12 (slab 1280 inb_S1024x2432_S1024x256_0_1280 x8))
def swaOf : FVec F S128x768 .f32 :=
  k0_pay10 (k0_pay5 x1 x7) (slab 1536 inb_S1024x2432_S1024x256_0_1536 x8) (slab 1792 inb_S1024x2432_S1024x256_0_1792 x8) (slab 2048 inb_S1024x2432_S1024x256_0_2048 x8)
def sqOf : S128x512.Idx → Elt F .f32 := k0_pay16 (swaOf x1 x7 x8)
def skOf : S128x128.Idx → Elt F .f32 := k0_pay17 (swaOf x1 x7 x8)
def svOf : S128x128.Idx → Elt F .f32 := k0_pay18 (swaOf x1 x7 x8)

end

/-- The column of sink logits, a head a row. -/
def sinkCol (x0 : S8.Idx → Elt F .f32) : FVec F S16x1 .f32 :=
  k0_pay1 (k0_pay99 (x0 (ix1 (0 : Fin 8)))) (k0_pay100 (x0 (ix1 (1 : Fin 8)))) (k0_pay101 (x0 (ix1 (2 : Fin 8)))) (k0_pay102 (x0 (ix1 (3 : Fin 8))))
    (x0 (ix1 (4 : Fin 8))) (x0 (ix1 (5 : Fin 8))) (x0 (ix1 (6 : Fin 8))) (x0 (ix1 (7 : Fin 8)))

/-- A word of the sink logits, read at its place. -/
theorem sink_at (arg1 : Memref sig .tc .smem S8 .f32) (harg1 : arg1.IsWhole) (x0 : S8.Idx → Elt F .f32) (n : Fin 8)
    (inb : ∀ a, (![n.val] : Fin 1 → ℕ) a + S1.size a ≤ S8.size a) (y : S1.Idx) :
    arg1.view.readAt (Elt F) (Rect.unit (s := S8) ![n.val] S1.size inb).toLoadRect (harg1.unread x0) y = x0 (ix1 n) := by
  have h0 : (y 0).val < 1 := (y 0).isLt
  refine (congrFun (harg1.read_unread x0) _).trans (congrArg x0 (funext fun a => Fin.ext ?_))
  match a with
  | ⟨0, _⟩ => show n.val + 1 * (y 0).val = n.val; omega

theorem sink_col (arg1 : Memref sig .tc .smem S8 .f32) (harg1 : arg1.IsWhole) (x0 : S8.Idx → Elt F .f32) (y : S1.Idx) :
    k0_pay1 (k0_pay99 (arg1.view.readAt (Elt F) (Rect.unit (s := S8) ![0] S1.size inb_S8_S1_0).toLoadRect (harg1.unread x0) y)) (k0_pay100 (arg1.view.readAt (Elt F) (Rect.unit (s := S8) ![1] S1.size inb_S8_S1_1).toLoadRect (harg1.unread x0) y)) (k0_pay101 (arg1.view.readAt (Elt F) (Rect.unit (s := S8) ![2] S1.size inb_S8_S1_2).toLoadRect (harg1.unread x0) y)) (k0_pay102 (arg1.view.readAt (Elt F) (Rect.unit (s := S8) ![3] S1.size inb_S8_S1_3).toLoadRect (harg1.unread x0) y)) (arg1.view.readAt (Elt F) (Rect.unit (s := S8) ![4] S1.size inb_S8_S1_4).toLoadRect (harg1.unread x0) y) (arg1.view.readAt (Elt F) (Rect.unit (s := S8) ![5] S1.size inb_S8_S1_5).toLoadRect (harg1.unread x0) y) (arg1.view.readAt (Elt F) (Rect.unit (s := S8) ![6] S1.size inb_S8_S1_6).toLoadRect (harg1.unread x0) y) (arg1.view.readAt (Elt F) (Rect.unit (s := S8) ![7] S1.size inb_S8_S1_7).toLoadRect (harg1.unread x0) y) = sinkCol x0 :=
  congr (congr (congr (congr (congr (congr (congr (congrArg (k0_pay1) (congrArg k0_pay99 (sink_at arg1 harg1 x0 0 inb_S8_S1_0 _))) (congrArg k0_pay100 (sink_at arg1 harg1 x0 1 inb_S8_S1_1 _))) (congrArg k0_pay101 (sink_at arg1 harg1 x0 2 inb_S8_S1_2 _))) (congrArg k0_pay102 (sink_at arg1 harg1 x0 3 inb_S8_S1_3 _))) (sink_at arg1 harg1 x0 4 inb_S8_S1_4 _)) (sink_at arg1 harg1 x0 5 inb_S8_S1_5 _)) (sink_at arg1 harg1 x0 6 inb_S8_S1_6 _)) (sink_at arg1 harg1 x0 7 inb_S8_S1_7 _)

/-- One write of a whole buffer leaves its payload. -/
theorem read_full {sp : Space} {s : Shape} {e : EltTy} (v : View sig .tc sp s e) (f : v.ty.Contents (Elt F)) {off : Fin s.rank → ℕ} (h : ∀ a, off a = 0)
    (inb : ∀ a, off a + s.size a ≤ s.size a) (P : s.Idx → Elt F e) : v.read (Elt F) (v.writes (Elt F) f [⟨Rect.unit off s.size inb, P⟩]) = P := by
  have hx : ∀ x : s.Idx, (Rect.unit off s.size inb).emb x = x := fun x => funext fun a => Fin.ext (by
    show off a + 1 * (x a).val = (x a).val
    rw [h a]; omega)
  funext y
  refine View.read_writes_apply_of_pieces v f P _ ?_ y ?_
  · intro p hp x
    obtain rfl := List.mem_singleton.mp hp
    exact (congrArg P (hx x)).symm
  · exact ⟨_, List.mem_singleton.mpr rfl, (Rect.mem_set_unit (inb := inb)).mpr fun a => ⟨by rw [h a]; exact Nat.zero_le _, by rw [h a, Nat.zero_add]; exact (y a).isLt⟩⟩

end Cert.KernelIdeal.Track

end
-- ==== Proof.KernelIdealTrackA.lean ====
module

public import proofs.«01_k».proof.Proof.KernelIdealTrack

@[expose] public section

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen
open Cert.KernelIdeal.Run hiding frame

variable {F : FTy → Type} [FloatOps F]

local notation "𝕄" => MT nD τ sig Unit (Elt F) ℕ (UR sig nD τ) ℕ

section Cases

variable (c : Dev nD) (i : grid0.Coords) (arg1 : Memref sig .tc .smem S8 .f32) (harg1 : arg1.IsWhole) (arg2 : Memref sig .tc .vmem S128x1024 .f32) (harg2 : arg2.IsWhole) (arg3 : Memref sig .tc .vmem S16x4x64x128 .f32) (harg3 : arg3.IsWhole) (arg4 : Memref sig .tc .vmem S16x128x128 .f32) (harg4 : arg4.IsWhole) (arg5 : Memref sig .tc .vmem S16x128x128 .f32) (harg5 : arg5.IsWhole) (arg6 : Memref sig .tc .vmem S32x128 .f32) (harg6 : arg6.IsWhole) (arg7 : Memref sig .tc .vmem S16x128 .f32) (harg7 : arg7.IsWhole) (arg8 : Memref sig .tc .vmem S1x1024 .f32) (harg8 : arg8.IsWhole) (arg9 : Memref sig .tc .vmem S1024x2432 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x128 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S64x1024 .bf16) (harg16 : arg16.IsWhole) (arg17 : Memref sig .tc .vmem S32x1 .f32) (harg17 : arg17.IsWhole) (arg18 : Memref sig .tc .vmem S128x1024 .f32) (harg18 : arg18.IsWhole) (arg19 : Memref sig .tc .vmem S512x2x128 .bf16) (harg19 : arg19.IsWhole) (arg20 : Memref sig .tc .vmem S8x128 .i32) (harg20 : arg20.IsWhole) (arg21 : Memref sig .tc .vmem S8x128 .f32) (harg21 : arg21.IsWhole) (arg22 : Memref sig .tc .vmem S8x128 .i32) (harg22 : arg22.IsWhole) (arg23 : Memref sig .tc .vmem S16x4x64x128 .f32) (harg23 : arg23.IsWhole) (arg24 : Memref sig .tc .vmem S16x128x128 .f32) (harg24 : arg24.IsWhole) (arg25 : Memref sig .tc .vmem S16x128x128 .f32) (harg25 : arg25.IsWhole) (arg26 : Memref sig .tc .vmem S32x128 .f32) (harg26 : arg26.IsWhole) (arg27 : Memref sig .tc .vmem S1280x128 .bf16) (harg27 : arg27.IsWhole) (arg28 : Memref sig .tc .vmem S128x512 .f32) (harg28 : arg28.IsWhole) (arg29 : Memref sig .tc .vmem S128x512 .f32) (harg29 : arg29.IsWhole) (arg30 : Memref sig .tc .vmem S128x512 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S128x512 .f32) (harg33 : arg33.IsWhole) (arg34 : Memref sig .tc .vmem S128x512 .f32) (harg34 : arg34.IsWhole)
variable (x0 : S8.Idx → Elt F .f32) (x1 : S128x1024.Idx → Elt F .f32) (x2 : S16x4x64x128.Idx → Elt F .f32) (x3 : S16x128x128.Idx → Elt F .f32) (x4 : S16x128x128.Idx → Elt F .f32) (x5 : S32x128.Idx → Elt F .f32) (x6 : S16x128.Idx → Elt F .f32) (x7 : S1x1024.Idx → Elt F .f32) (x8 : S1024x2432.Idx → Elt F .bf16) (x9 : S128x256.Idx → Elt F .bf16) (x10 : S1x256.Idx → Elt F .f32) (x11 : S1x128.Idx → Elt F .f32) (x12 : S1x512.Idx → Elt F .f32) (x13 : S1024x1024.Idx → Elt F .bf16) (x14 : S1x1024.Idx → Elt F .f32) (x15 : S64x1024.Idx → Elt F .bf16) (x16 : S32x1.Idx → Elt F .f32)
variable (tq : S1280x128.Idx → Elt F .bf16) (gv : S128x512.Idx → Elt F .f32) (gr : S128x512.Idx → Elt F .f32) (sq : S128x512.Idx → Elt F .f32) (sk : S128x128.Idx → Elt F .f32) (sv : S128x128.Idx → Elt F .f32) (og : S128x512.Idx → Elt F .f32) (os : S128x512.Idx → Elt F .f32)

set_option maxHeartbeats 8000000 in
theorem trackA (hc0 : first i) (hc1 : ¬ last i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ owns (c : Thread nD τ) arg33 fullShare og ∗ owns (c : Thread nD τ) arg34 fullShare os
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare (stOut i x2 (tqOf x1 x7 x8 x9 x10) (gvOf x1 x7 x8)) ∗ owns (c : Thread nD τ) arg24 fullShare (knOut i x3 (skOf x1 x7 x8)) ∗ owns (c : Thread nD τ) arg25 fullShare (knOut i x4 (svOf x1 x7 x8)) ∗ (∃ d, owns (c : Thread nD τ) arg26 fullShare d) ∗ owns (c : Thread nD τ) arg27 fullShare (tqOf x1 x7 x8 x9 x10) ∗ owns (c : Thread nD τ) arg28 fullShare (gvOf x1 x7 x8) ∗ owns (c : Thread nD τ) arg29 fullShare (grOf x1 x7 x8) ∗ owns (c : Thread nD τ) arg30 fullShare (sqOf x1 x7 x8) ∗ owns (c : Thread nD τ) arg31 fullShare (skOf x1 x7 x8) ∗ owns (c : Thread nD τ) arg32 fullShare (svOf x1 x7 x8) ∗ owns (c : Thread nD τ) arg33 fullShare (rowOut i (fun k => ogTrip i k x2 (tqOf x1 x7 x8 x9 x10) (gvOf x1 x7 x8)) og) ∗ owns (c : Thread nD τ) arg34 fullShare (rowOut i (fun k => osTrip i k (sinkCol x0) x3 x4 x6 (sqOf x1 x7 x8) (skOf x1 x7 x8) (svOf x1 x7 x8)) os)) -∗ K ⟨⟩))
      ⊢ wp frame (wpE (defs₀ (F := F)) Variants.none c none) Set.univ (cc0_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
    simp only [cc0_decode_eq_skeleton]; unfold cc0_decode_skel
    simp only [k0_part13_eq_skeleton, k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%f32, %hf32, H32⟩, ⟨%f33, %hf33, H33⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg16.eq_unread hf15
    obtain rfl := harg17.eq_unread hf16
    obtain rfl := harg33.eq_unread hf32
    obtain rfl := harg34.eq_unread hf33
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _; isplitr; swap; · iexact H22
      ipureintro; refine (read_st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congr (congr (congrArg (stOut i) hf2) ((read_full arg27.view _ (fun a => by match a with | ⟨0, _⟩ => rfl | ⟨1, _⟩ => rfl) _ (tqOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)) (arg10.view.readAt (Elt F) (Rect.unit (s := S128x256) ![0, 0] S128x256.size inb_S128x256_S128x256_0_0).toLoadRect (harg10.unread x9)) (arg11.view.readAt (Elt F) (Rect.unit (s := S1x256) ![0, 0] S1x256.size inb_S1x256_S1x256_0_0).toLoadRect (harg11.unread x10)))).trans (congr (congr (congr (congr (congrArg tqOf ((View.readAt_full _ _ _).trans (harg2.read_unread x1))) ((View.readAt_full _ _ _).trans (harg8.read_unread x7))) (harg9.read_unread x8)) ((View.readAt_full _ _ _).trans (harg10.read_unread x9))) ((View.readAt_full _ _ _).trans (harg11.read_unread x10))))) ((read_full arg28.view _ (fun a => by match a with | ⟨0, _⟩ => rfl | ⟨1, _⟩ => rfl) _ (gvOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)))).trans (congr (congr (congrArg gvOf ((View.readAt_full _ _ _).trans (harg2.read_unread x1))) ((View.readAt_full _ _ _).trans (harg8.read_unread x7))) (harg9.read_unread x8)))
    isplitl [H23]
    · iexists _; isplitr; swap; · iexact H23
      ipureintro; refine (read_kn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congr (congrArg (knOut i) hf3) ((read_full arg31.view _ (fun a => by match a with | ⟨0, _⟩ => rfl | ⟨1, _⟩ => rfl) _ (skOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)))).trans (congr (congr (congrArg skOf ((View.readAt_full _ _ _).trans (harg2.read_unread x1))) ((View.readAt_full _ _ _).trans (harg8.read_unread x7))) (harg9.read_unread x8)))
    isplitl [H24]
    · iexists _; isplitr; swap; · iexact H24
      ipureintro; refine (read_vn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congr (congrArg (knOut i) hf4) ((read_full arg32.view _ (fun a => by match a with | ⟨0, _⟩ => rfl | ⟨1, _⟩ => rfl) _ (svOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)))).trans (congr (congr (congrArg svOf ((View.readAt_full _ _ _).trans (harg2.read_unread x1))) ((View.readAt_full _ _ _).trans (harg8.read_unread x7))) (harg9.read_unread x8)))
    isplitl [H25]
    · iexists _, _; isplitr; swap; · iexact H25
      ipureintro; rfl
    isplitl [H26]
    · iexists _; isplitr; swap; · iexact H26
      ipureintro; exact ((read_full arg27.view _ (fun a => by match a with | ⟨0, _⟩ => rfl | ⟨1, _⟩ => rfl) _ (tqOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)) (arg10.view.readAt (Elt F) (Rect.unit (s := S128x256) ![0, 0] S128x256.size inb_S128x256_S128x256_0_0).toLoadRect (harg10.unread x9)) (arg11.view.readAt (Elt F) (Rect.unit (s := S1x256) ![0, 0] S1x256.size inb_S1x256_S1x256_0_0).toLoadRect (harg11.unread x10)))).trans (congr (congr (congr (congr (congrArg tqOf ((View.readAt_full _ _ _).trans (harg2.read_unread x1))) ((View.readAt_full _ _ _).trans (harg8.read_unread x7))) (harg9.read_unread x8)) ((View.readAt_full _ _ _).trans (harg10.read_unread x9))) ((View.readAt_full _ _ _).trans (harg11.read_unread x10))))
    isplitl [H27]
    · iexists _; isplitr; swap; · iexact H27
      ipureintro; exact ((read_full arg28.view _ (fun a => by match a with | ⟨0, _⟩ => rfl | ⟨1, _⟩ => rfl) _ (gvOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)))).trans (congr (congr (congrArg gvOf ((View.readAt_full _ _ _).trans (harg2.read_unread x1))) ((View.readAt_full _ _ _).trans (harg8.read_unread x7))) (harg9.read_unread x8)))
    isplitl [H28]
    · iexists _; isplitr; swap; · iexact H28
      ipureintro; exact ((read_full arg29.view _ (fun a => by match a with | ⟨0, _⟩ => rfl | ⟨1, _⟩ => rfl) _ (grOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)))).trans (congr (congr (congrArg grOf ((View.readAt_full _ _ _).trans (harg2.read_unread x1))) ((View.readAt_full _ _ _).trans (harg8.read_unread x7))) (harg9.read_unread x8)))
    isplitl [H29]
    · iexists _; isplitr; swap; · iexact H29
      ipureintro; exact ((read_full arg30.view _ (fun a => by match a with | ⟨0, _⟩ => rfl | ⟨1, _⟩ => rfl) _ (sqOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)))).trans (congr (congr (congrArg sqOf ((View.readAt_full _ _ _).trans (harg2.read_unread x1))) ((View.readAt_full _ _ _).trans (harg8.read_unread x7))) (harg9.read_unread x8)))
    isplitl [H30]
    · iexists _; isplitr; swap; · iexact H30
      ipureintro; exact ((read_full arg31.view _ (fun a => by match a with | ⟨0, _⟩ => rfl | ⟨1, _⟩ => rfl) _ (skOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)))).trans (congr (congr (congrArg skOf ((View.readAt_full _ _ _).trans (harg2.read_unread x1))) ((View.readAt_full _ _ _).trans (harg8.read_unread x7))) (harg9.read_unread x8)))
    isplitl [H31]
    · iexists _; isplitr; swap; · iexact H31
      ipureintro; exact ((read_full arg32.view _ (fun a => by match a with | ⟨0, _⟩ => rfl | ⟨1, _⟩ => rfl) _ (svOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)))).trans (congr (congr (congrArg svOf ((View.readAt_full _ _ _).trans (harg2.read_unread x1))) ((View.readAt_full _ _ _).trans (harg8.read_unread x7))) (harg9.read_unread x8)))
    isplitl [H32]
    · iexists _; isplitr; swap; · iexact H32
      ipureintro; refine (read_og c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congrArg₂ (rowOut i) (funext fun k => congr (congr (congrArg (ogTrip i k) hf2) ((read_full arg27.view _ (fun a => by match a with | ⟨0, _⟩ => rfl | ⟨1, _⟩ => rfl) _ (tqOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)) (arg10.view.readAt (Elt F) (Rect.unit (s := S128x256) ![0, 0] S128x256.size inb_S128x256_S128x256_0_0).toLoadRect (harg10.unread x9)) (arg11.view.readAt (Elt F) (Rect.unit (s := S1x256) ![0, 0] S1x256.size inb_S1x256_S1x256_0_0).toLoadRect (harg11.unread x10)))).trans (congr (congr (congr (congr (congrArg tqOf ((View.readAt_full _ _ _).trans (harg2.read_unread x1))) ((View.readAt_full _ _ _).trans (harg8.read_unread x7))) (harg9.read_unread x8)) ((View.readAt_full _ _ _).trans (harg10.read_unread x9))) ((View.readAt_full _ _ _).trans (harg11.read_unread x10))))) ((read_full arg28.view _ (fun a => by match a with | ⟨0, _⟩ => rfl | ⟨1, _⟩ => rfl) _ (gvOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)))).trans (congr (congr (congrArg gvOf ((View.readAt_full _ _ _).trans (harg2.read_unread x1))) ((View.readAt_full _ _ _).trans (harg8.read_unread x7))) (harg9.read_unread x8)))) hf32
    iexists _; isplitr; swap; · iexact H33
    ipureintro; refine (read_os c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congrArg₂ (rowOut i) (funext fun k => congr (congr (congr (congr (congr (congr (congrArg (osTrip i k) (sink_col arg1 harg1 x0 _)) hf3) hf4) hf6) ((read_full arg30.view _ (fun a => by match a with | ⟨0, _⟩ => rfl | ⟨1, _⟩ => rfl) _ (sqOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)))).trans (congr (congr (congrArg sqOf ((View.readAt_full _ _ _).trans (harg2.read_unread x1))) ((View.readAt_full _ _ _).trans (harg8.read_unread x7))) (harg9.read_unread x8)))) ((read_full arg31.view _ (fun a => by match a with | ⟨0, _⟩ => rfl | ⟨1, _⟩ => rfl) _ (skOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)))).trans (congr (congr (congrArg skOf ((View.readAt_full _ _ _).trans (harg2.read_unread x1))) ((View.readAt_full _ _ _).trans (harg8.read_unread x7))) (harg9.read_unread x8)))) ((read_full arg32.view _ (fun a => by match a with | ⟨0, _⟩ => rfl | ⟨1, _⟩ => rfl) _ (svOf (arg2.view.readAt (Elt F) (Rect.unit (s := S128x1024) ![0, 0] S128x1024.size inb_S128x1024_S128x1024_0_0).toLoadRect (harg2.unread x1)) (arg8.view.readAt (Elt F) (Rect.unit (s := S1x1024) ![0, 0] S1x1024.size inb_S1x1024_S1x1024_0_0).toLoadRect (harg8.unread x7)) (arg9.view.read (Elt F) (harg9.unread x8)))).trans (congr (congr (congrArg svOf ((View.readAt_full _ _ _).trans (harg2.read_unread x1))) ((View.readAt_full _ _ _).trans (harg8.read_unread x7))) (harg9.read_unread x8)))) hf33

end Cases

end Cert.KernelIdeal.Track

end
-- ==== Proof.KernelIdealTrackB.lean ====
module

public import proofs.«01_k».proof.Proof.KernelIdealTrack

@[expose] public section

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen
open Cert.KernelIdeal.Run hiding frame

variable {F : FTy → Type} [FloatOps F]

local notation "𝕄" => MT nD τ sig Unit (Elt F) ℕ (UR sig nD τ) ℕ

section Cases

variable (c : Dev nD) (i : grid0.Coords) (arg1 : Memref sig .tc .smem S8 .f32) (harg1 : arg1.IsWhole) (arg2 : Memref sig .tc .vmem S128x1024 .f32) (harg2 : arg2.IsWhole) (arg3 : Memref sig .tc .vmem S16x4x64x128 .f32) (harg3 : arg3.IsWhole) (arg4 : Memref sig .tc .vmem S16x128x128 .f32) (harg4 : arg4.IsWhole) (arg5 : Memref sig .tc .vmem S16x128x128 .f32) (harg5 : arg5.IsWhole) (arg6 : Memref sig .tc .vmem S32x128 .f32) (harg6 : arg6.IsWhole) (arg7 : Memref sig .tc .vmem S16x128 .f32) (harg7 : arg7.IsWhole) (arg8 : Memref sig .tc .vmem S1x1024 .f32) (harg8 : arg8.IsWhole) (arg9 : Memref sig .tc .vmem S1024x2432 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x128 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S64x1024 .bf16) (harg16 : arg16.IsWhole) (arg17 : Memref sig .tc .vmem S32x1 .f32) (harg17 : arg17.IsWhole) (arg18 : Memref sig .tc .vmem S128x1024 .f32) (harg18 : arg18.IsWhole) (arg19 : Memref sig .tc .vmem S512x2x128 .bf16) (harg19 : arg19.IsWhole) (arg20 : Memref sig .tc .vmem S8x128 .i32) (harg20 : arg20.IsWhole) (arg21 : Memref sig .tc .vmem S8x128 .f32) (harg21 : arg21.IsWhole) (arg22 : Memref sig .tc .vmem S8x128 .i32) (harg22 : arg22.IsWhole) (arg23 : Memref sig .tc .vmem S16x4x64x128 .f32) (harg23 : arg23.IsWhole) (arg24 : Memref sig .tc .vmem S16x128x128 .f32) (harg24 : arg24.IsWhole) (arg25 : Memref sig .tc .vmem S16x128x128 .f32) (harg25 : arg25.IsWhole) (arg26 : Memref sig .tc .vmem S32x128 .f32) (harg26 : arg26.IsWhole) (arg27 : Memref sig .tc .vmem S1280x128 .bf16) (harg27 : arg27.IsWhole) (arg28 : Memref sig .tc .vmem S128x512 .f32) (harg28 : arg28.IsWhole) (arg29 : Memref sig .tc .vmem S128x512 .f32) (harg29 : arg29.IsWhole) (arg30 : Memref sig .tc .vmem S128x512 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S128x512 .f32) (harg33 : arg33.IsWhole) (arg34 : Memref sig .tc .vmem S128x512 .f32) (harg34 : arg34.IsWhole)
variable (x0 : S8.Idx → Elt F .f32) (x1 : S128x1024.Idx → Elt F .f32) (x2 : S16x4x64x128.Idx → Elt F .f32) (x3 : S16x128x128.Idx → Elt F .f32) (x4 : S16x128x128.Idx → Elt F .f32) (x5 : S32x128.Idx → Elt F .f32) (x6 : S16x128.Idx → Elt F .f32) (x7 : S1x1024.Idx → Elt F .f32) (x8 : S1024x2432.Idx → Elt F .bf16) (x9 : S128x256.Idx → Elt F .bf16) (x10 : S1x256.Idx → Elt F .f32) (x11 : S1x128.Idx → Elt F .f32) (x12 : S1x512.Idx → Elt F .f32) (x13 : S1024x1024.Idx → Elt F .bf16) (x14 : S1x1024.Idx → Elt F .f32) (x15 : S64x1024.Idx → Elt F .bf16) (x16 : S32x1.Idx → Elt F .f32)
variable (tq : S1280x128.Idx → Elt F .bf16) (gv : S128x512.Idx → Elt F .f32) (gr : S128x512.Idx → Elt F .f32) (sq : S128x512.Idx → Elt F .f32) (sk : S128x128.Idx → Elt F .f32) (sv : S128x128.Idx → Elt F .f32) (og : S128x512.Idx → Elt F .f32) (os : S128x512.Idx → Elt F .f32)

set_option maxHeartbeats 8000000 in
theorem trackB (hc0 : ¬ first i) (hc1 : ¬ last i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare tq ∗ owns (c : Thread nD τ) arg28 fullShare gv ∗ owns (c : Thread nD τ) arg29 fullShare gr ∗ owns (c : Thread nD τ) arg30 fullShare sq ∗ owns (c : Thread nD τ) arg31 fullShare sk ∗ owns (c : Thread nD τ) arg32 fullShare sv ∗ owns (c : Thread nD τ) arg33 fullShare og ∗ owns (c : Thread nD τ) arg34 fullShare os
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare (stOut i x2 tq gv) ∗ owns (c : Thread nD τ) arg24 fullShare (knOut i x3 sk) ∗ owns (c : Thread nD τ) arg25 fullShare (knOut i x4 sv) ∗ (∃ d, owns (c : Thread nD τ) arg26 fullShare d) ∗ owns (c : Thread nD τ) arg27 fullShare tq ∗ owns (c : Thread nD τ) arg28 fullShare gv ∗ owns (c : Thread nD τ) arg29 fullShare gr ∗ owns (c : Thread nD τ) arg30 fullShare sq ∗ owns (c : Thread nD τ) arg31 fullShare sk ∗ owns (c : Thread nD τ) arg32 fullShare sv ∗ owns (c : Thread nD τ) arg33 fullShare (rowOut i (fun k => ogTrip i k x2 tq gv) og) ∗ owns (c : Thread nD τ) arg34 fullShare (rowOut i (fun k => osTrip i k (sinkCol x0) x3 x4 x6 sq sk sv) os)) -∗ K ⟨⟩))
      ⊢ wp frame (wpE (defs₀ (F := F)) Variants.none c none) Set.univ (cc0_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
    simp only [cc0_decode_eq_skeleton]; unfold cc0_decode_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg16.eq_unread hf15
    obtain rfl := harg17.eq_unread hf16
    obtain rfl := harg27.eq_unread hf26
    obtain rfl := harg28.eq_unread hf27
    obtain rfl := harg29.eq_unread hf28
    obtain rfl := harg30.eq_unread hf29
    obtain rfl := harg31.eq_unread hf30
    obtain rfl := harg32.eq_unread hf31
    obtain rfl := harg33.eq_unread hf32
    obtain rfl := harg34.eq_unread hf33
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _; isplitr; swap; · iexact H22
      ipureintro; refine (read_st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congr (congr (congrArg (stOut i) hf2) hf26) hf27
    isplitl [H23]
    · iexists _; isplitr; swap; · iexact H23
      ipureintro; refine (read_kn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congr (congrArg (knOut i) hf3) hf30
    isplitl [H24]
    · iexists _; isplitr; swap; · iexact H24
      ipureintro; refine (read_vn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congr (congrArg (knOut i) hf4) hf31
    isplitl [H25]
    · iexists _, _; isplitr; swap; · iexact H25
      ipureintro; rfl
    isplitl [H26]
    · iexists _; isplitr; swap; · iexact H26
      ipureintro; exact harg27.read_unread _
    isplitl [H27]
    · iexists _; isplitr; swap; · iexact H27
      ipureintro; exact harg28.read_unread _
    isplitl [H28]
    · iexists _; isplitr; swap; · iexact H28
      ipureintro; exact harg29.read_unread _
    isplitl [H29]
    · iexists _; isplitr; swap; · iexact H29
      ipureintro; exact harg30.read_unread _
    isplitl [H30]
    · iexists _; isplitr; swap; · iexact H30
      ipureintro; exact harg31.read_unread _
    isplitl [H31]
    · iexists _; isplitr; swap; · iexact H31
      ipureintro; exact harg32.read_unread _
    isplitl [H32]
    · iexists _; isplitr; swap; · iexact H32
      ipureintro; refine (read_og c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congrArg₂ (rowOut i) (funext fun k => congr (congr (congrArg (ogTrip i k) hf2) hf26) hf27) hf32
    iexists _; isplitr; swap; · iexact H33
    ipureintro; refine (read_os c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congrArg₂ (rowOut i) (funext fun k => congr (congr (congr (congr (congr (congr (congrArg (osTrip i k) (sink_col arg1 harg1 x0 _)) hf3) hf4) hf6) hf29) hf30) hf31) hf33

end Cases

end Cert.KernelIdeal.Track

end
-- ==== Proof.KernelIdealTrackC.lean ====
module

public import proofs.«01_k».proof.Proof.KernelIdealTrack

@[expose] public section

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen
open Cert.KernelIdeal.Run hiding frame

variable {F : FTy → Type} [FloatOps F]

local notation "𝕄" => MT nD τ sig Unit (Elt F) ℕ (UR sig nD τ) ℕ

section Cases

variable (c : Dev nD) (i : grid0.Coords) (arg1 : Memref sig .tc .smem S8 .f32) (harg1 : arg1.IsWhole) (arg2 : Memref sig .tc .vmem S128x1024 .f32) (harg2 : arg2.IsWhole) (arg3 : Memref sig .tc .vmem S16x4x64x128 .f32) (harg3 : arg3.IsWhole) (arg4 : Memref sig .tc .vmem S16x128x128 .f32) (harg4 : arg4.IsWhole) (arg5 : Memref sig .tc .vmem S16x128x128 .f32) (harg5 : arg5.IsWhole) (arg6 : Memref sig .tc .vmem S32x128 .f32) (harg6 : arg6.IsWhole) (arg7 : Memref sig .tc .vmem S16x128 .f32) (harg7 : arg7.IsWhole) (arg8 : Memref sig .tc .vmem S1x1024 .f32) (harg8 : arg8.IsWhole) (arg9 : Memref sig .tc .vmem S1024x2432 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x128 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S64x1024 .bf16) (harg16 : arg16.IsWhole) (arg17 : Memref sig .tc .vmem S32x1 .f32) (harg17 : arg17.IsWhole) (arg18 : Memref sig .tc .vmem S128x1024 .f32) (harg18 : arg18.IsWhole) (arg19 : Memref sig .tc .vmem S512x2x128 .bf16) (harg19 : arg19.IsWhole) (arg20 : Memref sig .tc .vmem S8x128 .i32) (harg20 : arg20.IsWhole) (arg21 : Memref sig .tc .vmem S8x128 .f32) (harg21 : arg21.IsWhole) (arg22 : Memref sig .tc .vmem S8x128 .i32) (harg22 : arg22.IsWhole) (arg23 : Memref sig .tc .vmem S16x4x64x128 .f32) (harg23 : arg23.IsWhole) (arg24 : Memref sig .tc .vmem S16x128x128 .f32) (harg24 : arg24.IsWhole) (arg25 : Memref sig .tc .vmem S16x128x128 .f32) (harg25 : arg25.IsWhole) (arg26 : Memref sig .tc .vmem S32x128 .f32) (harg26 : arg26.IsWhole) (arg27 : Memref sig .tc .vmem S1280x128 .bf16) (harg27 : arg27.IsWhole) (arg28 : Memref sig .tc .vmem S128x512 .f32) (harg28 : arg28.IsWhole) (arg29 : Memref sig .tc .vmem S128x512 .f32) (harg29 : arg29.IsWhole) (arg30 : Memref sig .tc .vmem S128x512 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S128x512 .f32) (harg33 : arg33.IsWhole) (arg34 : Memref sig .tc .vmem S128x512 .f32) (harg34 : arg34.IsWhole)
variable (x0 : S8.Idx → Elt F .f32) (x1 : S128x1024.Idx → Elt F .f32) (x2 : S16x4x64x128.Idx → Elt F .f32) (x3 : S16x128x128.Idx → Elt F .f32) (x4 : S16x128x128.Idx → Elt F .f32) (x5 : S32x128.Idx → Elt F .f32) (x6 : S16x128.Idx → Elt F .f32) (x7 : S1x1024.Idx → Elt F .f32) (x8 : S1024x2432.Idx → Elt F .bf16) (x9 : S128x256.Idx → Elt F .bf16) (x10 : S1x256.Idx → Elt F .f32) (x11 : S1x128.Idx → Elt F .f32) (x12 : S1x512.Idx → Elt F .f32) (x13 : S1024x1024.Idx → Elt F .bf16) (x14 : S1x1024.Idx → Elt F .f32) (x15 : S64x1024.Idx → Elt F .bf16) (x16 : S32x1.Idx → Elt F .f32)
variable (tq : S1280x128.Idx → Elt F .bf16) (gv : S128x512.Idx → Elt F .f32) (gr : S128x512.Idx → Elt F .f32) (sq : S128x512.Idx → Elt F .f32) (sk : S128x128.Idx → Elt F .f32) (sv : S128x128.Idx → Elt F .f32) (og : S128x512.Idx → Elt F .f32) (os : S128x512.Idx → Elt F .f32)

set_option maxHeartbeats 8000000 in
theorem trackC (hc0 : ¬ first i) (hc1 : last i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare tq ∗ owns (c : Thread nD τ) arg28 fullShare gv ∗ owns (c : Thread nD τ) arg29 fullShare gr ∗ owns (c : Thread nD τ) arg30 fullShare sq ∗ owns (c : Thread nD τ) arg31 fullShare sk ∗ owns (c : Thread nD τ) arg32 fullShare sv ∗ owns (c : Thread nD τ) arg33 fullShare og ∗ owns (c : Thread nD τ) arg34 fullShare os
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare (stOut i x2 tq gv) ∗ owns (c : Thread nD τ) arg24 fullShare (knOut i x3 sk) ∗ owns (c : Thread nD τ) arg25 fullShare (knOut i x4 sv) ∗ (∃ d, owns (c : Thread nD τ) arg26 fullShare d) ∗ owns (c : Thread nD τ) arg27 fullShare tq ∗ owns (c : Thread nD τ) arg28 fullShare gv ∗ owns (c : Thread nD τ) arg29 fullShare gr ∗ owns (c : Thread nD τ) arg30 fullShare sq ∗ owns (c : Thread nD τ) arg31 fullShare sk ∗ owns (c : Thread nD τ) arg32 fullShare sv ∗ owns (c : Thread nD τ) arg33 fullShare (rowOut i (fun k => ogTrip i k x2 tq gv) og) ∗ owns (c : Thread nD τ) arg34 fullShare (rowOut i (fun k => osTrip i k (sinkCol x0) x3 x4 x6 sq sk sv) os)) -∗ K ⟨⟩))
      ⊢ wp frame (wpE (defs₀ (F := F)) Variants.none c none) Set.univ (cc0_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
    simp only [cc0_decode_eq_skeleton]; unfold cc0_decode_skel
    simp only [k0_part13_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg16.eq_unread hf15
    obtain rfl := harg17.eq_unread hf16
    obtain rfl := harg27.eq_unread hf26
    obtain rfl := harg28.eq_unread hf27
    obtain rfl := harg29.eq_unread hf28
    obtain rfl := harg30.eq_unread hf29
    obtain rfl := harg31.eq_unread hf30
    obtain rfl := harg32.eq_unread hf31
    obtain rfl := harg33.eq_unread hf32
    obtain rfl := harg34.eq_unread hf33
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _; isplitr; swap; · iexact H22
      ipureintro; refine (read_st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congr (congr (congrArg (stOut i) hf2) hf26) hf27
    isplitl [H23]
    · iexists _; isplitr; swap; · iexact H23
      ipureintro; refine (read_kn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congr (congrArg (knOut i) hf3) hf30
    isplitl [H24]
    · iexists _; isplitr; swap; · iexact H24
      ipureintro; refine (read_vn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congr (congrArg (knOut i) hf4) hf31
    isplitl [H25]
    · iexists _, _; isplitr; swap; · iexact H25
      ipureintro; rfl
    isplitl [H26]
    · iexists _; isplitr; swap; · iexact H26
      ipureintro; exact harg27.read_unread _
    isplitl [H27]
    · iexists _; isplitr; swap; · iexact H27
      ipureintro; exact harg28.read_unread _
    isplitl [H28]
    · iexists _; isplitr; swap; · iexact H28
      ipureintro; exact harg29.read_unread _
    isplitl [H29]
    · iexists _; isplitr; swap; · iexact H29
      ipureintro; exact harg30.read_unread _
    isplitl [H30]
    · iexists _; isplitr; swap; · iexact H30
      ipureintro; exact harg31.read_unread _
    isplitl [H31]
    · iexists _; isplitr; swap; · iexact H31
      ipureintro; exact harg32.read_unread _
    isplitl [H32]
    · iexists _; isplitr; swap; · iexact H32
      ipureintro; refine (read_og c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congrArg₂ (rowOut i) (funext fun k => congr (congr (congrArg (ogTrip i k) hf2) hf26) hf27) hf32
    iexists _; isplitr; swap; · iexact H33
    ipureintro; refine (read_os c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 _ _ _ _ _ _ _ _ _ _ _ _ _ _ _ _ _ _).trans ?_; exact congrArg₂ (rowOut i) (funext fun k => congr (congr (congr (congr (congr (congr (congrArg (osTrip i k) (sink_col arg1 harg1 x0 _)) hf3) hf4) hf6) hf29) hf30) hf31) hf33

end Cases

end Cert.KernelIdeal.Track

end
-- ==== Proof.KernelIdealTracked.lean ====
module

public import Idealize.ShloMosaic.Lib.Pipeline.DatRel
public import Idealize.ShloMosaic.Lib.Pipeline.ArrRel
public import proofs.«01_k».proof.Proof.KernelIdealTrackA
public import proofs.«01_k».proof.Proof.KernelIdealTrackB
public import proofs.«01_k».proof.Proof.KernelIdealTrackC

@[expose] public section

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen
open Cert.KernelIdeal.Run hiding frame

variable {F : FTy → Type} [FloatOps F]

local notation "𝕄" => MT nD τ sig Unit (Elt F) ℕ (UR sig nD τ) ℕ

open Idealize.ShloMosaic.Pipeline (BodyObligationRel)

variable (m : (ℓ : Loc nD τ sig) → Buf (Elt F) ℓ) (ρ : Dev nD → PrngReg)

/-! ## The named contents -/

theorem N_8 : cfg0.N = 8 := N_0

/-- The first point. -/
def t0 : Fin cfg0.N := ⟨0, Nat.lt_of_lt_of_eq (by decide) N_8.symm⟩

def TQ (c : Dev nD) : S1280x128.Idx → Elt F .bf16 := tqOf (iblk m c 1 t0) (iblk m c 7 t0) (iblk m c 8 t0) (iblk m c 9 t0) (iblk m c 10 t0)
def GV (c : Dev nD) : S128x512.Idx → Elt F .f32 := gvOf (iblk m c 1 t0) (iblk m c 7 t0) (iblk m c 8 t0)
def GR (c : Dev nD) : S128x512.Idx → Elt F .f32 := grOf (iblk m c 1 t0) (iblk m c 7 t0) (iblk m c 8 t0)
def SQ (c : Dev nD) : S128x512.Idx → Elt F .f32 := sqOf (iblk m c 1 t0) (iblk m c 7 t0) (iblk m c 8 t0)
def SK (c : Dev nD) : S128x128.Idx → Elt F .f32 := skOf (iblk m c 1 t0) (iblk m c 7 t0) (iblk m c 8 t0)
def SV (c : Dev nD) : S128x128.Idx → Elt F .f32 := svOf (iblk m c 1 t0) (iblk m c 7 t0) (iblk m c 8 t0)

/-- The rows that point `t` writes of the two row buffers. -/
def ogRow (c : Dev nD) (t : Fin cfg0.N) (k : Fin k0_t1_loop.trips) : S1x512.Idx → Elt F .f32 :=
  ogTrip (grid0.coords t) k (iblk m c 2 t) (TQ m c) (GV m c)
def osRow (c : Dev nD) (t : Fin cfg0.N) (k : Fin k0_t1_loop.trips) : S1x512.Idx → Elt F .f32 :=
  osTrip (grid0.coords t) k (sinkCol (iblk m c 0 t)) (iblk m c 3 t) (iblk m c 4 t) (iblk m c 6 t) (SQ m c) (SK m c) (SV m c)

/-- A row buffer once every point has written its rows. -/
def rowsAll (T : Fin cfg0.N → Fin k0_t1_loop.trips → S1x512.Idx → Elt F .f32) : S128x512.Idx → Elt F .f32 := fun y =>
  T ⟨(y 0).val / 16, Nat.lt_of_lt_of_eq (by have : (y 0).val < 128 := (y 0).isLt; omega) N_8.symm⟩
    ⟨(y 0).val % 16, Nat.lt_of_lt_of_eq (Nat.mod_lt _ (by decide)) trips_eq.symm⟩ (ix2 (0 : Fin 1) (y 1))

/-- The first `n` blocks of rows are written. -/
def rowsTo (n : ℕ) (W d : S128x512.Idx → Elt F .f32) : Prop := ∀ y : S128x512.Idx, (y 0).val < 16 * n → d y = W y

theorem coord_eq (t : Fin cfg0.N) : (grid0.coords t 0).val = t.val := by
  have ht : t.val < 8 := Nat.lt_of_lt_of_eq t.isLt N_8
  have e0 : (grid0.coords t 0).val = t.val / 1 % 8 := Pipeline.Grid.coords_val t 0 (by decide) rfl
  omega

theorem rowsTo_step (T : Fin cfg0.N → Fin k0_t1_loop.trips → S1x512.Idx → Elt F .f32) (t : Fin cfg0.N) (d : S128x512.Idx → Elt F .f32)
    (h : rowsTo t.val (rowsAll T) d) : rowsTo (t.val + 1) (rowsAll T) (rowOut (grid0.coords t) (T t) d) := by
  have ht : t.val < 8 := Nat.lt_of_lt_of_eq t.isLt N_8
  have e0 := coord_eq t
  intro y hy
  unfold rowOut
  by_cases hc : 16 * (grid0.coords t 0).val ≤ (y 0).val ∧ (y 0).val < 16 * (grid0.coords t 0).val + 16
  · rw [dif_pos hc]
    unfold rowsAll
    have a1 : (⟨(y 0).val / 16, Nat.lt_of_lt_of_eq (by have : (y 0).val < 128 := (y 0).isLt; omega) N_8.symm⟩ : Fin cfg0.N) = t :=
      Fin.ext (by show (y 0).val / 16 = t.val; omega)
    have a2 : (⟨(y 0).val - 16 * (grid0.coords t 0).val, Nat.lt_of_lt_of_eq (by omega) trips_eq.symm⟩ : Fin k0_t1_loop.trips)
        = ⟨(y 0).val % 16, Nat.lt_of_lt_of_eq (Nat.mod_lt _ (by decide)) trips_eq.symm⟩ :=
      Fin.ext (by show (y 0).val - 16 * (grid0.coords t 0).val = (y 0).val % 16; omega)
    rw [a1, a2]
  · rw [dif_neg hc]
    exact h y (by omega)

/-! ## The pipeline's proof data -/

/-- The scratch after point `n`: the projections, and the rows written so far. -/
def PhiN (c : Dev nD) (n : ℕ) : sProp 𝕄 :=
  iprop((owns (c : Thread nD τ) sc0 fullShare (TQ m c) ∗ owns (c : Thread nD τ) sc1 fullShare (GV m c) ∗ owns (c : Thread nD τ) sc2 fullShare (GR m c)
      ∗ owns (c : Thread nD τ) sc3 fullShare (SQ m c) ∗ owns (c : Thread nD τ) sc4 fullShare (SK m c) ∗ owns (c : Thread nD τ) sc5 fullShare (SV m c)
      ∗ (∃ d, ⌜rowsTo n (rowsAll (ogRow m c)) d⌝ ∗ owns (c : Thread nD τ) sc6 fullShare d)
      ∗ (∃ d, ⌜rowsTo n (rowsAll (osRow m c)) d⌝ ∗ owns (c : Thread nD τ) sc7 fullShare d)) ∗ (∃ r, prngReg c r))

def PhiT (c : Dev nD) (n : ℕ) : sProp 𝕄 := if n = 0 then Pipeline.ΦA spec0 c else PhiN m c n

theorem PhiT_pos (c : Dev nD) (n : ℕ) (h : n ≠ 0) : PhiT m c n = PhiN m c n := if_neg h
theorem PhiT_zero (c : Dev nD) : PhiT m c 0 = Pipeline.ΦA spec0 c := if_pos rfl

/-- The proof data on core `c`: the arrays as the region finds them; each input's buffer at its block after every point; the scratch
    tracked. -/
def tdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨_ + 26, h⟩ => absurd h (Nat.not_lt.2 (Nat.le_add_left _ _))
  Φ t := PhiT m c t.val
  q _ := fullShare
  owed _ := 0

/-- What a point leaves in each output. -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun _ => True
  | ⟨10, _⟩ => fun _ => True
  | ⟨11, _⟩ => fun _ => True
  | ⟨12, _⟩ => fun _ => True
  | ⟨13, _⟩ => fun _ => True
  | ⟨14, _⟩ => fun _ => True
  | ⟨15, _⟩ => fun _ => True
  | ⟨16, _⟩ => fun _ => True
  | ⟨17, _⟩ => fun _ => True
  | ⟨18, _⟩ => fun _ => True
  | ⟨19, _⟩ => fun _ => True
  | ⟨20, _⟩ => fun _ => True
  | ⟨21, _⟩ => fun _ => True
  | ⟨22, _⟩ => fun X => X = (stOut (grid0.coords t) (iblk m c 2 t) (TQ m c) (GV m c) : S16x4x64x128.Idx → Elt F .f32)
  | ⟨23, _⟩ => fun X => X = (knOut (grid0.coords t) (iblk m c 3 t) (SK m c) : S16x128x128.Idx → Elt F .f32)
  | ⟨24, _⟩ => fun X => X = (knOut (grid0.coords t) (iblk m c 4 t) (SV m c) : S16x128x128.Idx → Elt F .f32)
  | ⟨25, _⟩ => fun _ => True
  | ⟨_ + 26, h⟩ => absurd h (Nat.not_lt.2 (Nat.le_add_left _ _))

theorem tA_eq (c : Dev nD) (w : Fin cfg0.W) : (tdats m 0 c).A w = V m c (Pipeline.arrRef spec0 w) := by
  dsimp only [tdats]

theorem tafter_0 (c : Dev nD) (t : Fin cfg0.N) : (tdats m 0 c).after 0 t = iblk m c 0 t := by dsimp only [tdats]
theorem tafter_1 (c : Dev nD) (t : Fin cfg0.N) : (tdats m 0 c).after 1 t = iblk m c 1 t := by dsimp only [tdats]
theorem tafter_2 (c : Dev nD) (t : Fin cfg0.N) : (tdats m 0 c).after 2 t = iblk m c 2 t := by dsimp only [tdats]
theorem tafter_3 (c : Dev nD) (t : Fin cfg0.N) : (tdats m 0 c).after 3 t = iblk m c 3 t := by dsimp only [tdats]
theorem tafter_4 (c : Dev nD) (t : Fin cfg0.N) : (tdats m 0 c).after 4 t = iblk m c 4 t := by dsimp only [tdats]
theorem tafter_5 (c : Dev nD) (t : Fin cfg0.N) : (tdats m 0 c).after 5 t = iblk m c 5 t := by dsimp only [tdats]
theorem tafter_6 (c : Dev nD) (t : Fin cfg0.N) : (tdats m 0 c).after 6 t = iblk m c 6 t := by dsimp only [tdats]
theorem tafter_7 (c : Dev nD) (t : Fin cfg0.N) : (tdats m 0 c).after 7 t = iblk m c 7 t := by dsimp only [tdats]
theorem tafter_8 (c : Dev nD) (t : Fin cfg0.N) : (tdats m 0 c).after 8 t = iblk m c 8 t := by dsimp only [tdats]
theorem tafter_9 (c : Dev nD) (t : Fin cfg0.N) : (tdats m 0 c).after 9 t = iblk m c 9 t := by dsimp only [tdats]
theorem tafter_10 (c : Dev nD) (t : Fin cfg0.N) : (tdats m 0 c).after 10 t = iblk m c 10 t := by dsimp only [tdats]
theorem tafter_11 (c : Dev nD) (t : Fin cfg0.N) : (tdats m 0 c).after 11 t = iblk m c 11 t := by dsimp only [tdats]
theorem tafter_12 (c : Dev nD) (t : Fin cfg0.N) : (tdats m 0 c).after 12 t = iblk m c 12 t := by dsimp only [tdats]
theorem tafter_13 (c : Dev nD) (t : Fin cfg0.N) : (tdats m 0 c).after 13 t = iblk m c 13 t := by dsimp only [tdats]
theorem tafter_14 (c : Dev nD) (t : Fin cfg0.N) : (tdats m 0 c).after 14 t = iblk m c 14 t := by dsimp only [tdats]
theorem tafter_15 (c : Dev nD) (t : Fin cfg0.N) : (tdats m 0 c).after 15 t = iblk m c 15 t := by dsimp only [tdats]
theorem tafter_16 (c : Dev nD) (t : Fin cfg0.N) : (tdats m 0 c).after 16 t = iblk m c 16 t := by dsimp only [tdats]
theorem tbefore_0 (c : Dev nD) (t : Fin cfg0.N) (d) : (tdats m 0 c).before 0 t d = iblk m c 0 t :=
  before0_0_of m (tdats m 0 c) (tA_eq m c 0) (tafter_0 m c) t d
theorem tbefore_1 (c : Dev nD) (t : Fin cfg0.N) (d) : (tdats m 0 c).before 1 t d = iblk m c 1 t :=
  before0_1_of m (tdats m 0 c) (tA_eq m c 1) (tafter_1 m c) t d
theorem tbefore_2 (c : Dev nD) (t : Fin cfg0.N) (d) : (tdats m 0 c).before 2 t d = iblk m c 2 t :=
  before0_2_of m (tdats m 0 c) (tA_eq m c 2) (tafter_2 m c) t d
theorem tbefore_3 (c : Dev nD) (t : Fin cfg0.N) (d) : (tdats m 0 c).before 3 t d = iblk m c 3 t :=
  before0_3_of m (tdats m 0 c) (tA_eq m c 3) (tafter_3 m c) t d
theorem tbefore_4 (c : Dev nD) (t : Fin cfg0.N) (d) : (tdats m 0 c).before 4 t d = iblk m c 4 t :=
  before0_4_of m (tdats m 0 c) (tA_eq m c 4) (tafter_4 m c) t d
theorem tbefore_5 (c : Dev nD) (t : Fin cfg0.N) (d) : (tdats m 0 c).before 5 t d = iblk m c 5 t :=
  before0_5_of m (tdats m 0 c) (tA_eq m c 5) (tafter_5 m c) t d
theorem tbefore_6 (c : Dev nD) (t : Fin cfg0.N) (d) : (tdats m 0 c).before 6 t d = iblk m c 6 t :=
  before0_6_of m (tdats m 0 c) (tA_eq m c 6) (tafter_6 m c) t d
theorem tbefore_7 (c : Dev nD) (t : Fin cfg0.N) (d) : (tdats m 0 c).before 7 t d = iblk m c 7 t :=
  before0_7_of m (tdats m 0 c) (tA_eq m c 7) (tafter_7 m c) t d
theorem tbefore_8 (c : Dev nD) (t : Fin cfg0.N) (d) : (tdats m 0 c).before 8 t d = iblk m c 8 t :=
  before0_8_of m (tdats m 0 c) (tA_eq m c 8) (tafter_8 m c) t d
theorem tbefore_9 (c : Dev nD) (t : Fin cfg0.N) (d) : (tdats m 0 c).before 9 t d = iblk m c 9 t :=
  before0_9_of m (tdats m 0 c) (tA_eq m c 9) (tafter_9 m c) t d
theorem tbefore_10 (c : Dev nD) (t : Fin cfg0.N) (d) : (tdats m 0 c).before 10 t d = iblk m c 10 t :=
  before0_10_of m (tdats m 0 c) (tA_eq m c 10) (tafter_10 m c) t d
theorem tbefore_11 (c : Dev nD) (t : Fin cfg0.N) (d) : (tdats m 0 c).before 11 t d = iblk m c 11 t :=
  before0_11_of m (tdats m 0 c) (tA_eq m c 11) (tafter_11 m c) t d
theorem tbefore_12 (c : Dev nD) (t : Fin cfg0.N) (d) : (tdats m 0 c).before 12 t d = iblk m c 12 t :=
  before0_12_of m (tdats m 0 c) (tA_eq m c 12) (tafter_12 m c) t d
theorem tbefore_13 (c : Dev nD) (t : Fin cfg0.N) (d) : (tdats m 0 c).before 13 t d = iblk m c 13 t :=
  before0_13_of m (tdats m 0 c) (tA_eq m c 13) (tafter_13 m c) t d
theorem tbefore_14 (c : Dev nD) (t : Fin cfg0.N) (d) : (tdats m 0 c).before 14 t d = iblk m c 14 t :=
  before0_14_of m (tdats m 0 c) (tA_eq m c 14) (tafter_14 m c) t d
theorem tbefore_15 (c : Dev nD) (t : Fin cfg0.N) (d) : (tdats m 0 c).before 15 t d = iblk m c 15 t :=
  before0_15_of m (tdats m 0 c) (tA_eq m c 15) (tafter_15 m c) t d
theorem tbefore_16 (c : Dev nD) (t : Fin cfg0.N) (d) : (tdats m 0 c).before 16 t d = iblk m c 16 t :=
  before0_16_of m (tdats m 0 c) (tA_eq m c 16) (tafter_16 m c) t d

theorem rowsTo_zero (W d : S128x512.Idx → Elt F .f32) : rowsTo 0 W d := fun _ h => absurd h (Nat.not_lt_zero _)

/-! ## The body obligation -/

/-- What the body is called with at point `t`, window by window, -/
def tPre (c : Dev nD) (t : Fin cfg0.N) : sProp 𝕄 :=
  iprop((tdats m 0 c).Φ t.castSucc ∗ (tdats m 0 c).owesAt () t.castSucc ∗ (∃ d, owns (c : Thread nD τ) (ms0 t) fullShare ((tdats m 0 c).before 0 t d)) ∗ (∃ d, owns (c : Thread nD τ) (ms1 t) fullShare ((tdats m 0 c).before 1 t d)) ∗ (∃ d, owns (c : Thread nD τ) (ms2 t) fullShare ((tdats m 0 c).before 2 t d)) ∗ (∃ d, owns (c : Thread nD τ) (ms3 t) fullShare ((tdats m 0 c).before 3 t d)) ∗ (∃ d, owns (c : Thread nD τ) (ms4 t) fullShare ((tdats m 0 c).before 4 t d)) ∗ (∃ d, owns (c : Thread nD τ) (ms5 t) fullShare ((tdats m 0 c).before 5 t d)) ∗ (∃ d, owns (c : Thread nD τ) (ms6 t) fullShare ((tdats m 0 c).before 6 t d)) ∗ (∃ d, owns (c : Thread nD τ) (ms7 t) fullShare ((tdats m 0 c).before 7 t d)) ∗ (∃ d, owns (c : Thread nD τ) (ms8 t) fullShare ((tdats m 0 c).before 8 t d)) ∗ (∃ d, owns (c : Thread nD τ) (ms9 t) fullShare ((tdats m 0 c).before 9 t d)) ∗ (∃ d, owns (c : Thread nD τ) (ms10 t) fullShare ((tdats m 0 c).before 10 t d)) ∗ (∃ d, owns (c : Thread nD τ) (ms11 t) fullShare ((tdats m 0 c).before 11 t d)) ∗ (∃ d, owns (c : Thread nD τ) (ms12 t) fullShare ((tdats m 0 c).before 12 t d)) ∗ (∃ d, owns (c : Thread nD τ) (ms13 t) fullShare ((tdats m 0 c).before 13 t d)) ∗ (∃ d, owns (c : Thread nD τ) (ms14 t) fullShare ((tdats m 0 c).before 14 t d)) ∗ (∃ d, owns (c : Thread nD τ) (ms15 t) fullShare ((tdats m 0 c).before 15 t d)) ∗ (∃ d, owns (c : Thread nD τ) (ms16 t) fullShare ((tdats m 0 c).before 16 t d)) ∗ (∃ d, ⌜((tdats m 0 c).toRRel forgets (Rl m c)).Finds 17 t d⌝ ∗ owns (c : Thread nD τ) (ms17 t) fullShare d) ∗ (∃ d, ⌜((tdats m 0 c).toRRel forgets (Rl m c)).Finds 18 t d⌝ ∗ owns (c : Thread nD τ) (ms18 t) fullShare d) ∗ (∃ d, ⌜((tdats m 0 c).toRRel forgets (Rl m c)).Finds 19 t d⌝ ∗ owns (c : Thread nD τ) (ms19 t) fullShare d) ∗ (∃ d, ⌜((tdats m 0 c).toRRel forgets (Rl m c)).Finds 20 t d⌝ ∗ owns (c : Thread nD τ) (ms20 t) fullShare d) ∗ (∃ d, ⌜((tdats m 0 c).toRRel forgets (Rl m c)).Finds 21 t d⌝ ∗ owns (c : Thread nD τ) (ms21 t) fullShare d) ∗ (∃ d, ⌜((tdats m 0 c).toRRel forgets (Rl m c)).Finds 22 t d⌝ ∗ owns (c : Thread nD τ) (ms22 t) fullShare d) ∗ (∃ d, ⌜((tdats m 0 c).toRRel forgets (Rl m c)).Finds 23 t d⌝ ∗ owns (c : Thread nD τ) (ms23 t) fullShare d) ∗ (∃ d, ⌜((tdats m 0 c).toRRel forgets (Rl m c)).Finds 24 t d⌝ ∗ owns (c : Thread nD τ) (ms24 t) fullShare d) ∗ (∃ d, ⌜((tdats m 0 c).toRRel forgets (Rl m c)).Finds 25 t d⌝ ∗ owns (c : Thread nD τ) (ms25 t) fullShare d))

/-- and what it returns. -/
def tPost (c : Dev nD) (t : Fin cfg0.N) : sProp 𝕄 :=
  iprop((tdats m 0 c).Φ t.succ ∗ (tdats m 0 c).owesAt () t.succ ∗ owns (c : Thread nD τ) (ms0 t) fullShare ((tdats m 0 c).after 0 t) ∗ owns (c : Thread nD τ) (ms1 t) fullShare ((tdats m 0 c).after 1 t) ∗ owns (c : Thread nD τ) (ms2 t) fullShare ((tdats m 0 c).after 2 t) ∗ owns (c : Thread nD τ) (ms3 t) fullShare ((tdats m 0 c).after 3 t) ∗ owns (c : Thread nD τ) (ms4 t) fullShare ((tdats m 0 c).after 4 t) ∗ owns (c : Thread nD τ) (ms5 t) fullShare ((tdats m 0 c).after 5 t) ∗ owns (c : Thread nD τ) (ms6 t) fullShare ((tdats m 0 c).after 6 t) ∗ owns (c : Thread nD τ) (ms7 t) fullShare ((tdats m 0 c).after 7 t) ∗ owns (c : Thread nD τ) (ms8 t) fullShare ((tdats m 0 c).after 8 t) ∗ owns (c : Thread nD τ) (ms9 t) fullShare ((tdats m 0 c).after 9 t) ∗ owns (c : Thread nD τ) (ms10 t) fullShare ((tdats m 0 c).after 10 t) ∗ owns (c : Thread nD τ) (ms11 t) fullShare ((tdats m 0 c).after 11 t) ∗ owns (c : Thread nD τ) (ms12 t) fullShare ((tdats m 0 c).after 12 t) ∗ owns (c : Thread nD τ) (ms13 t) fullShare ((tdats m 0 c).after 13 t) ∗ owns (c : Thread nD τ) (ms14 t) fullShare ((tdats m 0 c).after 14 t) ∗ owns (c : Thread nD τ) (ms15 t) fullShare ((tdats m 0 c).after 15 t) ∗ owns (c : Thread nD τ) (ms16 t) fullShare ((tdats m 0 c).after 16 t) ∗ (∃ d, ⌜Rl m c 17 t d⌝ ∗ owns (c : Thread nD τ) (ms17 t) fullShare d) ∗ (∃ d, ⌜Rl m c 18 t d⌝ ∗ owns (c : Thread nD τ) (ms18 t) fullShare d) ∗ (∃ d, ⌜Rl m c 19 t d⌝ ∗ owns (c : Thread nD τ) (ms19 t) fullShare d) ∗ (∃ d, ⌜Rl m c 20 t d⌝ ∗ owns (c : Thread nD τ) (ms20 t) fullShare d) ∗ (∃ d, ⌜Rl m c 21 t d⌝ ∗ owns (c : Thread nD τ) (ms21 t) fullShare d) ∗ (∃ d, ⌜Rl m c 22 t d⌝ ∗ owns (c : Thread nD τ) (ms22 t) fullShare d) ∗ (∃ d, ⌜Rl m c 23 t d⌝ ∗ owns (c : Thread nD τ) (ms23 t) fullShare d) ∗ (∃ d, ⌜Rl m c 24 t d⌝ ∗ owns (c : Thread nD τ) (ms24 t) fullShare d) ∗ (∃ d, ⌜Rl m c 25 t d⌝ ∗ owns (c : Thread nD τ) (ms25 t) fullShare d))

set_option maxHeartbeats 4000000 in
theorem tbodyA (c : Dev nD) (t : Fin cfg0.N) (h0 : t.val % 8 = 0) (h1 : ¬ t.val % 8 = 7) :
    tPre m c t ⊢ wp frame (wpE (defs₀ (F := F)) Variants.none c none) Set.univ (bodyAt0 t) (fun _ => tPost m c t) := by
  have hN : t.val < 8 := Nat.lt_of_lt_of_eq t.isLt N_8
  obtain rfl : t = t0 := Fin.ext (by show t.val = 0; omega)
  unfold tPre tPost bodyAt0
  simp only [tbefore_0, tbefore_1, tbefore_2, tbefore_3, tbefore_4, tbefore_5, tbefore_6, tbefore_7, tbefore_8, tbefore_9, tbefore_10, tbefore_11, tbefore_12, tbefore_13, tbefore_14, tbefore_15, tbefore_16, tafter_0, tafter_1, tafter_2, tafter_3, tafter_4, tafter_5, tafter_6, tafter_7, tafter_8, tafter_9, tafter_10, tafter_11, tafter_12, tafter_13, tafter_14, tafter_15, tafter_16]
  rw [show (tdats m 0 c).owesAt () t0.succ = (tdats m 0 c).owesAt () t0.castSucc from rfl]
  rw [show (tdats m 0 c).Φ t0.succ = PhiN m c (t0.val + 1) from PhiT_pos m c _ (Nat.succ_ne_zero _), show (tdats m 0 c).Φ t0.castSucc = Pipeline.ΦA spec0 c from PhiT_zero m c]
  rw [PhiA_eq]
  unfold PhiN
  focus
      iintro ⟨⟨⟨H26, H27, H28, H29, H30, H31, ⟨%dg, H32⟩, ⟨%ds, H33⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, -, H17⟩, ⟨%d18, -, H18⟩, ⟨%d19, -, H19⟩, ⟨%d20, -, H20⟩, ⟨%d21, -, H21⟩, ⟨%d22, -, H22⟩, ⟨%d23, -, H23⟩, ⟨%d24, -, H24⟩, ⟨%d25, -, H25⟩⟩
      iapply (trackA c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) (ms13 t0) (hs13 t0) (ms14 t0) (hs14 t0) (ms15 t0) (hs15 t0) (ms16 t0) (hs16 t0) (ms17 t0) (hs17 t0) (ms18 t0) (hs18 t0) (ms19 t0) (hs19 t0) (ms20 t0) (hs20 t0) (ms21 t0) (hs21 t0) (ms22 t0) (hs22 t0) (ms23 t0) (hs23 t0) (ms24 t0) (hs24 t0) (ms25 t0) (hs25 t0) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) dg ds ((first_iff t0).mpr h0) (fun h => h1 ((last_iff t0).mp h)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, H22, H23, H24, ⟨%e25, H25⟩, H26, H27, H28, H29, H30, H31, H32, H33⟩
      isplitl [H26 H27 H28 H29 H30 H31 H32 H33 Hg]
      · isplitl [H26 H27 H28 H29 H30 H31 H32 H33]
        · isplitl [H26]; · iexact H26
          isplitl [H27]; · iexact H27
          isplitl [H28]; · iexact H28
          isplitl [H29]; · iexact H29
          isplitl [H30]; · iexact H30
          isplitl [H31]; · iexact H31
          isplitl [H32]
          · iexists _; isplitr; swap; · iexact H32
            ipureintro; exact rowsTo_step (ogRow m c) t0 dg (rowsTo_zero _ _)
          iexists _; isplitr; swap; · iexact H33
          ipureintro; exact rowsTo_step (osRow m c) t0 ds (rowsTo_zero _ _)
        iexact Hg
      isplitl [Ho]; · iexact Ho
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      isplitl [H14]
      · iexact H14
      isplitl [H15]
      · iexact H15
      isplitl [H16]
      · iexact H16
      isplitl [H17]
      · iexists _; isplitr; swap; · iexact H17
        ipureintro; trivial
      isplitl [H18]
      · iexists _; isplitr; swap; · iexact H18
        ipureintro; trivial
      isplitl [H19]
      · iexists _; isplitr; swap; · iexact H19
        ipureintro; trivial
      isplitl [H20]
      · iexists _; isplitr; swap; · iexact H20
        ipureintro; trivial
      isplitl [H21]
      · iexists _; isplitr; swap; · iexact H21
        ipureintro; trivial
      isplitl [H22]
      · iexists _; isplitr; swap; · iexact H22
        ipureintro; rfl
      isplitl [H23]
      · iexists _; isplitr; swap; · iexact H23
        ipureintro; rfl
      isplitl [H24]
      · iexists _; isplitr; swap; · iexact H24
        ipureintro; rfl
      iexists _; isplitr; swap; · iexact H25
      ipureintro; trivial

set_option maxHeartbeats 4000000 in
theorem tbodyB (c : Dev nD) (t : Fin cfg0.N) (h0 : ¬ t.val % 8 = 0) (h1 : ¬ t.val % 8 = 7) :
    tPre m c t ⊢ wp frame (wpE (defs₀ (F := F)) Variants.none c none) Set.univ (bodyAt0 t) (fun _ => tPost m c t) := by
  have hN : t.val < 8 := Nat.lt_of_lt_of_eq t.isLt N_8
  skip
  unfold tPre tPost bodyAt0
  simp only [tbefore_0, tbefore_1, tbefore_2, tbefore_3, tbefore_4, tbefore_5, tbefore_6, tbefore_7, tbefore_8, tbefore_9, tbefore_10, tbefore_11, tbefore_12, tbefore_13, tbefore_14, tbefore_15, tbefore_16, tafter_0, tafter_1, tafter_2, tafter_3, tafter_4, tafter_5, tafter_6, tafter_7, tafter_8, tafter_9, tafter_10, tafter_11, tafter_12, tafter_13, tafter_14, tafter_15, tafter_16]
  rw [show (tdats m 0 c).owesAt () t.succ = (tdats m 0 c).owesAt () t.castSucc from rfl]
  rw [show (tdats m 0 c).Φ t.succ = PhiN m c (t.val + 1) from PhiT_pos m c _ (Nat.succ_ne_zero _), show (tdats m 0 c).Φ t.castSucc = PhiN m c t.val from PhiT_pos m c t.val (by omega)]
  skip
  unfold PhiN
  focus
      iintro ⟨⟨⟨H26, H27, H28, H29, H30, H31, ⟨%dg, %hg, H32⟩, ⟨%ds, %hs, H33⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, -, H17⟩, ⟨%d18, -, H18⟩, ⟨%d19, -, H19⟩, ⟨%d20, -, H20⟩, ⟨%d21, -, H21⟩, ⟨%d22, -, H22⟩, ⟨%d23, -, H23⟩, ⟨%d24, -, H24⟩, ⟨%d25, -, H25⟩⟩
      iapply (trackB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (TQ m c) (GV m c) (GR m c) (SQ m c) (SK m c) (SV m c) dg ds (fun h => h0 ((first_iff t).mp h)) (fun h => h1 ((last_iff t).mp h)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, H22, H23, H24, ⟨%e25, H25⟩, H26, H27, H28, H29, H30, H31, H32, H33⟩
      isplitl [H26 H27 H28 H29 H30 H31 H32 H33 Hg]
      · isplitl [H26 H27 H28 H29 H30 H31 H32 H33]
        · isplitl [H26]; · iexact H26
          isplitl [H27]; · iexact H27
          isplitl [H28]; · iexact H28
          isplitl [H29]; · iexact H29
          isplitl [H30]; · iexact H30
          isplitl [H31]; · iexact H31
          isplitl [H32]
          · iexists _; isplitr; swap; · iexact H32
            ipureintro; exact rowsTo_step (ogRow m c) t dg hg
          iexists _; isplitr; swap; · iexact H33
          ipureintro; exact rowsTo_step (osRow m c) t ds hs
        iexact Hg
      isplitl [Ho]; · iexact Ho
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      isplitl [H14]
      · iexact H14
      isplitl [H15]
      · iexact H15
      isplitl [H16]
      · iexact H16
      isplitl [H17]
      · iexists _; isplitr; swap; · iexact H17
        ipureintro; trivial
      isplitl [H18]
      · iexists _; isplitr; swap; · iexact H18
        ipureintro; trivial
      isplitl [H19]
      · iexists _; isplitr; swap; · iexact H19
        ipureintro; trivial
      isplitl [H20]
      · iexists _; isplitr; swap; · iexact H20
        ipureintro; trivial
      isplitl [H21]
      · iexists _; isplitr; swap; · iexact H21
        ipureintro; trivial
      isplitl [H22]
      · iexists _; isplitr; swap; · iexact H22
        ipureintro; rfl
      isplitl [H23]
      · iexists _; isplitr; swap; · iexact H23
        ipureintro; rfl
      isplitl [H24]
      · iexists _; isplitr; swap; · iexact H24
        ipureintro; rfl
      iexists _; isplitr; swap; · iexact H25
      ipureintro; trivial

set_option maxHeartbeats 4000000 in
theorem tbodyC (c : Dev nD) (t : Fin cfg0.N) (h0 : ¬ t.val % 8 = 0) (h1 : t.val % 8 = 7) :
    tPre m c t ⊢ wp frame (wpE (defs₀ (F := F)) Variants.none c none) Set.univ (bodyAt0 t) (fun _ => tPost m c t) := by
  have hN : t.val < 8 := Nat.lt_of_lt_of_eq t.isLt N_8
  skip
  unfold tPre tPost bodyAt0
  simp only [tbefore_0, tbefore_1, tbefore_2, tbefore_3, tbefore_4, tbefore_5, tbefore_6, tbefore_7, tbefore_8, tbefore_9, tbefore_10, tbefore_11, tbefore_12, tbefore_13, tbefore_14, tbefore_15, tbefore_16, tafter_0, tafter_1, tafter_2, tafter_3, tafter_4, tafter_5, tafter_6, tafter_7, tafter_8, tafter_9, tafter_10, tafter_11, tafter_12, tafter_13, tafter_14, tafter_15, tafter_16]
  rw [show (tdats m 0 c).owesAt () t.succ = (tdats m 0 c).owesAt () t.castSucc from rfl]
  rw [show (tdats m 0 c).Φ t.succ = PhiN m c (t.val + 1) from PhiT_pos m c _ (Nat.succ_ne_zero _), show (tdats m 0 c).Φ t.castSucc = PhiN m c t.val from PhiT_pos m c t.val (by omega)]
  skip
  unfold PhiN
  focus
      iintro ⟨⟨⟨H26, H27, H28, H29, H30, H31, ⟨%dg, %hg, H32⟩, ⟨%ds, %hs, H33⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, -, H17⟩, ⟨%d18, -, H18⟩, ⟨%d19, -, H19⟩, ⟨%d20, -, H20⟩, ⟨%d21, -, H21⟩, ⟨%d22, -, H22⟩, ⟨%d23, -, H23⟩, ⟨%d24, -, H24⟩, ⟨%d25, -, H25⟩⟩
      iapply (trackC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (TQ m c) (GV m c) (GR m c) (SQ m c) (SK m c) (SV m c) dg ds (fun h => h0 ((first_iff t).mp h)) ((last_iff t).mpr h1) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, H22, H23, H24, ⟨%e25, H25⟩, H26, H27, H28, H29, H30, H31, H32, H33⟩
      isplitl [H26 H27 H28 H29 H30 H31 H32 H33 Hg]
      · isplitl [H26 H27 H28 H29 H30 H31 H32 H33]
        · isplitl [H26]; · iexact H26
          isplitl [H27]; · iexact H27
          isplitl [H28]; · iexact H28
          isplitl [H29]; · iexact H29
          isplitl [H30]; · iexact H30
          isplitl [H31]; · iexact H31
          isplitl [H32]
          · iexists _; isplitr; swap; · iexact H32
            ipureintro; exact rowsTo_step (ogRow m c) t dg hg
          iexists _; isplitr; swap; · iexact H33
          ipureintro; exact rowsTo_step (osRow m c) t ds hs
        iexact Hg
      isplitl [Ho]; · iexact Ho
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      isplitl [H14]
      · iexact H14
      isplitl [H15]
      · iexact H15
      isplitl [H16]
      · iexact H16
      isplitl [H17]
      · iexists _; isplitr; swap; · iexact H17
        ipureintro; trivial
      isplitl [H18]
      · iexists _; isplitr; swap; · iexact H18
        ipureintro; trivial
      isplitl [H19]
      · iexists _; isplitr; swap; · iexact H19
        ipureintro; trivial
      isplitl [H20]
      · iexists _; isplitr; swap; · iexact H20
        ipureintro; trivial
      isplitl [H21]
      · iexists _; isplitr; swap; · iexact H21
        ipureintro; trivial
      isplitl [H22]
      · iexists _; isplitr; swap; · iexact H22
        ipureintro; rfl
      isplitl [H23]
      · iexists _; isplitr; swap; · iexact H23
        ipureintro; rfl
      isplitl [H24]
      · iexists _; isplitr; swap; · iexact H24
        ipureintro; rfl
      iexists _; isplitr; swap; · iexact H25
      ipureintro; trivial

theorem tbody (c : Dev nD) (t : Fin cfg0.N) :
    tPre m c t ⊢ wp frame (wpE (defs₀ (F := F)) Variants.none c none) Set.univ (bodyAt0 t) (fun _ => tPost m c t) := by
  by_cases h0 : t.val % 8 = 0
  · exact tbodyA m c t h0 (by omega)
  · by_cases h1 : t.val % 8 = 7
    · exact tbodyC m c t h0 h1
    · exact tbodyB m c t h0 h1

set_option maxHeartbeats 1000000 in
theorem tbody_obligation (c : Dev nD) : BodyObligationRel (tdats (F := F) m 0 c) (defs₀ (F := F)) Variants.none () Set.univ forgets (Rl m c) := fun t => by
  rw [bigSep_W0, bigSep_W0, row]
  exact triple_restated (tbody m c t) rfl .rfl fun _ => .rfl

/-! ## The run -/

/-- After the last point the scratch holds something. -/
theorem PhiT_out (c : Dev nD) : (tdats m 0 c).Φ (Fin.last cfg0.N) ⊢ Pipeline.ΦA spec0 c := by
  rw [show (tdats m 0 c).Φ (Fin.last cfg0.N) = PhiN m c cfg0.N from PhiT_pos m c cfg0.N (by rw [N_8]; decide), PhiA_eq]
  unfold PhiN
  iintro ⟨⟨H0, H1, H2, H3, H4, H5, ⟨%d6, %h6, H6⟩, ⟨%d7, %h7, H7⟩⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  iexact Hg

set_option backward.isDefEq.respectTransparency.types false in
/-- The launch: what every buffer may end at. -/
theorem run_track : θ_run defs (onTc (τ := τ) (main (F := F))) (s₀ m ρ) (fun r => Pipeline.RDat.FramePost (cfgs 0) (fun c => (tdats m 0 c).toRRel forgets (Rl m c)) (V m) r) :=
  Pipeline.RDat.θ_run_frame_track cfgs (0 : Fin 1) launch0 defs₀ Variants.none (fun c => (tdats m 0 c).toRRel forgets (Rl m c)) m ρ main
    (hbody := fun c => (tbody_obligation m c).toRRel) (hshare := fun c => (tdats m 0 c).share_full fun _ => rfl)
    (howed := fun _ _ => rfl) (V := V m) (hmain := hmain m Variants.none) (hA := tA_eq m) (hin := fun _ => .rfl) (hout := PhiT_out m)

end Cert.KernelIdeal.Track

end
-- ==== Proof.Mix.lean ====
module

public import Idealize.ShloMosaic.Lib.Pointwise
public import Idealize.ShloMosaic.Lib.VecWindow

@[expose] public section

noncomputable section

/-! The layer's mathematics of one token, over the extended reals: what the kernel's arrays and the reference's are both
    read as. -/

namespace Cert.Mix

open Idealize.ShloMosaic

/-- A token's hidden vector divided by its root mean square, times the norm's weights. -/
def norm (x g : Fin 1024 → EReal) (j : Fin 1024) : EReal :=
  x j * Ideal.rsqrt (Ideal.div (∑ k, x k * x k) (Ideal.ofBits .f32 0x44800000#32) + Ideal.ofBits .f32 0x358637BD#32) * g j

/-- The normed vector against one column of weights. -/
def proj (x g w : Fin 1024 → EReal) : EReal := ∑ k, norm x g k * w k

/-- The softplus of `-z`: minus the logarithm of the logistic function of `z`. -/
def softplus (z : EReal) : EReal := max (-z) 0 + Ideal.log (1 + Ideal.exp (-(FloatOps.absf (F := Ideal) (φ := .f32) z)))

/-- A gate's decay factor. -/
def decay (z : EReal) : EReal := Ideal.exp (Ideal.div (-(softplus z)) (Ideal.ofBits .f32 0x41800000#32))

theorem exp_nonneg (x : EReal) : 0 ≤ Ideal.exp x := by
  induction x with
  | bot => exact le_of_eq rfl
  | top => exact le_top
  | coe r => rw [Ideal.exp_coe]; exact_mod_cast (Real.exp_pos r).le

theorem log_nonneg {x : EReal} (h : 1 ≤ x) : 0 ≤ Ideal.log x := by
  induction x with
  | bot => exact absurd h (not_le.mpr (EReal.bot_lt_coe 1))
  | top => exact le_top
  | coe r =>
    have h1 : (1 : ℝ) ≤ r := by exact_mod_cast h
    rw [Ideal.log_coe, if_neg (by linarith)]
    exact_mod_cast Real.log_nonneg h1

theorem softplus_nonneg (z : EReal) : 0 ≤ softplus z := by
  refine add_nonneg (le_max_right _ _) (log_nonneg ?_)
  calc (1 : EReal) = 1 + 0 := (add_zero _).symm
    _ ≤ _ := add_le_add le_rfl (exp_nonneg _)

theorem sixteen : Ideal.ofBits .f32 0x41800000#32 = ((16 : ℝ) : EReal) := by
  simp [Ideal.ofBits, Ideal.ieee]; rw [← EReal.coe_mul]; norm_num

/-- A decay factor lies between zero and one. -/
theorem decay_bounds (z : EReal) : 0 ≤ decay z ∧ decay z ≤ 1 := by
  refine ⟨exp_nonneg _, ?_⟩
  have h0 : Ideal.div (-(softplus z)) (Ideal.ofBits .f32 0x41800000#32) ≤ 0 := by
    rw [sixteen, Ideal.div_coe (by norm_num)]
    refine EReal.mul_nonpos_iff.mpr (.inr ⟨?_, by exact_mod_cast (by norm_num : (0 : ℝ) ≤ 1 / 16)⟩)
    exact EReal.neg_le_zero.mpr (softplus_nonneg z)
  unfold decay
  generalize Ideal.div (-(softplus z)) (Ideal.ofBits .f32 0x41800000#32) = y at h0
  induction y with
  | bot => exact zero_le_one
  | top => exact absurd h0 (by simp)
  | coe r =>
    have : r ≤ 0 := by exact_mod_cast h0
    rw [Ideal.exp_coe]; exact_mod_cast Real.exp_le_one_iff.mpr this

theorem decay_sub_self (z : EReal) : decay z - decay z = 0 := by
  obtain ⟨h0, h1⟩ := decay_bounds z
  refine EReal.sub_self (fun e => ?_) (fun e => ?_)
  · rw [e] at h1; exact absurd h1 (not_le.mpr (EReal.coe_lt_top 1))
  · rw [e] at h0; exact absurd h0 (not_le.mpr (EReal.bot_lt_coe 0))

/-- A sum against a row of zeros with one one in it reads that entry. -/
theorem pick_sum {n : ℕ} (f : Fin n → EReal) (p : Fin n → EReal) (a : Fin n) (h1 : p a = 1) (h0 : ∀ x, x ≠ a → p x = 0) :
    ∑ x, f x * p x = f a := by
  rw [Finset.sum_eq_single a (fun x _ hx => by rw [h0 x hx, mul_zero]) (fun h => absurd (Finset.mem_univ _) h), h1, mul_one]

/-- A condition's word as a number: one where it holds, zero where it does not. -/
theorem eq_word (x y : BitVec 32) : FloatOps.sitofp (F := Ideal) .f32 (BitVec.setWidth 32 (IntOp.cmpi CmpIPredicate.eq x y)) = if x = y then (1 : EReal) else 0 := by
  by_cases h : x = y
  · rw [if_pos h, show IntOp.cmpi CmpIPredicate.eq x y = 1#1 by simp [IntOp.cmpi, h]]
    show (((BitVec.setWidth 32 (1#1)).toInt : ℝ) : EReal) = 1
    rw [show (BitVec.setWidth 32 (1#1)).toInt = 1 by decide]; norm_num
  · rw [if_neg h, show IntOp.cmpi CmpIPredicate.eq x y = 0#1 by simp [IntOp.cmpi, beq_eq_false_iff_ne.mpr h]]
    show (((BitVec.setWidth 32 (0#1)).toInt : ℝ) : EReal) = 0
    rw [show (BitVec.setWidth 32 (0#1)).toInt = 0 by decide]; norm_num

end Cert.Mix

end
-- ==== Proof.KernelValue.lean ====
module

public import proofs.«01_k».proof.Proof.KernelIdealTrack
public import proofs.«01_k».proof.Proof.Mix
public import Idealize.ShloMosaic.Lib.Pipeline.ValueKit.Geometry

@[expose] public section

set_option maxRecDepth 16384

noncomputable section

/-! The kernel's blocks at the extended reals, element by element. -/

namespace Cert.KernelIdeal.Track

open Idealize.ShloMosaic Idealize.ShloMosaic.TcCoe Idealize.ShloMosaic.Tactic
open Cert.KernelIdeal.Gen
open Cert.KernelIdeal.Run hiding frame
open Cert.Mix

section
variable {α : Type}

theorem window2_at {n0 n1 : ℕ} (x : (⟨2, ![n0, n1]⟩ : Shape).Idx → α) (off : Fin 2 → ℕ) (size : Fin 2 → ℕ)
    (inb : ∀ a, off a + size a ≤ (⟨2, ![n0, n1]⟩ : Shape).size a) (y) (a : Fin n0) (b : Fin n1)
    (ha : off 0 + (y 0).val = a.val) (hb : off 1 + (y 1).val = b.val) :
    VecWindow.window (s := ⟨2, ![n0, n1]⟩) x off size inb y = x (ix2 a b) := by
  refine congrArg x (funext fun d => Fin.ext ?_)
  match d with
  | ⟨0, _⟩ => exact (ValueKit.rect_emb_unit_val _ _ _ _ _).trans ha
  | ⟨1, _⟩ => exact (ValueKit.rect_emb_unit_val _ _ _ _ _).trans hb

theorem window3_at {n0 n1 n2 : ℕ} (x : (⟨3, ![n0, n1, n2]⟩ : Shape).Idx → α) (off : Fin 3 → ℕ) (size : Fin 3 → ℕ)
    (inb : ∀ a, off a + size a ≤ (⟨3, ![n0, n1, n2]⟩ : Shape).size a) (y) (a : Fin n0) (b : Fin n1) (d : Fin n2)
    (ha : off 0 + (y 0).val = a.val) (hb : off 1 + (y 1).val = b.val) (hd : off 2 + (y 2).val = d.val) :
    VecWindow.window (s := ⟨3, ![n0, n1, n2]⟩) x off size inb y = x (ix3 a b d) := by
  refine congrArg x (funext fun e => Fin.ext ?_)
  match e with
  | ⟨0, _⟩ => exact (ValueKit.rect_emb_unit_val _ _ _ _ _).trans ha
  | ⟨1, _⟩ => exact (ValueKit.rect_emb_unit_val _ _ _ _ _).trans hb
  | ⟨2, _⟩ => exact (ValueKit.rect_emb_unit_val _ _ _ _ _).trans hd

theorem window4_at {n0 n1 n2 n3 : ℕ} (x : (⟨4, ![n0, n1, n2, n3]⟩ : Shape).Idx → α) (off : Fin 4 → ℕ) (size : Fin 4 → ℕ)
    (inb : ∀ a, off a + size a ≤ (⟨4, ![n0, n1, n2, n3]⟩ : Shape).size a) (y) (a : Fin n0) (b : Fin n1) (d : Fin n2) (e : Fin n3)
    (ha : off 0 + (y 0).val = a.val) (hb : off 1 + (y 1).val = b.val) (hd : off 2 + (y 2).val = d.val) (he : off 3 + (y 3).val = e.val) :
    VecWindow.window (s := ⟨4, ![n0, n1, n2, n3]⟩) x off size inb y = x (ix4 a b d e) := by
  refine congrArg x (funext fun e => Fin.ext ?_)
  match e with
  | ⟨0, _⟩ => exact (ValueKit.rect_emb_unit_val _ _ _ _ _).trans ha
  | ⟨1, _⟩ => exact (ValueKit.rect_emb_unit_val _ _ _ _ _).trans hb
  | ⟨2, _⟩ => exact (ValueKit.rect_emb_unit_val _ _ _ _ _).trans hd
  | ⟨3, _⟩ => exact (ValueKit.rect_emb_unit_val _ _ _ _ _).trans he
end

section
variable (x1 : S128x1024.Idx → Elt Ideal .f32) (x7 : S1x1024.Idx → Elt Ideal .f32) (x8 : S1024x2432.Idx → Elt Ideal .bf16)
  (x9 : S128x256.Idx → Elt Ideal .bf16) (x10 : S1x256.Idx → Elt Ideal .f32)

/-- A token's projection onto a column of the kernel's weights. -/
def kcol (s : Fin 128) (o : Fin 2432) : EReal :=
  proj (fun k => x1 (ix2 s k)) (fun k => x7 (ix2 (0 : Fin 1) k)) (fun k => x8 (ix2 k o))

/-- A token's gate before the softplus. -/
def kgate (s : Fin 128) (j : Fin 256) : EReal :=
  (∑ l : Fin 128, kcol x1 x7 x8 s ⟨2304 + l.val, by omega⟩ * x9 (ix2 l j)) + x10 (ix2 (0 : Fin 1) j)

theorem normed_at (s : Fin 128) (j : Fin 1024) :
    k0_pay5 (F := Ideal) x1 x7 (ix2 s j) = norm (fun k => x1 (ix2 s k)) (fun k => x7 (ix2 (0 : Fin 1) k)) j := by
  pointwise [k0_pay5]; rfl

theorem slab_at (o : ℕ) (h) (k : Fin 1024) (j : Fin 256) (hj : o + j.val < 2432) :
    slab (F := Ideal) o h x8 (ix2 k j) = x8 (ix2 k ⟨o + j.val, hj⟩) :=
  window2_at x8 _ _ _ _ _ _ (Nat.zero_add _) rfl

theorem gateSlab_at (k : Fin 1024) (j : Fin 128) :
    gateSlab (F := Ideal) x8 (ix2 k j) = x8 (ix2 k ⟨2304 + j.val, by omega⟩) :=
  window2_at x8 _ _ _ _ _ _ (Nat.zero_add _) rfl

theorem slab_sum (o : ℕ) (h) (s : Fin 128) (j : Fin 256) (hj : o + j.val < 2432) :
    ∑ k, k0_pay5 (F := Ideal) x1 x7 (ix2 s k) * slab (F := Ideal) o h x8 (ix2 k j) = kcol x1 x7 x8 s ⟨o + j.val, hj⟩ := by
  unfold kcol proj
  refine Finset.sum_congr rfl fun k _ => ?_
  rw [normed_at, slab_at x8 o h k j hj]

theorem gateSlab_sum (s : Fin 128) (j : Fin 128) :
    ∑ k, k0_pay5 (F := Ideal) x1 x7 (ix2 s k) * gateSlab (F := Ideal) x8 (ix2 k j) = kcol x1 x7 x8 s ⟨2304 + j.val, by omega⟩ := by
  unfold kcol proj
  refine Finset.sum_congr rfl fun k _ => ?_
  rw [normed_at, gateSlab_at]

theorem qk_at (s : Fin 128) (j : Fin 512) :
    k0_pay8 (F := Ideal) (k0_pay5 x1 x7) (slab 0 inb_S1024x2432_S1024x256_0_0 x8) (slab 256 inb_S1024x2432_S1024x256_0_256 x8) (ix2 s j)
      = kcol x1 x7 x8 s ⟨j.val, by omega⟩ := by
  pointwise [k0_pay8, dot_S128x1024_S1024x256_S128x256_1_0_0_1_n_n]
  split
  · refine (slab_sum x1 x7 x8 _ _ s _ (by simp only; omega)).trans (congrArg _ (Fin.ext ?_)); simp only; omega
  · refine (slab_sum x1 x7 x8 _ _ s _ (by simp only; omega)).trans (congrArg _ (Fin.ext ?_)); simp only; omega

theorem gv_at (s : Fin 128) (j : Fin 512) : gvOf (F := Ideal) x1 x7 x8 (ix2 s j) = kcol x1 x7 x8 s ⟨512 + j.val, by omega⟩ := by
  unfold gvOf
  pointwise [k0_pay14, k0_pay9, dot_S128x1024_S1024x256_S128x256_1_0_0_1_n_n]
  split
  · refine (slab_sum x1 x7 x8 _ _ s _ (by simp only; omega)).trans (congrArg _ (Fin.ext ?_)); simp only
  · refine (slab_sum x1 x7 x8 _ _ s _ (by simp only; omega)).trans (congrArg _ (Fin.ext ?_)); simp only; omega

theorem swa_at (s : Fin 128) (j : Fin 768) : swaOf (F := Ideal) x1 x7 x8 (ix2 s j) = kcol x1 x7 x8 s ⟨1536 + j.val, by omega⟩ := by
  unfold swaOf
  pointwise [k0_pay10, dot_S128x1024_S1024x256_S128x256_1_0_0_1_n_n]
  split
  · refine (slab_sum x1 x7 x8 _ _ s _ (by simp only; omega)).trans (congrArg _ (Fin.ext ?_)); simp only
  · split
    · refine (slab_sum x1 x7 x8 _ _ s _ (by simp only; omega)).trans (congrArg _ (Fin.ext ?_)); simp only; omega
    · refine (slab_sum x1 x7 x8 _ _ s _ (by simp only; omega)).trans (congrArg _ (Fin.ext ?_)); simp only; omega

theorem sk_at (s : Fin 128) (j : Fin 128) : skOf (F := Ideal) x1 x7 x8 (ix2 s j) = kcol x1 x7 x8 s ⟨2048 + j.val, by omega⟩ := by
  unfold skOf
  pointwise [k0_pay17]
  refine (swa_at x1 x7 x8 s _).trans (congrArg _ (Fin.ext ?_)); simp only; omega

theorem sv_at (s : Fin 128) (j : Fin 128) : svOf (F := Ideal) x1 x7 x8 (ix2 s j) = kcol x1 x7 x8 s ⟨2176 + j.val, by omega⟩ := by
  unfold svOf
  pointwise [k0_pay18]
  refine (swa_at x1 x7 x8 s _).trans (congrArg _ (Fin.ext ?_)); simp only; omega

theorem soft_at (s : Fin 128) (j : Fin 256) :
    k0_pay6 (F := Ideal) x1 x7 x9 x10 (gateSlab x8) (ix2 s j) = softplus (kgate x1 x7 x8 x9 x10 s j) := by
  pointwise [k0_pay6, dot_S128x1024_S1024x128_S128x128_1_0_0_1_n_n, dot_S128x128_S128x256_S128x256_1_0_0_1_n_n]
  simp only [gateSlab_sum, zero_sub]
  rfl

theorem decay_at (s : Fin 128) (j : Fin 256) :
    Ideal.exp (k0_pay7 (F := Ideal) (k0_pay6 x1 x7 x9 x10 (gateSlab x8)) (Scalar.ofBits .f32 0x00000000#32) (ix2 s j))
      = decay (kgate x1 x7 x8 x9 x10 s j) := by
  pointwise [k0_pay7]
  show Ideal.exp (Ideal.div (0 - k0_pay6 (F := Ideal) x1 x7 x9 x10 (gateSlab x8) (ix2 s j)) (Ideal.ofBits .f32 0x41800000#32)) = _
  rw [soft_at, zero_sub]
  rfl

theorem stacked_at (a : FVec Ideal S128x256 .f32) (b : FVec Ideal S128x512 .f32)
    (ha : ∀ y, Ideal.exp (a y) - Ideal.exp (a y) = 0) (r : Fin 1280) (s : Fin 128) :
    k0_pay13 (F := Ideal) a b (ix2 r s)
      = if h : r.val < 256 then Ideal.exp (a (ix2 s ⟨r.val, h⟩))
        else if r.val < 768 then 0
        else if h : r.val < 1024 then b (ix2 s ⟨r.val - 512, by omega⟩)
        else b (ix2 s ⟨r.val - 1024, by omega⟩) := by
  pointwise [k0_pay13]
  split_ifs
  all_goals try omega
  · rfl
  · rw [if_pos (show r.val < 768 by omega)]; exact ha _
  · rw [if_pos (show r.val < 768 by omega)]; exact (congrArg₂ (· - ·) (ha _) (ha _)).trans (sub_zero _)
  · rw [if_neg (show ¬ r.val < 768 by omega), dif_pos (show r.val < 1024 by omega)]
    exact congrArg (fun j => b (ix2 s j)) (Fin.ext (by show 256 + (r.val - 256 - 256 - 256) = r.val - 512; omega))
  · rw [if_neg (show ¬ r.val < 768 by omega), dif_neg (show ¬ r.val < 1024 by omega)]
    exact congrArg (fun j => b (ix2 s j)) (Fin.ext (by show r.val - 256 - 256 - 256 - 256 = r.val - 1024; omega))

/-- The transposed projections: the decay factors, their two remainders, the keys and the queries. -/
theorem tq_at (r : Fin 1280) (s : Fin 128) :
    tqOf (F := Ideal) x1 x7 x8 x9 x10 (ix2 r s)
      = if h : r.val < 256 then decay (kgate x1 x7 x8 x9 x10 s ⟨r.val, h⟩)
        else if r.val < 768 then 0
        else if h : r.val < 1024 then kcol x1 x7 x8 s ⟨r.val - 512, by omega⟩
        else kcol x1 x7 x8 s ⟨r.val - 1024, by omega⟩ := by
  have hd (s : Fin 128) (j : Fin 256) := decay_at x1 x7 x8 x9 x10 s j
  unfold tqOf
  rw [stacked_at _ _ (fun y => by rw [eq_ix2 y]; exact (congrArg₂ (· - ·) (hd _ _) (hd _ _)).trans (decay_sub_self _))]
  split_ifs
  · exact hd _ _
  · rfl
  · exact qk_at x1 x7 x8 s _
  · exact qk_at x1 x7 x8 s _
end

section
variable (i : grid0.Coords) (k : Fin k0_t1_loop.trips)

/-- The sequence a trip works on. -/
def seq (i : grid0.Coords) (k : Fin k0_t1_loop.trips) : Fin 128 :=
  ⟨16 * (i 0).val + k.val, by
    have hk' : k.val < 16 := Nat.lt_of_lt_of_eq k.isLt trips_eq
    have hi : (i 0).val < 8 := (i 0).isLt
    omega⟩

theorem pick_at (tq : S1280x128.Idx → Elt Ideal .bf16) (r : Fin 1280) (l : Fin 128) :
    k0_pay19 (F := Ideal) (BitVec.ofNat 32 (i 0).val) (iota .tc S128x128 32 [0] iota_S128x128_d0_w32) 0#32 1#32 k tq (ix2 r l) = tq (ix2 r (seq i k)) := by
  have hk' : k.val < 16 := Nat.lt_of_lt_of_eq k.isLt trips_eq
  have hi : (i 0).val < 8 := (i 0).isLt
  pointwise [k0_pay19, dot_S1280x128_S128x128_S1280x128_1_0_0_1_n_n]
  rw [iv_eq, word_eq _ _ hi hk']
  simp only [eq_word]
  refine pick_sum (fun x => tq (ix2 r x)) _ (seq i k) (if_pos rfl) fun x hx => if_neg fun e => hx (Fin.ext ?_)
  have e' := congrArg BitVec.toNat e
  rw [BitVec.toNat_ofNat, BitVec.toNat_ofNat, Nat.mod_eq_of_lt (by omega), Nat.mod_eq_of_lt (by omega)] at e'
  exact e'

/-- The state's block after its trip, at an element. -/
theorem stTrip_at (x2 : S16x4x64x128.Idx → Elt Ideal .f32) (tq : S1280x128.Idx → Elt Ideal .bf16) (gv : S128x512.Idx → Elt Ideal .f32)
    (q : Fin 16) (hq : q.val = k.val) (h : Fin 4) (d : Fin 64) (e : Fin 128) :
    stTrip (F := Ideal) i k x2 tq gv (ix4 (0 : Fin 1) h d e)
      = (tq (ix2 ⟨64 * h.val + d.val, by omega⟩ (seq i k)) + tq (ix2 ⟨256 + (64 * h.val + d.val), by omega⟩ (seq i k))
          + tq (ix2 ⟨512 + (64 * h.val + d.val), by omega⟩ (seq i k))) * x2 (ix4 q h d e)
        + tq (ix2 ⟨768 + (64 * h.val + d.val), by omega⟩ (seq i k)) * gv (ix2 (seq i k) ⟨128 * h.val + e.val, by omega⟩) := by
  unfold stTrip
  pointwise [k0_pay21, k0_pay20]
  simp only [pick_at, Nat.mul_comm h.val 64]
  have o0 : k0_off1 k 0 = k.val := congrFun (off1_eq k) 0
  have o1 : k0_off1 k 1 = 0 := congrFun (off1_eq k) 1
  have o2 : k0_off1 k 2 = 0 := congrFun (off1_eq k) 2
  have o3 : k0_off1 k 3 = 0 := congrFun (off1_eq k) 3
  have p0 : k0_off2 i k 0 = 16 * (i 0).val + k.val := congrFun (off2_eq i k) 0
  have p1 : k0_off2 i k 1 = 0 := congrFun (off2_eq i k) 1
  rw [window4_at x2 (k0_off1 k) _ _ _ q h d e (by show k0_off1 k 0 + 0 = q.val; omega) (by show k0_off1 k 1 + h.val = h.val; omega)
    (by show k0_off1 k 2 + d.val = d.val; omega) (by show k0_off1 k 3 + e.val = e.val; omega)]
  rw [pick_at, pick_at, pick_at, pick_at]
  refine congrArg _ (congrArg _ ?_)
  split_ifs
  · exact window2_at gv (k0_off2 i k) _ _ _ _ _ (by show k0_off2 i k 0 + 0 = 16 * (i 0).val + k.val; omega) (by show k0_off2 i k 1 + e.val = 128 * h.val + e.val; omega)
  · exact window2_at gv (k0_off2 i k) _ _ _ _ _ (by show k0_off2 i k 0 + 0 = 16 * (i 0).val + k.val; omega) (by show k0_off2 i k 1 + (128 + e.val) = 128 * h.val + e.val; omega)
  · exact window2_at gv (k0_off2 i k) _ _ _ _ _ (by show k0_off2 i k 0 + 0 = 16 * (i 0).val + k.val; omega) (by show k0_off2 i k 1 + (256 + e.val) = 128 * h.val + e.val; omega)
  · exact window2_at gv (k0_off2 i k) _ _ _ _ _ (by show k0_off2 i k 0 + 0 = 16 * (i 0).val + k.val; omega) (by show k0_off2 i k 1 + (384 + e.val) = 128 * h.val + e.val; omega)

/-- A cache block's sequence after its trip, at an element. -/
theorem knTrip_at (x3 : S16x128x128.Idx → Elt Ideal .f32) (sk : S128x128.Idx → Elt Ideal .f32) (q : Fin 16) (hq : q.val = k.val) (r l : Fin 128) :
    knTrip (F := Ideal) i k x3 sk (ix3 (0 : Fin 1) r l)
      = if h : r.val = 127 then sk (ix2 (seq i k) l) else x3 (ix3 q ⟨r.val + 1, by omega⟩ l) := by
  pointwise [knTrip, k0_pay28, rolled, k0_pay25]
  by_cases h : r.val = 127
  · have p0 : k0_off3 i k 0 = 16 * (i 0).val + k.val := congrFun (off3_eq i k) 0
    have p1 : k0_off3 i k 1 = 0 := congrFun (off3_eq i k) 1
    rw [dif_pos h, show IntOp.cmpi CmpIPredicate.eq (BitVec.ofNat 32 r.val) 127#32 = 1#1 by rw [h]; rfl]
    exact window2_at sk (k0_off3 i k) _ _ _ _ _ (by show k0_off3 i k 0 + 0 = 16 * (i 0).val + k.val; omega) (by show k0_off3 i k 1 + l.val = l.val; omega)
  · rw [dif_neg h, show IntOp.cmpi CmpIPredicate.eq (BitVec.ofNat 32 r.val) 127#32 = 0#1 by
      have : BitVec.ofNat 32 r.val ≠ 127#32 := fun e => h (by have := congrArg BitVec.toNat e; rw [BitVec.toNat_ofNat, Nat.mod_eq_of_lt (by omega)] at this; exact this)
      simp [IntOp.cmpi, beq_eq_false_iff_ne.mpr this]]
    have o0 : k0_off4 k 0 = k.val := congrFun (off4_eq k) 0
    have o1 : k0_off4 k 1 = 0 := congrFun (off4_eq k) 1
    have o2 : k0_off4 k 2 = 0 := congrFun (off4_eq k) 2
    refine window3_at x3 (k0_off4 k) _ _ _ q ⟨r.val + 1, by omega⟩ l ?_ ?_ ?_
    · show k0_off4 k 0 + 0 = q.val
      omega
    · show k0_off4 k 1 + (r.val + 128 - 127) % 128 = r.val + 1
      omega
    · show k0_off4 k 2 + l.val = l.val
      omega
end

end Cert.KernelIdeal.Track

end
-- ==== Proof.Step.lean ====
module

public import proofs.«01_k».proof.Proof.Mix
public import Idealize.ShloMosaic.Lib.Pointwise.Index

@[expose] public section

noncomputable section

/-! The mixer's decode step of all sequences, in the arguments' own layouts: what both programs' results are read as. -/

namespace Cert.Mix

open Idealize.ShloMosaic

variable (a0 : (⟨3, ![128, 1, 1024]⟩ : Shape).Idx → EReal) (a1 : (⟨5, ![1, 128, 4, 64, 128]⟩ : Shape).Idx → EReal)
  (a2 : (⟨5, ![1, 128, 128, 2, 64]⟩ : Shape).Idx → EReal) (a6 : (⟨2, ![1, 1024]⟩ : Shape).Idx → EReal)
  (a7 : (⟨3, ![1, 1024, 2320]⟩ : Shape).Idx → EReal) (a8 : (⟨3, ![1, 16, 256]⟩ : Shape).Idx → EReal)
  (a9 : (⟨2, ![1, 256]⟩ : Shape).Idx → EReal)

/-- One column of the in-projection of a sequence's token. -/
def col (s : Fin 128) (o : Fin 2320) : EReal :=
  proj (fun k => a0 (ix3 s 0 k)) (fun k => a6 (ix2 0 k)) (fun k => a7 (ix3 0 k o))

/-- The gate before its nonlinearity. -/
def gate (s : Fin 128) (j : Fin 256) : EReal :=
  (∑ l : Fin 16, col a0 a6 a7 s ⟨1536 + l.val, by omega⟩ * a8 (ix3 0 l j)) + a9 (ix2 0 j)

/-- The recurrent state after the token. -/
def state (s : Fin 128) (h : Fin 4) (d : Fin 64) (e : Fin 128) : EReal :=
  decay (gate a0 a6 a7 a8 a9 s ⟨64 * h.val + d.val, by omega⟩) * a1 (ix5 0 s h d e)
    + col a0 a6 a7 s ⟨256 + (64 * h.val + d.val), by omega⟩ * col a0 a6 a7 s ⟨512 + (128 * h.val + e.val), by omega⟩

/-- A cache after the token: the oldest row leaves, the token's row (columns `o` on) comes last. -/
def cache (o : ℕ) (ho : o + 128 ≤ 2320) (s r l : Fin 128) : EReal :=
  if h : r.val = 127 then col a0 a6 a7 s ⟨o + l.val, by omega⟩
  else a2 (ix5 0 s ⟨r.val + 1, by omega⟩ ⟨l.val / 64, by omega⟩ ⟨l.val % 64, by omega⟩)

end Cert.Mix

end
-- ==== Proof.HostValue.lean ====
module

public import proofs.«01_k».proof.Proof.KernelValue
public import proofs.«01_k».proof.Proof.Step
public import Idealize.ShloMosaic.Lib.StableHlo.ReadAt

@[expose] public section

set_option maxRecDepth 16384

noncomputable section

/-! The arrays the host part hands to the kernel, element by element, in the arguments' own layouts. -/

namespace Cert.KernelIdeal.Track

open Idealize.ShloMosaic Idealize.ShloMosaic.TcCoe Idealize.ShloMosaic.Tactic
open Cert.KernelIdeal.Gen
open Cert.KernelIdeal.Run hiding frame
open Cert.Mix

variable (m : (ℓ : Loc nD τ sig) → Buf (Elt Ideal) ℓ) (c : Dev nD)

/-- The arguments, as arrays of extended reals. -/
abbrev A0 : S128x1x1024.Idx → EReal := m ((c.tc : Thread nD τ).loc main_arg0)
abbrev A1 : S1x128x4x64x128.Idx → EReal := m ((c.tc : Thread nD τ).loc main_arg1)
abbrev A2 : S1x128x128x2x64.Idx → EReal := m ((c.tc : Thread nD τ).loc main_arg2)
abbrev A3 : S1x128x128x2x64.Idx → EReal := m ((c.tc : Thread nD τ).loc main_arg3)
abbrev A6 : S1x1024.Idx → EReal := m ((c.tc : Thread nD τ).loc main_arg6)
abbrev A7 : S1x1024x2320.Idx → EReal := m ((c.tc : Thread nD τ).loc main_arg7)
abbrev A8 : S1x16x256.Idx → EReal := m ((c.tc : Thread nD τ).loc main_arg8)
abbrev A9 : S1x256.Idx → EReal := m ((c.tc : Thread nD τ).loc main_arg9)

theorem v75_at (s : Fin 128) (j : Fin 1024) : (V m c main_v75 : S128x1024.Idx → EReal) (ix2 s j) = A0 m c (ix3 s 0 j) := by
  unfold V; after_reads_at

theorem v61_at (j : Fin 1024) : (V m c main_v61 : S1x1024.Idx → EReal) (ix2 0 j) = A6 m c (ix2 0 j) := by
  unfold V; after_reads_at

theorem v63_at (j : Fin 256) : (V m c main_v63 : S1x256.Idx → EReal) (ix2 0 j) = A9 m c (ix2 0 j) := by
  unfold V; after_reads_at

theorem v76_at (s : Fin 128) (h : Fin 4) (d : Fin 64) (e : Fin 128) : (V m c main_v76 : S128x4x64x128.Idx → EReal) (ix4 s h d e) = A1 m c (ix5 0 s h d e) := by
  unfold V; after_reads_at

theorem v78_at (s r l : Fin 128) : (V m c main_v78 : S128x128x128.Idx → EReal) (ix3 s r l) = A2 m c (ix5 0 s r ⟨l.val / 64, by omega⟩ ⟨l.val % 64, by omega⟩) := by
  unfold V; after_reads_at

theorem v80_at (s r l : Fin 128) : (V m c main_v80 : S128x128x128.Idx → EReal) (ix3 s r l) = A3 m c (ix5 0 s r ⟨l.val / 64, by omega⟩ ⟨l.val % 64, by omega⟩) := by
  unfold V; after_reads_at

theorem v19_at (l : Fin 128) (j : Fin 256) : (V m c main_v19 : S128x256.Idx → EReal) (ix2 l j) = if h : l.val < 16 then A8 m c (ix3 0 ⟨l.val, h⟩ j) else 0 := by
  unfold V; after_reads_at
  after_reads_at

set_option maxHeartbeats 1000000 in
theorem v15_gq (k : Fin 1024) (j : Fin 256) :
    (V m c main_v15 : S1024x2432.Idx → EReal) (ix2 k ⟨0 + j.val, by omega⟩) = A7 m c (ix3 0 k ⟨0 + j.val, by omega⟩) * Ideal.ofBits .f32 0x3E000000#32 := by
  unfold V; after_reads_at
  after_reads_at

set_option maxHeartbeats 1000000 in
theorem v15_gk (k : Fin 1024) (j : Fin 256) :
    (V m c main_v15 : S1024x2432.Idx → EReal) (ix2 k ⟨256 + j.val, by omega⟩) = A7 m c (ix3 0 k ⟨256 + j.val, by omega⟩) := by
  unfold V; after_reads_at
  after_reads_at

set_option maxHeartbeats 1000000 in
theorem v15_gv (k : Fin 1024) (j : Fin 512) :
    (V m c main_v15 : S1024x2432.Idx → EReal) (ix2 k ⟨512 + j.val, by omega⟩) = A7 m c (ix3 0 k ⟨512 + j.val, by omega⟩) := by
  unfold V; after_reads_at
  after_reads_at
  rw [dif_neg (by omega), dif_neg (by omega), dif_pos (by omega)]
  exact congrArg (fun q => A7 m c (ix3 0 k q)) (Fin.ext (by dsimp only; omega))

set_option maxHeartbeats 1000000 in
theorem v15_gr (k : Fin 1024) (j : Fin 512) :
    (V m c main_v15 : S1024x2432.Idx → EReal) (ix2 k ⟨1024 + j.val, by omega⟩) = A7 m c (ix3 0 k ⟨1024 + j.val, by omega⟩) := by
  unfold V; after_reads_at
  after_reads_at
  rw [dif_neg (by omega), dif_neg (by omega), dif_neg (by omega), dif_pos (by omega)]
  exact congrArg (fun q => A7 m c (ix3 0 k q)) (Fin.ext (by dsimp only; omega))

set_option maxHeartbeats 1000000 in
theorem v15_sq (k : Fin 1024) (j : Fin 512) :
    (V m c main_v15 : S1024x2432.Idx → EReal) (ix2 k ⟨1536 + j.val, by omega⟩) = A7 m c (ix3 0 k ⟨1552 + j.val, by omega⟩) * Ideal.ofBits .f32 0x3E000000#32 := by
  unfold V; after_reads_at
  after_reads_at
  rw [dif_neg (by omega), dif_neg (by omega), dif_neg (by omega), dif_neg (by omega), dif_pos (by omega)]
  exact congrArg (fun q => A7 m c (ix3 0 k q) * Ideal.ofBits .f32 0x3E000000#32) (Fin.ext (by dsimp only; omega))

set_option maxHeartbeats 1000000 in
theorem v15_sk (k : Fin 1024) (j : Fin 128) :
    (V m c main_v15 : S1024x2432.Idx → EReal) (ix2 k ⟨2048 + j.val, by omega⟩) = A7 m c (ix3 0 k ⟨2064 + j.val, by omega⟩) := by
  unfold V; after_reads_at
  after_reads_at
  rw [dif_neg (by omega), dif_neg (by omega), dif_neg (by omega), dif_neg (by omega), dif_neg (by omega), dif_pos (by omega)]
  exact congrArg (fun q => A7 m c (ix3 0 k q)) (Fin.ext (by dsimp only; omega))

set_option maxHeartbeats 1000000 in
theorem v15_sv (k : Fin 1024) (j : Fin 128) :
    (V m c main_v15 : S1024x2432.Idx → EReal) (ix2 k ⟨2176 + j.val, by omega⟩) = A7 m c (ix3 0 k ⟨2192 + j.val, by omega⟩) := by
  unfold V; after_reads_at
  after_reads_at
  rw [dif_neg (by omega), dif_neg (by omega), dif_neg (by omega), dif_neg (by omega), dif_neg (by omega), dif_neg (by omega), dif_pos (by omega)]
  exact congrArg (fun q => A7 m c (ix3 0 k q)) (Fin.ext (by dsimp only; omega))

set_option maxHeartbeats 1000000 in
theorem v15_gate (k : Fin 1024) (j : Fin 16) :
    (V m c main_v15 : S1024x2432.Idx → EReal) (ix2 k ⟨2304 + j.val, by omega⟩) = A7 m c (ix3 0 k ⟨1536 + j.val, by omega⟩) := by
  unfold V; after_reads_at
  after_reads_at
  rw [dif_neg (by omega), dif_neg (by omega), dif_neg (by omega), dif_neg (by omega), dif_neg (by omega), dif_neg (by omega), dif_neg (by omega), dif_pos (by omega)]
  exact congrArg (fun q => A7 m c (ix3 0 k q)) (Fin.ext (by dsimp only; omega))

set_option maxHeartbeats 1000000 in
theorem v15_pad (k : Fin 1024) (j : Fin 112) : (V m c main_v15 : S1024x2432.Idx → EReal) (ix2 k ⟨2320 + j.val, by omega⟩) = (0 : EReal) := by
  unfold V; after_reads_at
  after_reads_at
  rw [dif_neg (by omega), dif_neg (by omega), dif_neg (by omega), dif_neg (by omega), dif_neg (by omega), dif_neg (by omega), dif_neg (by omega), dif_neg (by omega)]

/-! The blocks of a point: a whole array, or sixteen sequences of one. -/

theorem blk1 (t : Fin cfg0.N) (s : Fin 128) (j : Fin 1024) : (iblk m c 1 t : S128x1024.Idx → EReal) (ix2 s j) = A0 m c (ix3 s 0 j) := by
  rw [← v75_at]
  refine congrArg (V m c main_v75 : S128x1024.Idx → EReal) (funext fun a => Fin.ext ?_)
  refine (ValueKit.rect_emb_unit_val _ _ _ _ _).trans ?_
  have e : ∀ (t : Fin cfg0.N) (a : Fin 2), win0_1.index t a = 0 := by decide +kernel
  show win0_1.index t a * win0_1.size a + _ = _
  rw [e, Nat.zero_mul, Nat.zero_add]

theorem blk7 (t : Fin cfg0.N) (j : Fin 1024) : (iblk m c 7 t : S1x1024.Idx → EReal) (ix2 0 j) = A6 m c (ix2 0 j) := by
  rw [← v61_at]
  refine congrArg (V m c main_v61 : S1x1024.Idx → EReal) (funext fun a => Fin.ext ?_)
  refine (ValueKit.rect_emb_unit_val _ _ _ _ _).trans ?_
  have e : ∀ (t : Fin cfg0.N) (a : Fin 2), win0_7.index t a = 0 := by decide +kernel
  show win0_7.index t a * win0_7.size a + _ = _
  rw [e, Nat.zero_mul, Nat.zero_add]

theorem blk8 (t : Fin cfg0.N) (k : Fin 1024) (o : Fin 2432) : (iblk m c 8 t : S1024x2432.Idx → EReal) (ix2 k o) = (V m c main_v15 : S1024x2432.Idx → EReal) (ix2 k o) := by
  show _ = _
  refine congrArg (V m c main_v15 : S1024x2432.Idx → EReal) (funext fun a => Fin.ext ?_)
  refine (ValueKit.rect_emb_unit_val _ _ _ _ _).trans ?_
  have e : ∀ (t : Fin cfg0.N) (a : Fin 2), win0_8.index t a = 0 := by decide +kernel
  show win0_8.index t a * win0_8.size a + _ = _
  rw [e, Nat.zero_mul, Nat.zero_add]

theorem blk9 (t : Fin cfg0.N) (l : Fin 128) (j : Fin 256) : (iblk m c 9 t : S128x256.Idx → EReal) (ix2 l j) = (if h : l.val < 16 then A8 m c (ix3 0 ⟨l.val, h⟩ j) else 0) := by
  rw [← v19_at]
  refine congrArg (V m c main_v19 : S128x256.Idx → EReal) (funext fun a => Fin.ext ?_)
  refine (ValueKit.rect_emb_unit_val _ _ _ _ _).trans ?_
  have e : ∀ (t : Fin cfg0.N) (a : Fin 2), win0_9.index t a = 0 := by decide +kernel
  show win0_9.index t a * win0_9.size a + _ = _
  rw [e, Nat.zero_mul, Nat.zero_add]

theorem blk10 (t : Fin cfg0.N) (j : Fin 256) : (iblk m c 10 t : S1x256.Idx → EReal) (ix2 0 j) = A9 m c (ix2 0 j) := by
  rw [← v63_at]
  refine congrArg (V m c main_v63 : S1x256.Idx → EReal) (funext fun a => Fin.ext ?_)
  refine (ValueKit.rect_emb_unit_val _ _ _ _ _).trans ?_
  have e : ∀ (t : Fin cfg0.N) (a : Fin 2), win0_10.index t a = 0 := by decide +kernel
  show win0_10.index t a * win0_10.size a + _ = _
  rw [e, Nat.zero_mul, Nat.zero_add]

set_option maxHeartbeats 1000000 in
theorem blk2 (t : Fin cfg0.N) (q : Fin 16) (h : Fin 4) (d : Fin 64) (e : Fin 128) :
    (iblk m c 2 t : S16x4x64x128.Idx → EReal) (ix4 q h d e) = A1 m c (ix5 0 ⟨16 * t.val + q.val, by have := t.isLt; have : cfg0.N = 8 := N_0; omega⟩ h d e) := by
  rw [← v76_at]
  refine congrArg (V m c main_v76 : S128x4x64x128.Idx → EReal) (funext fun a => Fin.ext ?_)
  refine (ValueKit.rect_emb_unit_val _ _ _ _ _).trans ?_
  have e : ∀ (t : Fin cfg0.N) (a : Fin 4), win0_2.index t a = if a = 0 then t.val else 0 := by decide +kernel
  show win0_2.index t a * win0_2.size a + _ = _
  rw [e]
  fin_cases a
  · show t.val * 16 + q.val = 16 * t.val + q.val; omega
  all_goals (simp; try rfl)

set_option maxHeartbeats 1000000 in
theorem blk3 (t : Fin cfg0.N) (q : Fin 16) (r l : Fin 128) :
    (iblk m c 3 t : S16x128x128.Idx → EReal) (ix3 q r l)
      = A2 m c (ix5 0 ⟨16 * t.val + q.val, by have := t.isLt; have : cfg0.N = 8 := N_0; omega⟩ r ⟨l.val / 64, by omega⟩ ⟨l.val % 64, by omega⟩) := by
  rw [← v78_at]
  refine congrArg (V m c main_v78 : S128x128x128.Idx → EReal) (funext fun a => Fin.ext ?_)
  refine (ValueKit.rect_emb_unit_val _ _ _ _ _).trans ?_
  have e : ∀ (t : Fin cfg0.N) (a : Fin 3), win0_3.index t a = if a = 0 then t.val else 0 := by decide +kernel
  show win0_3.index t a * win0_3.size a + _ = _
  rw [e]
  fin_cases a
  · show t.val * 16 + q.val = 16 * t.val + q.val; omega
  all_goals (simp; try rfl)

set_option maxHeartbeats 1000000 in
theorem blk4 (t : Fin cfg0.N) (q : Fin 16) (r l : Fin 128) :
    (iblk m c 4 t : S16x128x128.Idx → EReal) (ix3 q r l)
      = A3 m c (ix5 0 ⟨16 * t.val + q.val, by have := t.isLt; have : cfg0.N = 8 := N_0; omega⟩ r ⟨l.val / 64, by omega⟩ ⟨l.val % 64, by omega⟩) := by
  rw [← v80_at]
  refine congrArg (V m c main_v80 : S128x128x128.Idx → EReal) (funext fun a => Fin.ext ?_)
  refine (ValueKit.rect_emb_unit_val _ _ _ _ _).trans ?_
  have e : ∀ (t : Fin cfg0.N) (a : Fin 3), win0_4.index t a = if a = 0 then t.val else 0 := by decide +kernel
  show win0_4.index t a * win0_4.size a + _ = _
  rw [e]
  fin_cases a
  · show t.val * 16 + q.val = 16 * t.val + q.val; omega
  all_goals (simp; try rfl)

/-! The kernel's projections are the layer's columns. -/

theorem kcol_gk (t : Fin cfg0.N) (s : Fin 128) (j : Fin 256) :
    kcol (iblk m c 1 t) (iblk m c 7 t) (iblk m c 8 t) s ⟨256 + j.val, by omega⟩ = col (A0 m c) (A6 m c) (A7 m c) s ⟨256 + j.val, by omega⟩ := by
  unfold kcol col
  simp only [blk1, blk7, blk8]
  exact congrArg (proj _ _) (funext fun k => v15_gk m c k j)

theorem kcol_gv (t : Fin cfg0.N) (s : Fin 128) (j : Fin 512) :
    kcol (iblk m c 1 t) (iblk m c 7 t) (iblk m c 8 t) s ⟨512 + j.val, by omega⟩ = col (A0 m c) (A6 m c) (A7 m c) s ⟨512 + j.val, by omega⟩ := by
  unfold kcol col
  simp only [blk1, blk7, blk8]
  exact congrArg (proj _ _) (funext fun k => v15_gv m c k j)

theorem kcol_gr (t : Fin cfg0.N) (s : Fin 128) (j : Fin 512) :
    kcol (iblk m c 1 t) (iblk m c 7 t) (iblk m c 8 t) s ⟨1024 + j.val, by omega⟩ = col (A0 m c) (A6 m c) (A7 m c) s ⟨1024 + j.val, by omega⟩ := by
  unfold kcol col
  simp only [blk1, blk7, blk8]
  exact congrArg (proj _ _) (funext fun k => v15_gr m c k j)

theorem kcol_sk (t : Fin cfg0.N) (s : Fin 128) (j : Fin 128) :
    kcol (iblk m c 1 t) (iblk m c 7 t) (iblk m c 8 t) s ⟨2048 + j.val, by omega⟩ = col (A0 m c) (A6 m c) (A7 m c) s ⟨2064 + j.val, by omega⟩ := by
  unfold kcol col
  simp only [blk1, blk7, blk8]
  exact congrArg (proj _ _) (funext fun k => v15_sk m c k j)

theorem kcol_sv (t : Fin cfg0.N) (s : Fin 128) (j : Fin 128) :
    kcol (iblk m c 1 t) (iblk m c 7 t) (iblk m c 8 t) s ⟨2176 + j.val, by omega⟩ = col (A0 m c) (A6 m c) (A7 m c) s ⟨2192 + j.val, by omega⟩ := by
  unfold kcol col
  simp only [blk1, blk7, blk8]
  exact congrArg (proj _ _) (funext fun k => v15_sv m c k j)

theorem kcol_gate (t : Fin cfg0.N) (s : Fin 128) (j : Fin 16) :
    kcol (iblk m c 1 t) (iblk m c 7 t) (iblk m c 8 t) s ⟨2304 + j.val, by omega⟩ = col (A0 m c) (A6 m c) (A7 m c) s ⟨1536 + j.val, by omega⟩ := by
  unfold kcol col
  simp only [blk1, blk7, blk8]
  exact congrArg (proj _ _) (funext fun k => v15_gate m c k j)

/-- The gate's padded sum is the sum of its sixteen columns. -/
theorem kgate_at (t : Fin cfg0.N) (s : Fin 128) (j : Fin 256) :
    kgate (iblk m c 1 t) (iblk m c 7 t) (iblk m c 8 t) (iblk m c 9 t) (iblk m c 10 t) s j = gate (A0 m c) (A6 m c) (A7 m c) (A8 m c) (A9 m c) s j := by
  unfold kgate gate
  rw [blk10]
  refine congrArg (· + A9 m c (ix2 0 j)) ?_
  rw [Fin.sum_univ_add (a := 16) (b := 112) (f := fun l : Fin (16 + 112) => kcol (iblk m c 1 t) (iblk m c 7 t) (iblk m c 8 t) s ⟨2304 + l.val, by omega⟩ * (iblk m c 9 t : S128x256.Idx → EReal) (ix2 l j))]
  rw [Finset.sum_eq_zero (s := Finset.univ) (f := fun l : Fin 112 => kcol (iblk m c 1 t) (iblk m c 7 t) (iblk m c 8 t) s ⟨2304 + (Fin.natAdd 16 l).val, by omega⟩ * (iblk m c 9 t : S128x256.Idx → EReal) (ix2 (Fin.natAdd 16 l) j)), add_zero]
  · refine Finset.sum_congr rfl fun l _ => ?_
    refine congrArg₂ (· * ·) (kcol_gate m c t s l) ?_
    rw [blk9, dif_pos (show (Fin.castAdd 112 l).val < 16 from l.isLt)]
    rfl
  · intro l _
    rw [blk9, dif_neg (by show ¬ 16 + l.val < 16; omega), mul_zero]

end Cert.KernelIdeal.Track

end
-- ==== Proof.KernelResults.lean ====
module

public import proofs.«01_k».proof.Proof.KernelIdealTracked
public import proofs.«01_k».proof.Proof.HostValue

@[expose] public section

set_option maxRecDepth 16384

noncomputable section

/-! The kernel's result arrays after the run, element by element. -/

namespace Cert.KernelIdeal.Track

open Idealize.ShloMosaic Idealize.ShloMosaic.TcCoe Idealize.ShloMosaic.Tactic
open Cert.KernelIdeal.Gen
open Cert.KernelIdeal.Run hiding frame
open Cert.Mix

variable (m : (ℓ : Loc nD τ sig) → Buf (Elt Ideal) ℓ) (ρ : Dev nD → PrngReg) (c : Dev nD)

theorem tq_decay (s : Fin 128) (j : Fin 256) : TQ (F := Ideal) m c (ix2 ⟨j.val, by omega⟩ s) = decay (gate (A0 m c) (A6 m c) (A7 m c) (A8 m c) (A9 m c) s j) := by
  unfold TQ
  rw [tq_at, dif_pos (show j.val < 256 from j.isLt), kgate_at]

theorem tq_zero (s : Fin 128) (r : Fin 1280) (h1 : 256 ≤ r.val) (h2 : r.val < 768) : TQ (F := Ideal) m c (ix2 r s) = (0 : EReal) := by
  unfold TQ
  rw [tq_at, dif_neg (by omega), if_pos h2]

theorem tq_key (s : Fin 128) (j : Fin 256) : TQ (F := Ideal) m c (ix2 ⟨768 + j.val, by omega⟩ s) = col (A0 m c) (A6 m c) (A7 m c) s ⟨256 + j.val, by omega⟩ := by
  unfold TQ
  rw [tq_at, dif_neg (by dsimp only; omega), if_neg (by dsimp only; omega), dif_pos (by dsimp only; omega), ← kcol_gk]
  exact congrArg (kcol _ _ _ s) (Fin.ext (by show 768 + j.val - 512 = 256 + j.val; omega))

theorem gv_col (s : Fin 128) (j : Fin 512) : GV (F := Ideal) m c (ix2 s j) = col (A0 m c) (A6 m c) (A7 m c) s ⟨512 + j.val, by omega⟩ := by
  unfold GV
  rw [gv_at, kcol_gv]

theorem sk_col (s : Fin 128) (j : Fin 128) : SK (F := Ideal) m c (ix2 s j) = col (A0 m c) (A6 m c) (A7 m c) s ⟨2064 + j.val, by omega⟩ := by
  unfold SK
  rw [sk_at, kcol_sk]

theorem sv_col (s : Fin 128) (j : Fin 128) : SV (F := Ideal) m c (ix2 s j) = col (A0 m c) (A6 m c) (A7 m c) s ⟨2192 + j.val, by omega⟩ := by
  unfold SV
  rw [sv_at, kcol_sv]

/-- The sequence a point's row is. -/
abbrev seqAt (t : Fin cfg0.N) (q : Fin 16) : Fin 128 := ⟨16 * t.val + q.val, by have := t.isLt; have : cfg0.N = 8 := N_0; omega⟩

theorem seq_eq (t : Fin cfg0.N) (q : Fin 16) (h) : seq (grid0.coords t) ⟨q.val, h⟩ = seqAt t q :=
  Fin.ext (by show 16 * (grid0.coords t 0).val + q.val = 16 * t.val + q.val; rw [coord_eq])

/-- The state's block that point `t` leaves. -/
theorem stOut_at (t : Fin cfg0.N) (q : Fin 16) (h : Fin 4) (d : Fin 64) (e : Fin 128) :
    stOut (F := Ideal) (grid0.coords t) (iblk m c 2 t) (TQ m c) (GV m c) (ix4 q h d e)
      = state (A0 m c) (A1 m c) (A6 m c) (A7 m c) (A8 m c) (A9 m c) (seqAt t q) h d e := by
  show stTrip (F := Ideal) (grid0.coords t) ⟨q.val, Nat.lt_of_lt_of_eq q.isLt trips_eq.symm⟩ (iblk m c 2 t) (TQ m c) (GV m c) (ix4 (0 : Fin 1) h d e) = _
  rw [stTrip_at (grid0.coords t) ⟨q.val, Nat.lt_of_lt_of_eq q.isLt trips_eq.symm⟩ _ _ _ q rfl, seq_eq, tq_zero m c _ ⟨256 + (64 * h.val + d.val), by omega⟩ (by dsimp only; omega) (by dsimp only; omega),
    tq_zero m c _ ⟨512 + (64 * h.val + d.val), by omega⟩ (by dsimp only; omega) (by dsimp only; omega), add_zero, add_zero, blk2, gv_col]
  rw [tq_decay m c _ ⟨64 * h.val + d.val, by omega⟩, tq_key m c _ ⟨64 * h.val + d.val, by omega⟩]
  rfl

/-- A cache's block that point `t` leaves. -/
theorem knOut3_at (t : Fin cfg0.N) (q : Fin 16) (r l : Fin 128) :
    knOut (F := Ideal) (grid0.coords t) (iblk m c 3 t) (SK m c) (ix3 q r l)
      = cache (A0 m c) (A2 m c) (A6 m c) (A7 m c) 2064 (by decide) (seqAt t q) r l := by
  show knTrip (F := Ideal) (grid0.coords t) ⟨q.val, Nat.lt_of_lt_of_eq q.isLt trips_eq.symm⟩ (iblk m c 3 t) (SK m c) (ix3 (0 : Fin 1) r l) = _
  rw [knTrip_at (grid0.coords t) ⟨q.val, Nat.lt_of_lt_of_eq q.isLt trips_eq.symm⟩ _ _ q rfl, seq_eq, sk_col]
  simp only [blk3]
  rfl

theorem knOut4_at (t : Fin cfg0.N) (q : Fin 16) (r l : Fin 128) :
    knOut (F := Ideal) (grid0.coords t) (iblk m c 4 t) (SV m c) (ix3 q r l)
      = cache (A0 m c) (A3 m c) (A6 m c) (A7 m c) 2192 (by decide) (seqAt t q) r l := by
  show knTrip (F := Ideal) (grid0.coords t) ⟨q.val, Nat.lt_of_lt_of_eq q.isLt trips_eq.symm⟩ (iblk m c 4 t) (SV m c) (ix3 (0 : Fin 1) r l) = _
  rw [knTrip_at (grid0.coords t) ⟨q.val, Nat.lt_of_lt_of_eq q.isLt trips_eq.symm⟩ _ _ q rfl, seq_eq, sv_col]
  simp only [blk4]
  rfl

/-- The state of all sequences. -/
def stateArr : S128x4x64x128.Idx → EReal := fun i => state (A0 m c) (A1 m c) (A6 m c) (A7 m c) (A8 m c) (A9 m c) (i 0) (i 1) (i 2) (i 3)

/-- The caches of all sequences. -/
def keyArr : S128x128x128.Idx → EReal := fun i => cache (A0 m c) (A2 m c) (A6 m c) (A7 m c) 2064 (by decide) (i 0) (i 1) (i 2)
def valArr : S128x128x128.Idx → EReal := fun i => cache (A0 m c) (A3 m c) (A6 m c) (A7 m c) 2192 (by decide) (i 0) (i 1) (i 2)

theorem final22 (after : (w' : Fin cfg0.W) → Fin cfg0.N → (cfg0.win w').block.Idx → Elt Ideal (cfg0.win w').elt)
    (hL : ∀ (w : Fin cfg0.W) (u : Fin cfg0.N), (cfg0.win w).flush u = true → ((tdats m 0 c).toRRel forgets (Rl m c)).Leaves w u (after w u)) :
    (((tdats m 0 c).toRRel forgets (Rl m c)).withAfter after).arrAt 22 cfg0.N = stateArr m c := by
  refine Pipeline.Dat.arrAt_eq_of_covers (cfg := cfg0) (c := c) (((tdats m 0 c).toRRel forgets (Rl m c)).withAfter after) 22 (stateArr m c) (by decide +kernel) ?_
  intro t hf y
  have h := Pipeline.Dat.toRRel_leaves (tdats m 0 c) (fgt := forgets) (Rl := Rl m c) (w := 22) rfl (hL 22 t hf)
  have h' : after 22 t = (stOut (grid0.coords t) (iblk m c 2 t) (TQ m c) (GV m c) : S16x4x64x128.Idx → EReal) := h
  show after 22 t ((cfg0.win 22).xinj (grid0.coords t) y) = _
  rw [h']
  have key : ∀ y' : S16x4x64x128.Idx, y' = (cfg0.win 22).xinj (grid0.coords t) y → (stOut (grid0.coords t) (iblk m c 2 t) (TQ m c) (GV m c) : S16x4x64x128.Idx → EReal) y' = stateArr m c (((cfg0.win 22).blk t).view.emb y) := by
    intro y' hy
    rw [eq_ix4 y']
    refine (stOut_at m c t (y' 0) (y' 1) (y' 2) (y' 3)).trans (congrArg (stateArr m c) (a₁ := ix4 (seqAt t (y' 0)) (y' 1) (y' 2) (y' 3)) (funext fun a => Fin.ext ?_))
    refine Eq.trans ?_ (ValueKit.rect_emb_unit_val _ _ _ _ _).symm
    have e : ∀ (t : Fin cfg0.N) (a : Fin 4), win0_22.index t a = if a = 0 then t.val else 0 := by decide +kernel
    show _ = win0_22.index t a * win0_22.size a + _
    rw [e]
    subst hy
    fin_cases a
    · show 16 * t.val + _ = t.val * 16 + _; rw [Nat.mul_comm]; rfl
    all_goals exact (Nat.zero_add _).symm.trans (congrArg (· + _) (Nat.zero_mul _).symm)
  exact key _ rfl

theorem final23 (after : (w' : Fin cfg0.W) → Fin cfg0.N → (cfg0.win w').block.Idx → Elt Ideal (cfg0.win w').elt)
    (hL : ∀ (w : Fin cfg0.W) (u : Fin cfg0.N), (cfg0.win w).flush u = true → ((tdats m 0 c).toRRel forgets (Rl m c)).Leaves w u (after w u)) :
    (((tdats m 0 c).toRRel forgets (Rl m c)).withAfter after).arrAt 23 cfg0.N = keyArr m c := by
  refine Pipeline.Dat.arrAt_eq_of_covers (cfg := cfg0) (c := c) (((tdats m 0 c).toRRel forgets (Rl m c)).withAfter after) 23 (keyArr m c) (by decide +kernel) ?_
  intro t hf y
  have h := Pipeline.Dat.toRRel_leaves (tdats m 0 c) (fgt := forgets) (Rl := Rl m c) (w := 23) rfl (hL 23 t hf)
  have h' : after 23 t = (knOut (grid0.coords t) (iblk m c 3 t) (SK m c) : S16x128x128.Idx → EReal) := h
  show after 23 t ((cfg0.win 23).xinj (grid0.coords t) y) = _
  rw [h']
  have key : ∀ y' : S16x128x128.Idx, y' = (cfg0.win 23).xinj (grid0.coords t) y → (knOut (grid0.coords t) (iblk m c 3 t) (SK m c) : S16x128x128.Idx → EReal) y' = keyArr m c (((cfg0.win 23).blk t).view.emb y) := by
    intro y' hy
    rw [eq_ix3 y']
    refine (knOut3_at m c t (y' 0) (y' 1) (y' 2)).trans (congrArg (keyArr m c) (a₁ := ix3 (seqAt t (y' 0)) (y' 1) (y' 2)) (funext fun a => Fin.ext ?_))
    refine Eq.trans ?_ (ValueKit.rect_emb_unit_val _ _ _ _ _).symm
    have e : ∀ (t : Fin cfg0.N) (a : Fin 3), win0_23.index t a = if a = 0 then t.val else 0 := by decide +kernel
    show _ = win0_23.index t a * win0_23.size a + _
    rw [e]
    subst hy
    fin_cases a
    · show 16 * t.val + _ = t.val * 16 + _; rw [Nat.mul_comm]; rfl
    all_goals exact (Nat.zero_add _).symm.trans (congrArg (· + _) (Nat.zero_mul _).symm)
  exact key _ rfl

theorem final24 (after : (w' : Fin cfg0.W) → Fin cfg0.N → (cfg0.win w').block.Idx → Elt Ideal (cfg0.win w').elt)
    (hL : ∀ (w : Fin cfg0.W) (u : Fin cfg0.N), (cfg0.win w).flush u = true → ((tdats m 0 c).toRRel forgets (Rl m c)).Leaves w u (after w u)) :
    (((tdats m 0 c).toRRel forgets (Rl m c)).withAfter after).arrAt 24 cfg0.N = valArr m c := by
  refine Pipeline.Dat.arrAt_eq_of_covers (cfg := cfg0) (c := c) (((tdats m 0 c).toRRel forgets (Rl m c)).withAfter after) 24 (valArr m c) (by decide +kernel) ?_
  intro t hf y
  have h := Pipeline.Dat.toRRel_leaves (tdats m 0 c) (fgt := forgets) (Rl := Rl m c) (w := 24) rfl (hL 24 t hf)
  have h' : after 24 t = (knOut (grid0.coords t) (iblk m c 4 t) (SV m c) : S16x128x128.Idx → EReal) := h
  show after 24 t ((cfg0.win 24).xinj (grid0.coords t) y) = _
  rw [h']
  have key : ∀ y' : S16x128x128.Idx, y' = (cfg0.win 24).xinj (grid0.coords t) y → (knOut (grid0.coords t) (iblk m c 4 t) (SV m c) : S16x128x128.Idx → EReal) y' = valArr m c (((cfg0.win 24).blk t).view.emb y) := by
    intro y' hy
    rw [eq_ix3 y']
    refine (knOut4_at m c t (y' 0) (y' 1) (y' 2)).trans (congrArg (valArr m c) (a₁ := ix3 (seqAt t (y' 0)) (y' 1) (y' 2)) (funext fun a => Fin.ext ?_))
    refine Eq.trans ?_ (ValueKit.rect_emb_unit_val _ _ _ _ _).symm
    have e : ∀ (t : Fin cfg0.N) (a : Fin 3), win0_24.index t a = if a = 0 then t.val else 0 := by decide +kernel
    show _ = win0_24.index t a * win0_24.size a + _
    rw [e]
    subst hy
    fin_cases a
    · show 16 * t.val + _ = t.val * 16 + _; rw [Nat.mul_comm]; rfl
    all_goals exact (Nat.zero_add _).symm.trans (congrArg (· + _) (Nat.zero_mul _).symm)
  exact key _ rfl

/-- The kernel's three results, of any end of its run. -/
theorem results_of {r : PUnit × MemSt nD τ sig (Elt Ideal)}
    (h : Pipeline.RDat.FramePost (cfgs 0) (fun c => (tdats m 0 c).toRRel forgets (Rl m c)) (V m) r) (c : Dev nD) :
      r.2.mem ((c.tc : Thread nD τ).loc main_v81_5) = stateArr m c
      ∧ r.2.mem ((c.tc : Thread nD τ).loc main_v81_6) = keyArr m c
      ∧ r.2.mem ((c.tc : Thread nD τ).loc main_v81_7) = valArr m c := by
  obtain ⟨after, hL, hA⟩ := Pipeline.RDat.FramePost.exists_exact h c
  exact ⟨(hA 22).trans (final22 m c after hL), (hA 23).trans (final23 m c after hL), (hA 24).trans (final24 m c after hL)⟩

end Cert.KernelIdeal.Track

end
-- ==== Proof.RefValue.lean ====
module

public import proofs.«01_k».proof.Proof.Gen.ReferenceIdeal.Run
public import proofs.«01_k».proof.Proof.Step
public import Idealize.ShloMosaic.Lib.Pointwise
public import Idealize.ShloMosaic.Lib.Pointwise.Index

@[expose] public section

set_option maxRecDepth 16384

noncomputable section

namespace Cert.ReferenceIdeal.Mixer

open Idealize.ShloMosaic Idealize.ShloMosaic.TcCoe
open Cert.ReferenceIdeal.Gen Cert.ReferenceIdeal.Value
open Cert.Mix

/-! The reference's own expressions, in the steps it takes them. -/

section
variable (a0 : FVec Ideal S128x1x1024 .f32) (a1 : FVec Ideal S1x128x4x64x128 .f32) (a2 : FVec Ideal S1x128x128x2x64 .f32) (a6 : FVec Ideal S1x1024 .f32)
  (a7 : FVec Ideal S1x1024x2320 .f32) (a8 : FVec Ideal S1x16x256 .f32) (a9 : FVec Ideal S1x256 .f32)
  (p : FVec Ideal S128x1x2320 .f32) (z : FVec Ideal S128x1x256 .f32) (q : FVec Ideal S128x1x128 .f32) (w : FVec Ideal S128x4x64 .f32)

def normR : FVec Ideal S128x1x1024 .f32 := (mulf (mulf a0 (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf a0 a0) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ a6 shapeCasts_S1x1024_S1024))))

def dotR : FVec Ideal S128x1x2320 .f32 := (Host.dotGeneral dot_S128x1x1024_S1024x2320_S128x1x2320_2_0_01_1_n_n none (normR a0 a6) (shapeCast _ a7 shapeCasts_S1x1024x2320_S1024x2320))

def gateR : FVec Ideal S128x1x256 .f32 := (addf (Host.dotGeneral dot_S128x1x16_S16x256_S128x1x256_2_0_01_1_n_n none (extractStridedSlice S128x1x16 ![0, 0, 1536] p slices_S128x1x2320_S128x1x16_0_0_1536) (shapeCast _ a8 shapeCasts_S1x16x256_S16x256)) (broadcastInDim S128x1x256 ![0, 1, 2] bcast_S1x1x256_S128x1x256_0_1_2 (broadcastInDim S1x1x256 ![2] bcast_S256_S1x1x256_2 (shapeCast _ a9 shapeCasts_S1x256_S256))))

def decayR : FVec Ideal S128x4x64 .f32 := (Host.exp (shapeCast _ (shapeCast _ (Host.divf (Host.negf (select (cmpf .une (subf (Host.negf z) (broadcastInDim S128x1x256 ![] bcast_S_S128x1x256 (constant S_ .f32 0x00000000#32))) (subf (Host.negf z) (broadcastInDim S128x1x256 ![] bcast_S_S128x1x256 (constant S_ .f32 0x00000000#32)))) (addf (Host.negf z) (broadcastInDim S128x1x256 ![] bcast_S_S128x1x256 (constant S_ .f32 0x00000000#32))) (addf (maximumf (Host.negf z) (broadcastInDim S128x1x256 ![] bcast_S_S128x1x256 (constant S_ .f32 0x00000000#32))) (Host.log1p (Host.exp (Host.negf (Host.absf (subf (Host.negf z) (broadcastInDim S128x1x256 ![] bcast_S_S128x1x256 (constant S_ .f32 0x00000000#32)))))))))) (broadcastInDim S128x1x256 ![] bcast_S_S128x1x256 (constant S_ .f32 0x41800000#32))) shapeCasts_S128x1x256_S128x1x4x64) shapeCasts_S128x1x4x64_S128x4x64))

def stateR : FVec Ideal S128x4x64x128 .f32 := addf (mulf (broadcastInDim S128x4x64x128 ![0, 1, 2, 3] bcast_S128x4x64x1_S128x4x64x128_0_1_2_3 (broadcastInDim S128x4x64x1 ![0, 1, 2] bcast_S128x4x64_S128x4x64x1_0_1_2 w)) (shapeCast _ a1 shapeCasts_S1x128x4x64x128_S128x4x64x128)) (mulf (broadcastInDim S128x4x64x128 ![0, 1, 2, 3] bcast_S128x4x64x1_S128x4x64x128_0_1_2_3 (broadcastInDim S128x4x64x1 ![0, 1, 2] bcast_S128x4x64_S128x4x64x1_0_1_2 (shapeCast _ (shapeCast _ (extractStridedSlice S128x1x256 ![0, 0, 256] p slices_S128x1x2320_S128x1x256_0_0_256) shapeCasts_S128x1x256_S128x1x4x64) shapeCasts_S128x1x4x64_S128x4x64))) (broadcastInDim S128x4x64x128 ![0, 1, 2, 3] bcast_S128x4x1x128_S128x4x64x128_0_1_2_3 (broadcastInDim S128x4x1x128 ![0, 1, 3] bcast_S128x4x128_S128x4x1x128_0_1_3 (shapeCast _ (shapeCast _ (extractStridedSlice S128x1x512 ![0, 0, 512] p slices_S128x1x2320_S128x1x512_0_0_512) shapeCasts_S128x1x512_S128x1x4x128) shapeCasts_S128x1x4x128_S128x4x128))))

def cacheR : FVec Ideal S128x128x128 .f32 := shapeCast _ (extractStridedSlice S128x128x2x64 ![0, 1, 0, 0] (concatenate S128x129x2x64 1 [⟨S128x128x2x64, (shapeCast _ a2 shapeCasts_S1x128x128x2x64_S128x128x2x64)⟩, ⟨S128x1x2x64, (shapeCast _ q shapeCasts_S128x1x128_S128x1x2x64)⟩] concatenates_S128x128x2x64_S128x1x2x64_S128x129x2x64_d1) slices_S128x129x2x64_S128x128x2x64_0_1_0_0) shapeCasts_S128x128x2x64_S128x128x128

theorem normR_at (s : Fin 128) (k : Fin 1024) :
    normR a0 a6 (ix3 s 0 k) = norm (fun k => a0 (ix3 s 0 k)) (fun k => a6 (ix2 0 k)) k := by
  pointwise [normR]
  rfl

theorem dotR_at (s : Fin 128) (o : Fin 2320) : dotR a0 a6 a7 (ix3 s 0 o) = col a0 a6 a7 s o := by
  pointwise [dotR, dot_S128x1x1024_S1024x2320_S128x1x2320_2_0_01_1_n_n]
  unfold col proj
  exact Finset.sum_congr rfl fun k _ => by rw [normR_at]

theorem gateR_at (s : Fin 128) (j : Fin 256) : gateR a8 a9 p (ix3 s 0 j) = (∑ l : Fin 16, p (ix3 s 0 ⟨1536 + l.val, by omega⟩) * a8 (ix3 0 l j)) + a9 (ix2 0 j) := by
  pointwise [gateR, dot_S128x1x16_S16x256_S128x1x256_2_0_01_1_n_n]

theorem absf_neg (x : EReal) : FloatOps.absf (F := Ideal) (φ := .f32) (-x) = FloatOps.absf (F := Ideal) (φ := .f32) x := by
  show max (-x) (- -x) = max x (-x)
  rw [neg_neg, max_comm]

theorem decayR_at (s : Fin 128) (h : Fin 4) (d : Fin 64) : decayR z (ix3 s h d) = decay (z (ix3 s 0 ⟨64 * h.val + d.val, by omega⟩)) := by
  pointwise [decayR]
  have e : (⟨h.val * 64 + d.val, by omega⟩ : Fin 256) = ⟨64 * h.val + d.val, by omega⟩ := Fin.ext (by dsimp only; omega)
  rw [e, if_neg (fun h => h rfl), absf_neg]
  rfl

theorem stateR_at (s : Fin 128) (h : Fin 4) (d : Fin 64) (e : Fin 128) :
    stateR a1 p w (ix4 s h d e) = w (ix3 s h d) * a1 (ix5 0 s h d e)
      + p (ix3 s 0 ⟨256 + (64 * h.val + d.val), by omega⟩) * p (ix3 s 0 ⟨512 + (128 * h.val + e.val), by omega⟩) := by
  pointwise [stateR]
  have e1 : (⟨256 + (h.val * 64 + d.val), by omega⟩ : Fin 2320) = ⟨256 + (64 * h.val + d.val), by omega⟩ := Fin.ext (by dsimp only; omega)
  have e2 : (⟨512 + (h.val * 128 + e.val), by omega⟩ : Fin 2320) = ⟨512 + (128 * h.val + e.val), by omega⟩ := Fin.ext (by dsimp only; omega)
  rw [e1, e2]

theorem cacheR_at (s r l : Fin 128) :
    cacheR a2 q (ix3 s r l) = if h : r.val = 127 then q (ix3 s 0 l)
      else a2 (ix5 0 s ⟨r.val + 1, by omega⟩ ⟨l.val / 64, by omega⟩ ⟨l.val % 64, by omega⟩) := by
  pointwise [cacheR]
  by_cases hr : r.val = 127
  · rw [dif_neg (by omega), dif_pos hr]
  · rw [dif_pos (by omega), dif_neg hr]
    have e : (⟨1 + r.val, by omega⟩ : Fin 128) = ⟨r.val + 1, by omega⟩ := Fin.ext (Nat.add_comm 1 r.val)
    rw [e]

end

variable (m : (ℓ : Loc nD τ sig) → Buf (Elt Ideal) ℓ) (c : Dev nD)

/-- The arguments, as arrays of extended reals. -/
abbrev A0 : S128x1x1024.Idx → EReal := m ((c.tc : Thread nD τ).loc main_arg0)
abbrev A1 : S1x128x4x64x128.Idx → EReal := m ((c.tc : Thread nD τ).loc main_arg1)
abbrev A2 : S1x128x128x2x64.Idx → EReal := m ((c.tc : Thread nD τ).loc main_arg2)
abbrev A3 : S1x128x128x2x64.Idx → EReal := m ((c.tc : Thread nD τ).loc main_arg3)
abbrev A6 : S1x1024.Idx → EReal := m ((c.tc : Thread nD τ).loc main_arg6)
abbrev A7 : S1x1024x2320.Idx → EReal := m ((c.tc : Thread nD τ).loc main_arg7)
abbrev A8 : S1x16x256.Idx → EReal := m ((c.tc : Thread nD τ).loc main_arg8)
abbrev A9 : S1x256.Idx → EReal := m ((c.tc : Thread nD τ).loc main_arg9)

/-- The new key's (or value's) columns of the in-projection. -/
abbrev rowR (o : ℕ) (h : S128x1x2320.Slices ![0, 0, o] S128x1x128) : FVec Ideal S128x1x128 .f32 :=
  extractStridedSlice S128x1x128 ![0, 0, o] (dotR (A0 m c) (A6 m c) (A7 m c)) h

theorem res0_at (s : Fin 128) (h : Fin 4) (d : Fin 64) (e : Fin 128) :
    (res_main_v55 m c : S128x4x64x128.Idx → EReal) (ix4 s h d e)
      = state (A0 m c) (A1 m c) (A6 m c) (A7 m c) (A8 m c) (A9 m c) s h d e := by
  have := stateR_at (A1 m c) (dotR (A0 m c) (A6 m c) (A7 m c)) (decayR (gateR (A8 m c) (A9 m c) (dotR (A0 m c) (A6 m c) (A7 m c)))) s h d e
  rw [decayR_at, gateR_at] at this
  simp only [dotR_at] at this
  exact this

theorem row_at (o : ℕ) (ho : o + 128 ≤ 2320) (h) (s l : Fin 128) :
    rowR m c o h (ix3 s 0 l) = col (A0 m c) (A6 m c) (A7 m c) s ⟨o + l.val, by omega⟩ := by
  rw [← dotR_at]
  pointwise

theorem res_cache_at (o : ℕ) (ho : o + 128 ≤ 2320) (h) (a : FVec Ideal S1x128x128x2x64 .f32) (s r l : Fin 128) :
    cacheR a (rowR m c o h) (ix3 s r l) = cache (A0 m c) a (A6 m c) (A7 m c) o ho s r l := by
  rw [cacheR_at]
  simp only [row_at m c o ho]
  rfl

/-- The reference's run, its three results named. -/
theorem run_at (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55) = res_main_v55 m c
      ∧ r.2.mem ((c.tc : Thread nD τ).loc main_v62) = cacheR (A2 m c) (rowR m c 2064 slices_S128x1x2320_S128x1x128_0_0_2064)
      ∧ r.2.mem ((c.tc : Thread nD τ).loc main_v63) = cacheR (A3 m c) (rowR m c 2192 slices_S128x1x2320_S128x1x128_0_0_2192)) :=
  (θ_run _ _ _).mono (fun _ h c => ⟨(h c).1, (h c).2.1, (h c).2.2.1⟩) (run m ρ)

end Cert.ReferenceIdeal.Mixer
-- ==== Proof.Agree.lean ====
module

public import proofs.«01_k».proof.Proof.KernelResults
public import proofs.«01_k».proof.Proof.RefValue

@[expose] public section

noncomputable section

/-! The two programs' results, of memories that agree on the arguments. -/

namespace Cert.Agree

open Idealize.ShloMosaic Idealize.ShloMosaic.TcCoe
open Cert.KernelIdeal.Track Cert.ReferenceIdeal

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem state_eq (e0 : Mixer.A0 m' c = A0 m c) (e1 : Mixer.A1 m' c = A1 m c) (e6 : Mixer.A6 m' c = A6 m c) (e7 : Mixer.A7 m' c = A7 m c)
    (e8 : Mixer.A8 m' c = A8 m c) (e9 : Mixer.A9 m' c = A9 m c) :
    (Value.res_main_v55 m' c : S128x4x64x128.Idx → EReal) = stateArr m c := by
  funext i
  refine (congrArg (Value.res_main_v55 m' c : S128x4x64x128.Idx → EReal) (eq_ix4 i)).trans ((Mixer.res0_at m' c (i 0) (i 1) (i 2) (i 3)).trans ?_)
  rw [e0, e1, e6, e7, e8, e9]
  rfl

theorem key_eq (h) (e0 : Mixer.A0 m' c = A0 m c) (e2 : Mixer.A2 m' c = A2 m c) (e6 : Mixer.A6 m' c = A6 m c) (e7 : Mixer.A7 m' c = A7 m c) :
    (Mixer.cacheR (Mixer.A2 m' c) (Mixer.rowR m' c 2064 h) : S128x128x128.Idx → EReal) = keyArr m c := by
  funext i
  refine (congrArg (Mixer.cacheR (Mixer.A2 m' c) (Mixer.rowR m' c 2064 h)) (eq_ix3 i)).trans ((Mixer.res_cache_at m' c 2064 (by decide) h _ (i 0) (i 1) (i 2)).trans ?_)
  rw [e0, e2, e6, e7]
  rfl

theorem val_eq (h) (e0 : Mixer.A0 m' c = A0 m c) (e3 : Mixer.A3 m' c = A3 m c) (e6 : Mixer.A6 m' c = A6 m c) (e7 : Mixer.A7 m' c = A7 m c) :
    (Mixer.cacheR (Mixer.A3 m' c) (Mixer.rowR m' c 2192 h) : S128x128x128.Idx → EReal) = valArr m c := by
  funext i
  refine (congrArg (Mixer.cacheR (Mixer.A3 m' c) (Mixer.rowR m' c 2192 h)) (eq_ix3 i)).trans ((Mixer.res_cache_at m' c 2192 (by decide) h _ (i 0) (i 1) (i 2)).trans ?_)
  rw [e0, e3, e6, e7]
  rfl

end Cert.Agree

end
-- ==== Proof.ExpertsIdealKit.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Claim
public import Idealize.ShloMosaic.Lib.WritesUnit
public import Idealize.ShloMosaic.Lib.Tactic
public import Idealize.ShloMosaic.Lib.WordCmp

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the call -/

/-- A core's buffers when the call is entered: the weights and biases reshaped. -/
abbrev V (c : Dev nD) (b : Ref sig .tc) : Buf (Elt F) ((c : Thread nD τ).loc b) :=
  StableHlo.after hostOps0 (fun b => m (c, b)) b

theorem fresh0 : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh0 main_chain

/-- The host writes none of the arguments. -/
theorem V_of (c : Dev nD) (b : Ref sig .tc) (h : ∀ x ∈ [main_v0, main_v1, main_v2, main_v3, main_v4, main_v5], b ≠ x) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    refine ⟨?_, ?_, ?_, ?_, ?_, ?_⟩ <;> exact StableHlo.devRef_ne_of_ne (h _ (by simp))))

/-! ## The tables -/

/-- The two tables as launched. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block the tables choose lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tb0 : Memref sig .tc .smem S154 .i32 := Memref.whole main_arg0
abbrev htb0 : tb0.IsWhole := Memref.isWhole_whole _
abbrev tb1 : Memref sig .tc .smem S1 .i32 := Memref.whole main_arg1
abbrev htb1 : tb1.IsWhole := Memref.isWhole_whole _

abbrev TbBuf (c : Dev nD) {S : Shape} {e : EltTy} (M : Memref sig .tc .smem S e) : Type := Buf (Elt F) (M.view.loc (c : Thread nD τ))
/-- A table held at half the full share. -/
abbrev tbPt (c : Dev nD) {S : Shape} {e : EltTy} (M : Memref sig .tc .smem S e) (f : TbBuf (F := F) c M) : sProp 𝕄 :=
  M.view.loc (c : Thread nD τ) ↦{fullShare.right} f

theorem PhiT0_eq (c : Dev nD) : (Pipeline.ΦT pre0 (tbl m) c : sProp 𝕄) = iprop(tbPt c tb0 (tbl m 0) ∗ tbPt c tb1 (tbl m 1)) := by
  unfold Pipeline.ΦT Pipeline.prefHeld
  rw [bigSep_univ_eq_bigSepL [(0 : Fin 2), (1 : Fin 2)] (by decide) (by decide)]
  rfl

/-! ## The windows' blocks and buffers -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_of (hO : Ok m) {c : Dev nD} (dat : Dat τ (Elt F) Unit ℕ (UR sig nD τ) ℕ (cfgM m hO) c) (hA : ∀ w, dat.A w = V m c (Pipeline.arrRef spec0 w)) :
    (∀ t, dat.after 0 t = iblk m hO c 0 t) → ∀ (t : Fin (cfgM m hO).N) (d), dat.before 0 t d = iblk m hO c 0 t := fun hafter t d =>
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 (hO : Ok m) {c : Dev nD} (dat : Dat τ (Elt F) Unit ℕ (UR sig nD τ) ℕ (cfgM m hO) c) (hA : ∀ w, dat.A w = V m c (Pipeline.arrRef spec0 w)) :
    (∀ t, dat.after 1 t = iblk m hO c 1 t) → ∀ (t : Fin (cfgM m hO).N) (d), dat.before 1 t d = iblk m hO c 1 t := fun hafter t d =>
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 (hO : Ok m) {c : Dev nD} (dat : Dat τ (Elt F) Unit ℕ (UR sig nD τ) ℕ (cfgM m hO) c) (hA : ∀ w, dat.A w = V m c (Pipeline.arrRef spec0 w)) :
    (∀ t, dat.after 2 t = iblk m hO c 2 t) → ∀ (t : Fin (cfgM m hO).N) (d), dat.before 2 t d = iblk m hO c 2 t := fun hafter t d =>
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 (hO : Ok m) {c : Dev nD} (dat : Dat τ (Elt F) Unit ℕ (UR sig nD τ) ℕ (cfgM m hO) c) (hA : ∀ w, dat.A w = V m c (Pipeline.arrRef spec0 w)) :
    (∀ t, dat.after 3 t = iblk m hO c 3 t) → ∀ (t : Fin (cfgM m hO).N) (d), dat.before 3 t d = iblk m hO c 3 t := fun hafter t d =>
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of4 (hO : Ok m) {c : Dev nD} (dat : Dat τ (Elt F) Unit ℕ (UR sig nD τ) ℕ (cfgM m hO) c) (hA : ∀ w, dat.A w = V m c (Pipeline.arrRef spec0 w)) :
    (∀ t, dat.after 4 t = iblk m hO c 4 t) → ∀ (t : Fin (cfgM m hO).N) (d), dat.before 4 t d = iblk m hO c 4 t := fun hafter t d =>
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev ms0 (hO : Ok m) (t : Fin (cfgM m hO).N) : Memref sig .tc .vmem S2176x128 .i32 := spec0_0.stage ((cfgM m hO).slots t 0)
abbrev ms1 (hO : Ok m) (t : Fin (cfgM m hO).N) : Memref sig .tc .vmem S1x1024x2048 .f32 := spec0_1.stage ((cfgM m hO).slots t 1)
abbrev ms2 (hO : Ok m) (t : Fin (cfgM m hO).N) : Memref sig .tc .vmem S1x1x2048 .f32 := spec0_2.stage ((cfgM m hO).slots t 2)
abbrev ms3 (hO : Ok m) (t : Fin (cfgM m hO).N) : Memref sig .tc .vmem S1x1024x1024 .f32 := spec0_3.stage ((cfgM m hO).slots t 3)
abbrev ms4 (hO : Ok m) (t : Fin (cfgM m hO).N) : Memref sig .tc .vmem S1x1x1024 .f32 := spec0_4.stage ((cfgM m hO).slots t 4)
abbrev ms5 (hO : Ok m) (t : Fin (cfgM m hO).N) : Memref sig .tc .vmem S544x1024 .bf16 := spec0_5.stage ((cfgM m hO).slots t 5)

end Cert.ExpertsIdeal.Run

end
-- ==== Proof.ExpertsIdealCols.lean ====
module

public import proofs.«01_k».proof.Proof.ExpertsIdealKit

public import Idealize.ShloMosaic.Lib.ValueIdxCore

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ExpertsIdeal.Gen
open Idealize.ShloMosaic.ValueIdx (ix2)

variable {F : FTy → Type} [FloatOps F]

local notation "𝕄" => MT nD τ sig Unit (Elt F) ℕ (UR sig nD τ) ℕ

/-! ## Blocks stored a stretch of columns at a time -/

/-- Eight stretches of 128 columns side by side. -/
def cols8 (T0 T1 T2 T3 T4 T5 T6 T7 : S544x128.Idx → Elt F .bf16) : S544x1024.Idx → Elt F .bf16 := fun y =>
  (![T0, T1, T2, T3, T4, T5, T6, T7] : Fin 8 → S544x128.Idx → Elt F .bf16) ⟨(y 1).val / 128, by have : (y 1).val < 1024 := (y 1).isLt; omega⟩
    (ix2 (⟨(y 0).val, (y 0).isLt⟩ : Fin 544) (⟨(y 1).val % 128, Nat.mod_lt _ (by decide)⟩ : Fin 128))

/-- Four stretches of 256 columns side by side. -/
def cols4 (T0 T1 T2 T3 : S544x256.Idx → Elt F .bf16) : S544x1024.Idx → Elt F .bf16 := fun y =>
  (![T0, T1, T2, T3] : Fin 4 → S544x256.Idx → Elt F .bf16) ⟨(y 1).val / 256, by have : (y 1).val < 1024 := (y 1).isLt; omega⟩
    (ix2 (⟨(y 0).val, (y 0).isLt⟩ : Fin 544) (⟨(y 1).val % 256, Nat.mod_lt _ (by decide)⟩ : Fin 256))

theorem cols8_at (T0 T1 T2 T3 T4 T5 T6 T7 : S544x128.Idx → Elt F .bf16) (k : Fin 8) (y : S544x1024.Idx) (x : S544x128.Idx)
    (h0 : (y 0).val = (x 0).val) (h1 : (y 1).val = 128 * k.val + (x 1).val) :
    cols8 T0 T1 T2 T3 T4 T5 T6 T7 y = (![T0, T1, T2, T3, T4, T5, T6, T7] : Fin 8 → S544x128.Idx → Elt F .bf16) k x := by
  have hx : (x 1).val < 128 := (x 1).isLt
  unfold cols8
  refine congr (congrArg _ (Fin.ext ?_)) (funext fun a => Fin.ext ?_)
  · show (y 1).val / 128 = k.val; omega
  · match a with
    | ⟨0, _⟩ => exact h0
    | ⟨1, _⟩ => show (y 1).val % 128 = (x 1).val; omega

theorem cols4_at (T0 T1 T2 T3 : S544x256.Idx → Elt F .bf16) (k : Fin 4) (y : S544x1024.Idx) (x : S544x256.Idx)
    (h0 : (y 0).val = (x 0).val) (h1 : (y 1).val = 256 * k.val + (x 1).val) :
    cols4 T0 T1 T2 T3 y = (![T0, T1, T2, T3] : Fin 4 → S544x256.Idx → Elt F .bf16) k x := by
  have hx : (x 1).val < 256 := (x 1).isLt
  unfold cols4
  refine congr (congrArg _ (Fin.ext ?_)) (funext fun a => Fin.ext ?_)
  · show (y 1).val / 256 = k.val; omega
  · match a with
    | ⟨0, _⟩ => exact h0
    | ⟨1, _⟩ => show (y 1).val % 256 = (x 1).val; omega

/-- A block stored in eight stretches reads as the stretches side by side. -/
theorem read8 {sp : Space} (v : View sig .tc sp S544x1024 .bf16) (f : v.ty.Contents (Elt F)) (T0 T1 T2 T3 T4 T5 T6 T7 : S544x128.Idx → Elt F .bf16) :
    v.read (Elt F) (v.writes (Elt F) f
      [⟨Rect.unit ![0, 896] S544x128.size inb_S544x1024_S544x128_0_896, T7⟩, ⟨Rect.unit ![0, 384] S544x128.size inb_S544x1024_S544x128_0_384, T3⟩,
       ⟨Rect.unit ![0, 768] S544x128.size inb_S544x1024_S544x128_0_768, T6⟩, ⟨Rect.unit ![0, 256] S544x128.size inb_S544x1024_S544x128_0_256, T2⟩,
       ⟨Rect.unit ![0, 640] S544x128.size inb_S544x1024_S544x128_0_640, T5⟩, ⟨Rect.unit ![0, 128] S544x128.size inb_S544x1024_S544x128_0_128, T1⟩,
       ⟨Rect.unit ![0, 512] S544x128.size inb_S544x1024_S544x128_0_512, T4⟩, ⟨Rect.unit ![0, 0] S544x128.size inb_S544x1024_S544x128_0_0, T0⟩])
      = cols8 T0 T1 T2 T3 T4 T5 T6 T7 := by
  funext y
  refine View.read_writes_apply_of_pieces v f _ _ ?_ y ?_
  · intro p hp
    simp only [List.mem_cons, List.not_mem_nil, or_false] at hp
    rcases hp with rfl | rfl | rfl | rfl | rfl | rfl | rfl | rfl
    · exact fun x => (cols8_at T0 T1 T2 T3 T4 T5 T6 T7 7 _ x (by show 0 + 1 * (x 0).val = _; omega) (by show 896 + 1 * (x 1).val = 128 * 7 + _; omega)).symm
    · exact fun x => (cols8_at T0 T1 T2 T3 T4 T5 T6 T7 3 _ x (by show 0 + 1 * (x 0).val = _; omega) (by show 384 + 1 * (x 1).val = 128 * 3 + _; omega)).symm
    · exact fun x => (cols8_at T0 T1 T2 T3 T4 T5 T6 T7 6 _ x (by show 0 + 1 * (x 0).val = _; omega) (by show 768 + 1 * (x 1).val = 128 * 6 + _; omega)).symm
    · exact fun x => (cols8_at T0 T1 T2 T3 T4 T5 T6 T7 2 _ x (by show 0 + 1 * (x 0).val = _; omega) (by show 256 + 1 * (x 1).val = 128 * 2 + _; omega)).symm
    · exact fun x => (cols8_at T0 T1 T2 T3 T4 T5 T6 T7 5 _ x (by show 0 + 1 * (x 0).val = _; omega) (by show 640 + 1 * (x 1).val = 128 * 5 + _; omega)).symm
    · exact fun x => (cols8_at T0 T1 T2 T3 T4 T5 T6 T7 1 _ x (by show 0 + 1 * (x 0).val = _; omega) (by show 128 + 1 * (x 1).val = 128 * 1 + _; omega)).symm
    · exact fun x => (cols8_at T0 T1 T2 T3 T4 T5 T6 T7 4 _ x (by show 0 + 1 * (x 0).val = _; omega) (by show 512 + 1 * (x 1).val = 128 * 4 + _; omega)).symm
    · exact fun x => (cols8_at T0 T1 T2 T3 T4 T5 T6 T7 0 _ x (by show 0 + 1 * (x 0).val = _; omega) (by show 0 + 1 * (x 1).val = 128 * 0 + _; omega)).symm
  · have hy0 : (y 0).val < 544 := (y 0).isLt
    have hy : (y 1).val < 1024 := (y 1).isLt
    have key : ∀ (o : ℕ) (inb : ∀ a, (![0, o] : Fin 2 → ℕ) a + S544x128.size a ≤ S544x1024.size a), o ≤ (y 1).val → (y 1).val < o + 128 →
        y ∈ (Rect.unit (s := S544x1024) ![0, o] S544x128.size inb).set := fun o inb h1 h2 =>
      (Rect.mem_set_unit (inb := inb)).mpr fun a => by
        match a with
        | ⟨0, _⟩ => exact ⟨Nat.zero_le _, by show (y 0).val < 0 + 544; omega⟩
        | ⟨1, _⟩ => exact ⟨h1, h2⟩
    by_cases c0 : (y 1).val < 128
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 0 inb_S544x1024_S544x128_0_0 (by omega) (by omega)⟩
    by_cases c1 : (y 1).val < 256
    · exact ⟨_, List.mem_cons_of_mem _ (List.mem_cons_of_mem _ (List.mem_cons_of_mem _ (List.mem_cons_of_mem _ (List.mem_cons_of_mem _ (List.mem_cons_self))))), key 128 inb_S544x1024_S544x128_0_128 (by omega) (by omega)⟩
    by_cases c2 : (y 1).val < 384
    · exact ⟨_, List.mem_cons_of_mem _ (List.mem_cons_of_mem _ (List.mem_cons_of_mem _ (List.mem_cons_self))), key 256 inb_S544x1024_S544x128_0_256 (by omega) (by omega)⟩
    by_cases c3 : (y 1).val < 512
    · exact ⟨_, List.mem_cons_of_mem _ (List.mem_cons_self), key 384 inb_S544x1024_S544x128_0_384 (by omega) (by omega)⟩
    by_cases c4 : (y 1).val < 640
    · exact ⟨_, List.mem_cons_of_mem _ (List.mem_cons_of_mem _ (List.mem_cons_of_mem _ (List.mem_cons_of_mem _ (List.mem_cons_of_mem _ (List.mem_cons_of_mem _ (List.mem_cons_self)))))), key 512 inb_S544x1024_S544x128_0_512 (by omega) (by omega)⟩
    by_cases c5 : (y 1).val < 768
    · exact ⟨_, List.mem_cons_of_mem _ (List.mem_cons_of_mem _ (List.mem_cons_of_mem _ (List.mem_cons_of_mem _ (List.mem_cons_self)))), key 640 inb_S544x1024_S544x128_0_640 (by omega) (by omega)⟩
    by_cases c6 : (y 1).val < 896
    · exact ⟨_, List.mem_cons_of_mem _ (List.mem_cons_of_mem _ (List.mem_cons_self)), key 768 inb_S544x1024_S544x128_0_768 (by omega) (by omega)⟩
    · exact ⟨_, List.mem_cons_self, key 896 inb_S544x1024_S544x128_0_896 (by omega) (by omega)⟩

/-- A block stored in four stretches reads as the stretches side by side. -/
theorem read4 {sp : Space} (v : View sig .tc sp S544x1024 .bf16) (f : v.ty.Contents (Elt F)) (T0 T1 T2 T3 : S544x256.Idx → Elt F .bf16) :
    v.read (Elt F) (v.writes (Elt F) f
      [⟨Rect.unit ![0, 768] S544x256.size inb_S544x1024_S544x256_0_768, T3⟩, ⟨Rect.unit ![0, 512] S544x256.size inb_S544x1024_S544x256_0_512, T2⟩,
       ⟨Rect.unit ![0, 256] S544x256.size inb_S544x1024_S544x256_0_256, T1⟩, ⟨Rect.unit ![0, 0] S544x256.size inb_S544x1024_S544x256_0_0, T0⟩])
      = cols4 T0 T1 T2 T3 := by
  funext y
  refine View.read_writes_apply_of_pieces v f _ _ ?_ y ?_
  · intro p hp
    simp only [List.mem_cons, List.not_mem_nil, or_false] at hp
    rcases hp with rfl | rfl | rfl | rfl
    · exact fun x => (cols4_at T0 T1 T2 T3 3 _ x (by show 0 + 1 * (x 0).val = _; omega) (by show 768 + 1 * (x 1).val = 256 * 3 + _; omega)).symm
    · exact fun x => (cols4_at T0 T1 T2 T3 2 _ x (by show 0 + 1 * (x 0).val = _; omega) (by show 512 + 1 * (x 1).val = 256 * 2 + _; omega)).symm
    · exact fun x => (cols4_at T0 T1 T2 T3 1 _ x (by show 0 + 1 * (x 0).val = _; omega) (by show 256 + 1 * (x 1).val = 256 * 1 + _; omega)).symm
    · exact fun x => (cols4_at T0 T1 T2 T3 0 _ x (by show 0 + 1 * (x 0).val = _; omega) (by show 0 + 1 * (x 1).val = 256 * 0 + _; omega)).symm
  · have hy0 : (y 0).val < 544 := (y 0).isLt
    have hy : (y 1).val < 1024 := (y 1).isLt
    have key : ∀ (o : ℕ) (inb : ∀ a, (![0, o] : Fin 2 → ℕ) a + S544x256.size a ≤ S544x1024.size a), o ≤ (y 1).val → (y 1).val < o + 256 →
        y ∈ (Rect.unit (s := S544x1024) ![0, o] S544x256.size inb).set := fun o inb h1 h2 =>
      (Rect.mem_set_unit (inb := inb)).mpr fun a => by
        match a with
        | ⟨0, _⟩ => exact ⟨Nat.zero_le _, by show (y 0).val < 0 + 544; omega⟩
        | ⟨1, _⟩ => exact ⟨h1, h2⟩
    by_cases c0 : (y 1).val < 256
    · exact ⟨_, List.mem_cons_of_mem _ (List.mem_cons_of_mem _ (List.mem_cons_of_mem _ (List.mem_cons_self))), key 0 inb_S544x1024_S544x256_0_0 (by omega) (by omega)⟩
    by_cases c1 : (y 1).val < 512
    · exact ⟨_, List.mem_cons_of_mem _ (List.mem_cons_of_mem _ (List.mem_cons_self)), key 256 inb_S544x1024_S544x256_0_256 (by omega) (by omega)⟩
    by_cases c2 : (y 1).val < 768
    · exact ⟨_, List.mem_cons_of_mem _ (List.mem_cons_self), key 512 inb_S544x1024_S544x256_0_512 (by omega) (by omega)⟩
    · exact ⟨_, List.mem_cons_self, key 768 inb_S544x1024_S544x256_0_768 (by omega) (by omega)⟩

/-- One store of a whole buffer leaves its payload. -/
theorem read_full {sp : Space} {s : Shape} {e : EltTy} (v : View sig .tc sp s e) (f : v.ty.Contents (Elt F)) {off : Fin s.rank → ℕ} (h : ∀ a, off a = 0)
    (inb : ∀ a, off a + s.size a ≤ s.size a) (P : s.Idx → Elt F e) : v.read (Elt F) (v.writes (Elt F) f [⟨Rect.unit off s.size inb, P⟩]) = P := by
  have hx : ∀ x : s.Idx, (Rect.unit off s.size inb).emb x = x := fun x => funext fun a => Fin.ext (by
    show off a + 1 * (x a).val = (x a).val
    rw [h a]; omega)
  funext y
  refine View.read_writes_apply_of_pieces v f P _ ?_ y ?_
  · intro p hp x
    obtain rfl := List.mem_singleton.mp hp
    exact (congrArg P (hx x)).symm
  · exact ⟨_, List.mem_singleton.mpr rfl, (Rect.mem_set_unit (inb := inb)).mpr fun a => ⟨by rw [h a]; exact Nat.zero_le _, by rw [h a, Nat.zero_add]; exact (y a).isLt⟩⟩

/-- A part of what a buffer reads as. -/
def part {s : Shape} {e : EltTy} (off size : Fin s.rank → ℕ) (inb : ∀ a, off a + size a ≤ s.size a) (w : s.Idx → Elt F e) : (Rect.unit (s := s) off size inb).toLoadRect.shape.Idx → Elt F e :=
  fun y => w ((Rect.unit (s := s) off size inb).toLoadRect.idx y)

theorem readAt_of {sp : Space} {s : Shape} {e : EltTy} (v : View sig .tc sp s e) (f : v.ty.Contents (Elt F)) {w : s.Idx → Elt F e} (h : v.read (Elt F) f = w)
    {off size : Fin s.rank → ℕ} {inb : ∀ a, off a + size a ≤ s.size a} : v.readAt (Elt F) (Rect.unit (s := s) off size inb).toLoadRect f = part off size inb w :=
  funext fun _ => congrFun h _

/-- Every fourth row of an array of words, from the `o`-th on. -/
def wpart (o : ℕ) (inb : ∀ a, S544x128.size a = 0 ∨ (![o, 0] : Fin 2 → Nat) a + (![4, 1] : Fin 2 → Nat) a * (S544x128.size a - 1) < S2176x128.size a) (w : S2176x128.Idx → Elt F .i32) : S544x128.Idx → Elt F .i32 :=
  fun y => w ((⟨![o, 0], S544x128.size, ![4, 1], inb⟩ : LoadRect S2176x128).idx y)

theorem readAt_w {sp : Space} (v : View sig .tc sp S2176x128 .i32) (f : v.ty.Contents (Elt F)) {w : S2176x128.Idx → Elt F .i32} (h : v.read (Elt F) f = w)
    {o : ℕ} {inb : ∀ a, S544x128.size a = 0 ∨ (![o, 0] : Fin 2 → Nat) a + (![4, 1] : Fin 2 → Nat) a * (S544x128.size a - 1) < S2176x128.size a} :
    v.readAt (Elt F) (⟨![o, 0], S544x128.size, ![4, 1], inb⟩ : LoadRect S2176x128) f = wpart o inb w :=
  funext fun _ => congrFun h _

theorem part_full {s : Shape} {e : EltTy} {off : Fin s.rank → ℕ} (h : ∀ a, off a = 0) (inb : ∀ a, off a + s.size a ≤ s.size a) (w : s.Idx → Elt F e) :
    part (F := F) off s.size inb w = w :=
  funext fun y => congrArg w (funext fun a => Fin.ext (by show off a + 1 * (y a).val = (y a).val; rw [h a]; omega))

end Cert.ExpertsIdeal.Run

end
-- ==== Proof.ExpertsIdealPoint.lean ====
module

public import proofs.«01_k».proof.Proof.ExpertsIdealCols

public import Idealize.ShloMosaic.Lib.ValueIdxCore

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ExpertsIdeal.Gen
open Idealize.ShloMosaic.ValueIdx (ix2)

variable {F : FTy → Type} [FloatOps F]

local notation "𝕄" => MT nD τ sig Unit (Elt F) ℕ (UR sig nD τ) ℕ

/-! ## What a point computes -/

/-- The activations, from the tokens' rows and the stretches of the weights and biases. -/
def actP (x : Vec F S544x1024 .bf16) (w0 w1 w2 w3 w4 w5 w6 w7 : Vec F S1024x256 .bf16) (b0 b1 b2 b3 b4 b5 b6 b7 : Vec F S1x1x256 .f32) : S544x1024.Idx → Elt F .bf16 :=
  cols4 (k0_pay17 x w0 b0 x w4 b4) (k0_pay19 (k0_pay18 x w1) b1 x w5 b5)
    (k0_pay22 (k0_pay20 x w2) (k0_pay21 b2) x w6 b6) (k0_pay24 (k0_pay23 x w3 b3) x w7 b7)

/-- The outputs, from the activations and the stretches of the weights and biases. -/
def outP (a : Vec F S544x1024 .bf16) (w0 w1 w2 w3 : Vec F S1024x256 .bf16) (b0 b1 b2 b3 : Vec F S1x1x256 .f32) : S544x1024.Idx → Elt F .bf16 :=
  cols8 (k0_pay28 (k0_pay25 a w0 b0)) (k0_pay30 (k0_pay25 a w0 b0)) (k0_pay1 (k0_pay32 a w1 b1)) (k0_pay3 (k0_pay32 a w1 b1))
    (k0_pay29 (k0_pay26 a w2) b2) (k0_pay31 (k0_pay26 a w2) b2) (k0_pay2 (k0_pay33 a w3 b3)) (k0_pay4 (k0_pay33 a w3 b3))

def actOf (x : S544x1024.Idx → Elt F .bf16) (wu : S1024x2048.Idx → Elt F .bf16) (bu : S1x1x2048.Idx → Elt F .f32) : S544x1024.Idx → Elt F .bf16 :=
  actP x (part (s := S1024x2048) ![0, 0] S1024x256.size inb_S1024x2048_S1024x256_0_0 wu) (part (s := S1024x2048) ![0, 256] S1024x256.size inb_S1024x2048_S1024x256_0_256 wu) (part (s := S1024x2048) ![0, 512] S1024x256.size inb_S1024x2048_S1024x256_0_512 wu) (part (s := S1024x2048) ![0, 768] S1024x256.size inb_S1024x2048_S1024x256_0_768 wu) (part (s := S1024x2048) ![0, 1024] S1024x256.size inb_S1024x2048_S1024x256_0_1024 wu) (part (s := S1024x2048) ![0, 1280] S1024x256.size inb_S1024x2048_S1024x256_0_1280 wu) (part (s := S1024x2048) ![0, 1536] S1024x256.size inb_S1024x2048_S1024x256_0_1536 wu) (part (s := S1024x2048) ![0, 1792] S1024x256.size inb_S1024x2048_S1024x256_0_1792 wu) (part (s := S1x1x2048) ![0, 0, 0] S1x1x256.size inb_S1x1x2048_S1x1x256_0_0_0 bu) (part (s := S1x1x2048) ![0, 0, 256] S1x1x256.size inb_S1x1x2048_S1x1x256_0_0_256 bu) (part (s := S1x1x2048) ![0, 0, 512] S1x1x256.size inb_S1x1x2048_S1x1x256_0_0_512 bu) (part (s := S1x1x2048) ![0, 0, 768] S1x1x256.size inb_S1x1x2048_S1x1x256_0_0_768 bu) (part (s := S1x1x2048) ![0, 0, 1024] S1x1x256.size inb_S1x1x2048_S1x1x256_0_0_1024 bu) (part (s := S1x1x2048) ![0, 0, 1280] S1x1x256.size inb_S1x1x2048_S1x1x256_0_0_1280 bu) (part (s := S1x1x2048) ![0, 0, 1536] S1x1x256.size inb_S1x1x2048_S1x1x256_0_0_1536 bu) (part (s := S1x1x2048) ![0, 0, 1792] S1x1x256.size inb_S1x1x2048_S1x1x256_0_0_1792 bu)
def outOf (a : S544x1024.Idx → Elt F .bf16) (wd : S1024x1024.Idx → Elt F .bf16) (bd : S1x1x1024.Idx → Elt F .f32) : S544x1024.Idx → Elt F .bf16 :=
  outP a (part (s := S1024x1024) ![0, 0] S1024x256.size inb_S1024x1024_S1024x256_0_0 wd) (part (s := S1024x1024) ![0, 256] S1024x256.size inb_S1024x1024_S1024x256_0_256 wd) (part (s := S1024x1024) ![0, 512] S1024x256.size inb_S1024x1024_S1024x256_0_512 wd) (part (s := S1024x1024) ![0, 768] S1024x256.size inb_S1024x1024_S1024x256_0_768 wd) (part (s := S1x1x1024) ![0, 0, 0] S1x1x256.size inb_S1x1x1024_S1x1x256_0_0_0 bd) (part (s := S1x1x1024) ![0, 0, 256] S1x1x256.size inb_S1x1x1024_S1x1x256_0_0_256 bd) (part (s := S1x1x1024) ![0, 0, 512] S1x1x256.size inb_S1x1x1024_S1x1x256_0_0_512 bd) (part (s := S1x1x1024) ![0, 0, 768] S1x1x256.size inb_S1x1x1024_S1x1x256_0_0_768 bd)

/-- The rows, unpacked from their words: the low halves are a row's first 512 columns, the high halves the others. -/
def xOf (x : S2176x128.Idx → Elt F .i32) : S544x1024.Idx → Elt F .bf16 :=
  cols8 (k0_pay8 (wpart 0 inb_S2176x128_S544x128_0_0_s_4_1 x)) (k0_pay10 (wpart 1 inb_S2176x128_S544x128_1_0_s_4_1 x)) (k0_pay13 (wpart 2 inb_S2176x128_S544x128_2_0_s_4_1 x)) (k0_pay15 (wpart 3 inb_S2176x128_S544x128_3_0_s_4_1 x)) (k0_pay9 (wpart 0 inb_S2176x128_S544x128_0_0_s_4_1 x)) (k0_pay12 (k0_pay11 (wpart 1 inb_S2176x128_S544x128_1_0_s_4_1 x))) (k0_pay14 (wpart 2 inb_S2176x128_S544x128_2_0_s_4_1 x)) (k0_pay16 (wpart 3 inb_S2176x128_S544x128_3_0_s_4_1 x))

theorem readCov_of {sp : Space} {s : Shape} {e : EltTy} (v : View sig .tc sp s e) (L : List (View.Piece (Elt F) s e)) {w : s.Idx → Elt F e} (h : ∀ f, v.read (Elt F) (v.writes (Elt F) f L) = w)
    {off size : Fin s.rank → ℕ} {inb : ∀ a, off a + size a ≤ s.size a} : v.readCov L (Rect.unit (s := s) off size inb).toLoadRect = part off size inb w :=
  readAt_of v _ (h _)

theorem actP_congr {x x' : Vec F S544x1024 .bf16} {w0 w0' w1 w1' w2 w2' w3 w3' w4 w4' w5 w5' w6 w6' w7 w7' : Vec F S1024x256 .bf16} {b0 b0' b1 b1' b2 b2' b3 b3' b4 b4' b5 b5' b6 b6' b7 b7' : Vec F S1x1x256 .f32}
    (hx : x = x') (hw0 : w0 = w0') (hw1 : w1 = w1') (hw2 : w2 = w2') (hw3 : w3 = w3') (hw4 : w4 = w4') (hw5 : w5 = w5') (hw6 : w6 = w6') (hw7 : w7 = w7') (hb0 : b0 = b0') (hb1 : b1 = b1') (hb2 : b2 = b2') (hb3 : b3 = b3') (hb4 : b4 = b4') (hb5 : b5 = b5') (hb6 : b6 = b6') (hb7 : b7 = b7') :
    actP x w0 w1 w2 w3 w4 w5 w6 w7 b0 b1 b2 b3 b4 b5 b6 b7 = actP x' w0' w1' w2' w3' w4' w5' w6' w7' b0' b1' b2' b3' b4' b5' b6' b7' := by
  subst hx hw0 hb0 hw1 hb1 hw2 hb2 hw3 hb3 hw4 hb4 hw5 hb5 hw6 hb6 hw7 hb7; rfl
theorem cols8_congr {t0 t0' t1 t1' t2 t2' t3 t3' t4 t4' t5 t5' t6 t6' t7 t7' : S544x128.Idx → Elt F .bf16} (h0 : t0 = t0') (h1 : t1 = t1') (h2 : t2 = t2') (h3 : t3 = t3') (h4 : t4 = t4') (h5 : t5 = t5') (h6 : t6 = t6') (h7 : t7 = t7') :
    cols8 t0 t1 t2 t3 t4 t5 t6 t7 = cols8 t0' t1' t2' t3' t4' t5' t6' t7' := by
  subst h0 h1 h2 h3 h4 h5 h6 h7; rfl
theorem outP_congr {x x' : Vec F S544x1024 .bf16} {w0 w0' w1 w1' w2 w2' w3 w3' : Vec F S1024x256 .bf16} {b0 b0' b1 b1' b2 b2' b3 b3' : Vec F S1x1x256 .f32}
    (hx : x = x') (hw0 : w0 = w0') (hw1 : w1 = w1') (hw2 : w2 = w2') (hw3 : w3 = w3') (hb0 : b0 = b0') (hb1 : b1 = b1') (hb2 : b2 = b2') (hb3 : b3 = b3') :
    outP x w0 w1 w2 w3 b0 b1 b2 b3 = outP x' w0' w1' w2' w3' b0' b1' b2' b3' := by
  subst hx hw0 hb0 hw1 hb1 hw2 hb2 hw3 hb3; rfl

theorem z2 : ∀ a : Fin 2, (![0, 0] : Fin 2 → ℕ) a = 0 := by decide
theorem z3 : ∀ a : Fin 3, (![0, 0, 0] : Fin 3 → ℕ) a = 0 := by decide

end Cert.ExpertsIdeal.Run

end
-- ==== Proof.ExpertsIdealBody.lean ====
module

public import proofs.«01_k».proof.Proof.ExpertsIdealPoint

public import Idealize.ShloMosaic.Lib.ValueIdxCore

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ExpertsIdeal.Gen
open Idealize.ShloMosaic.ValueIdx (ix2)

variable {F : FTy → Type} [FloatOps F]

local notation "𝕄" => MT nD τ sig Unit (Elt F) ℕ (UR sig nD τ) ℕ

variable (c : Dev nD) (i : grid0.Coords) (arg3 : Memref sig .tc .vmem S2176x128 .i32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S544x1024 .bf16) (harg8 : arg8.IsWhole) (arg9 : Memref sig .tc .vmem S544x1024 .bf16) (harg9 : arg9.IsWhole) (arg10 : Memref sig .tc .vmem S544x1024 .bf16) (harg10 : arg10.IsWhole) (arg11 : Memref sig .tc .vmem S1024x2048 .bf16) (harg11 : arg11.IsWhole) (arg12 : Memref sig .tc .vmem S1024x1024 .bf16) (harg12 : arg12.IsWhole)
variable (x0 : S2176x128.Idx → Elt F .i32) (x1 : S1x1024x2048.Idx → Elt F .f32) (x2 : S1x1x2048.Idx → Elt F .f32) (x3 : S1x1024x1024.Idx → Elt F .f32) (x4 : S1x1x1024.Idx → Elt F .f32)
variable (b0 : TbBuf (F := F) c tb0) (b1 : TbBuf (F := F) c tb1)
variable (wu : S1024x2048.Idx → Elt F .bf16) (wd : S1024x1024.Idx → Elt F .bf16)

/-- The number of blocks in use, as the body loads it. -/
abbrev nuW : BitVec 32 := tb1.view.readAt (Elt F) (Rect.unit (s := S1) ![0] S1.size inb_S1_S1_0).toLoadRect b1 (Shape.Idx.first (by decide))
/-- The block's expert and the block before's, as the body loads them. -/
abbrev beW : BitVec 32 := tb0.view.readAt (Elt F) (Rect.unit (s := S154) (k0_off2 i) S1.size (k0_off2_inb i)).toLoadRect b0 (Shape.Idx.first (Nat.lt_of_lt_of_eq Nat.one_pos numel1_S1.symm))
abbrev bpW : BitVec 32 := tb0.view.readAt (Elt F) (Rect.unit (s := S154) (k0_off3 i) S1.size (k0_off3_inb i)).toLoadRect b0 (Shape.Idx.first (Nat.lt_of_lt_of_eq Nat.one_pos numel1_S1.symm))
/-- The point casts its expert's weights. -/
abbrev reload : BitVec 1 :=
  Scalar.cmpi .ne (Scalar.extui (Scalar.ori (Scalar.cmpi .eq (BitVec.ofNat 32 (i 0).val) 0#32) (Scalar.cmpi .ne (beW c i b0) (bpW c i b0)))) 0#32

set_option maxHeartbeats 8000000 in
theorem runR (hc1 : k0_cond1 i (nuW c b1) = 1#1) (hc2 : reload c i b0 = 1#1) (hc3 : ¬ k0_cond3 i (nuW c b1) = 1#1) (W : Waits sig Unit) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt c tb0 b0 ∗ tbPt c tb1 b1 ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outOf (actOf (xOf x0) (k0_pay6 x1) x2) (k0_pay7 x3) x4) ∗ (∃ d, owns (c : Thread nD τ) arg9 fullShare d) ∗ (∃ d, owns (c : Thread nD τ) arg10 fullShare d) ∗ owns (c : Thread nD τ) arg11 fullShare (k0_pay6 x1) ∗ owns (c : Thread nD τ) arg12 fullShare (k0_pay7 x3) ∗ tbPt c tb0 b0 ∗ tbPt c tb1 b1 ∗ (∃ W', owes (c : Thread nD τ) 0 W')) -∗ K ⟨⟩))
      ⊢ wp frame (wpE (defs₀ (F := F)) Variants.none c none) Set.univ (cc0_experts i tb0 htb0 tb1 htb1 arg3 harg3 arg4 harg4 arg5 harg5 arg6 harg6 arg7 harg7 arg8 harg8 arg9 harg9 arg10 harg10 arg11 harg11 arg12 harg12) K := by
    simp only [cc0_experts_eq_skeleton]; unfold cc0_experts_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, HT0, HT1, HW, Hk⟩
    obtain rfl := harg3.eq_unread hf0
    obtain rfl := harg4.eq_unread hf1
    obtain rfl := harg5.eq_unread hf2
    obtain rfl := harg6.eq_unread hf3
    obtain rfl := harg7.eq_unread hf4
    sl_exec (disch := first | sl_exact hc2 | sl_exact hc1 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      refine (read8 arg8.view _ _ _ _ _ _ _ _ _).trans (outP_congr ?_ ?_ ?_ ?_ ?_ ?_ ?_ ?_ ?_)
      · refine (readCov_of arg10.view _ fun f => (read4 arg10.view f _ _ _ _).trans (actP_congr ?_ ?_ ?_ ?_ ?_ ?_ ?_ ?_ ?_ ?_ ?_ ?_ ?_ ?_ ?_ ?_ ?_ )).trans (part_full z2 _ _)
        · exact (readCov_of arg9.view _ fun f => (read8 arg9.view f _ _ _ _ _ _ _ _).trans (cols8_congr (congrArg k0_pay8 (readAt_w arg3.view _ (harg3.read_unread x0))) (congrArg k0_pay10 (readAt_w arg3.view _ (harg3.read_unread x0))) (congrArg k0_pay13 (readAt_w arg3.view _ (harg3.read_unread x0))) (congrArg k0_pay15 (readAt_w arg3.view _ (harg3.read_unread x0))) (congrArg k0_pay9 (readAt_w arg3.view _ (harg3.read_unread x0))) (congrArg (fun v => k0_pay12 (k0_pay11 v)) (readAt_w arg3.view _ (harg3.read_unread x0))) (congrArg k0_pay14 (readAt_w arg3.view _ (harg3.read_unread x0))) (congrArg k0_pay16 (readAt_w arg3.view _ (harg3.read_unread x0))))).trans (part_full z2 _ _)
        · exact readCov_of arg11.view _ fun f => (read_full arg11.view f z2 _ _).trans (congrArg k0_pay6 ((readAt_of arg4.view _ (harg4.read_unread x1)).trans (part_full z3 _ _)))
        · exact readCov_of arg11.view _ fun f => (read_full arg11.view f z2 _ _).trans (congrArg k0_pay6 ((readAt_of arg4.view _ (harg4.read_unread x1)).trans (part_full z3 _ _)))
        · exact readCov_of arg11.view _ fun f => (read_full arg11.view f z2 _ _).trans (congrArg k0_pay6 ((readAt_of arg4.view _ (harg4.read_unread x1)).trans (part_full z3 _ _)))
        · exact readCov_of arg11.view _ fun f => (read_full arg11.view f z2 _ _).trans (congrArg k0_pay6 ((readAt_of arg4.view _ (harg4.read_unread x1)).trans (part_full z3 _ _)))
        · exact readCov_of arg11.view _ fun f => (read_full arg11.view f z2 _ _).trans (congrArg k0_pay6 ((readAt_of arg4.view _ (harg4.read_unread x1)).trans (part_full z3 _ _)))
        · exact readCov_of arg11.view _ fun f => (read_full arg11.view f z2 _ _).trans (congrArg k0_pay6 ((readAt_of arg4.view _ (harg4.read_unread x1)).trans (part_full z3 _ _)))
        · exact readCov_of arg11.view _ fun f => (read_full arg11.view f z2 _ _).trans (congrArg k0_pay6 ((readAt_of arg4.view _ (harg4.read_unread x1)).trans (part_full z3 _ _)))
        · exact readCov_of arg11.view _ fun f => (read_full arg11.view f z2 _ _).trans (congrArg k0_pay6 ((readAt_of arg4.view _ (harg4.read_unread x1)).trans (part_full z3 _ _)))
        · exact readAt_of arg5.view _ (harg5.read_unread x2)
        · exact readAt_of arg5.view _ (harg5.read_unread x2)
        · exact readAt_of arg5.view _ (harg5.read_unread x2)
        · exact readAt_of arg5.view _ (harg5.read_unread x2)
        · exact readAt_of arg5.view _ (harg5.read_unread x2)
        · exact readAt_of arg5.view _ (harg5.read_unread x2)
        · exact readAt_of arg5.view _ (harg5.read_unread x2)
        · exact readAt_of arg5.view _ (harg5.read_unread x2)
      · exact readCov_of arg12.view _ fun f => (read_full arg12.view f z2 _ _).trans (congrArg k0_pay7 ((readAt_of arg6.view _ (harg6.read_unread x3)).trans (part_full z3 _ _)))
      · exact readCov_of arg12.view _ fun f => (read_full arg12.view f z2 _ _).trans (congrArg k0_pay7 ((readAt_of arg6.view _ (harg6.read_unread x3)).trans (part_full z3 _ _)))
      · exact readCov_of arg12.view _ fun f => (read_full arg12.view f z2 _ _).trans (congrArg k0_pay7 ((readAt_of arg6.view _ (harg6.read_unread x3)).trans (part_full z3 _ _)))
      · exact readCov_of arg12.view _ fun f => (read_full arg12.view f z2 _ _).trans (congrArg k0_pay7 ((readAt_of arg6.view _ (harg6.read_unread x3)).trans (part_full z3 _ _)))
      · exact readAt_of arg7.view _ (harg7.read_unread x4)
      · exact readAt_of arg7.view _ (harg7.read_unread x4)
      · exact readAt_of arg7.view _ (harg7.read_unread x4)
      · exact readAt_of arg7.view _ (harg7.read_unread x4)
    isplitl [H6]
    · iexists _, _; isplitr; swap; · iexact H6
      ipureintro; rfl
    isplitl [H7]
    · iexists _, _; isplitr; swap; · iexact H7
      ipureintro; rfl
    isplitl [H8]
    · iexists _; isplitr; swap; · iexact H8
      ipureintro; exact (read_full arg11.view _ z2 _ _).trans (congrArg k0_pay6 ((readAt_of arg4.view _ (harg4.read_unread x1)).trans (part_full z3 _ _)))
    isplitl [H9]
    · iexists _; isplitr; swap; · iexact H9
      ipureintro; exact (read_full arg12.view _ z2 _ _).trans (congrArg k0_pay7 ((readAt_of arg6.view _ (harg6.read_unread x3)).trans (part_full z3 _ _)))
    isplitl [HT0]; · iexact HT0
    isplitl [HT1]; · iexact HT1
    iexists _; iexact HW

set_option maxHeartbeats 8000000 in
theorem runK (hc1 : k0_cond1 i (nuW c b1) = 1#1) (hc2 : ¬ reload c i b0 = 1#1) (hc3 : ¬ k0_cond3 i (nuW c b1) = 1#1) (W : Waits sig Unit) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare wu ∗ owns (c : Thread nD τ) arg12 fullShare wd ∗ tbPt c tb0 b0 ∗ tbPt c tb1 b1 ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outOf (actOf (xOf x0) wu x2) wd x4) ∗ (∃ d, owns (c : Thread nD τ) arg9 fullShare d) ∗ (∃ d, owns (c : Thread nD τ) arg10 fullShare d) ∗ owns (c : Thread nD τ) arg11 fullShare wu ∗ owns (c : Thread nD τ) arg12 fullShare wd ∗ tbPt c tb0 b0 ∗ tbPt c tb1 b1 ∗ (∃ W', owes (c : Thread nD τ) 0 W')) -∗ K ⟨⟩))
      ⊢ wp frame (wpE (defs₀ (F := F)) Variants.none c none) Set.univ (cc0_experts i tb0 htb0 tb1 htb1 arg3 harg3 arg4 harg4 arg5 harg5 arg6 harg6 arg7 harg7 arg8 harg8 arg9 harg9 arg10 harg10 arg11 harg11 arg12 harg12) K := by
    simp only [cc0_experts_eq_skeleton]; unfold cc0_experts_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, HT0, HT1, HW, Hk⟩
    obtain rfl := harg3.eq_unread hf0
    obtain rfl := harg4.eq_unread hf1
    obtain rfl := harg5.eq_unread hf2
    obtain rfl := harg6.eq_unread hf3
    obtain rfl := harg7.eq_unread hf4
    obtain rfl := harg11.eq_unread hf8
    obtain rfl := harg12.eq_unread hf9
    sl_exec (disch := first | sl_exact hc2 | sl_exact hc1 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      refine (read8 arg8.view _ _ _ _ _ _ _ _ _).trans (outP_congr ?_ ?_ ?_ ?_ ?_ ?_ ?_ ?_ ?_)
      · refine (readCov_of arg10.view _ fun f => (read4 arg10.view f _ _ _ _).trans (actP_congr ?_ ?_ ?_ ?_ ?_ ?_ ?_ ?_ ?_ ?_ ?_ ?_ ?_ ?_ ?_ ?_ ?_ )).trans (part_full z2 _ _)
        · exact (readCov_of arg9.view _ fun f => (read8 arg9.view f _ _ _ _ _ _ _ _).trans (cols8_congr (congrArg k0_pay8 (readAt_w arg3.view _ (harg3.read_unread x0))) (congrArg k0_pay10 (readAt_w arg3.view _ (harg3.read_unread x0))) (congrArg k0_pay13 (readAt_w arg3.view _ (harg3.read_unread x0))) (congrArg k0_pay15 (readAt_w arg3.view _ (harg3.read_unread x0))) (congrArg k0_pay9 (readAt_w arg3.view _ (harg3.read_unread x0))) (congrArg (fun v => k0_pay12 (k0_pay11 v)) (readAt_w arg3.view _ (harg3.read_unread x0))) (congrArg k0_pay14 (readAt_w arg3.view _ (harg3.read_unread x0))) (congrArg k0_pay16 (readAt_w arg3.view _ (harg3.read_unread x0))))).trans (part_full z2 _ _)
        · exact readAt_of arg11.view _ (harg11.read_unread wu)
        · exact readAt_of arg11.view _ (harg11.read_unread wu)
        · exact readAt_of arg11.view _ (harg11.read_unread wu)
        · exact readAt_of arg11.view _ (harg11.read_unread wu)
        · exact readAt_of arg11.view _ (harg11.read_unread wu)
        · exact readAt_of arg11.view _ (harg11.read_unread wu)
        · exact readAt_of arg11.view _ (harg11.read_unread wu)
        · exact readAt_of arg11.view _ (harg11.read_unread wu)
        · exact readAt_of arg5.view _ (harg5.read_unread x2)
        · exact readAt_of arg5.view _ (harg5.read_unread x2)
        · exact readAt_of arg5.view _ (harg5.read_unread x2)
        · exact readAt_of arg5.view _ (harg5.read_unread x2)
        · exact readAt_of arg5.view _ (harg5.read_unread x2)
        · exact readAt_of arg5.view _ (harg5.read_unread x2)
        · exact readAt_of arg5.view _ (harg5.read_unread x2)
        · exact readAt_of arg5.view _ (harg5.read_unread x2)
      · exact readAt_of arg12.view _ (harg12.read_unread wd)
      · exact readAt_of arg12.view _ (harg12.read_unread wd)
      · exact readAt_of arg12.view _ (harg12.read_unread wd)
      · exact readAt_of arg12.view _ (harg12.read_unread wd)
      · exact readAt_of arg7.view _ (harg7.read_unread x4)
      · exact readAt_of arg7.view _ (harg7.read_unread x4)
      · exact readAt_of arg7.view _ (harg7.read_unread x4)
      · exact readAt_of arg7.view _ (harg7.read_unread x4)
    isplitl [H6]
    · iexists _, _; isplitr; swap; · iexact H6
      ipureintro; rfl
    isplitl [H7]
    · iexists _, _; isplitr; swap; · iexact H7
      ipureintro; rfl
    isplitl [H8]
    · iexists _; isplitr; swap; · iexact H8
      ipureintro; exact harg11.read_unread wu
    isplitl [H9]
    · iexists _; isplitr; swap; · iexact H9
      ipureintro; exact harg12.read_unread wd
    isplitl [HT0]; · iexact HT0
    isplitl [HT1]; · iexact HT1
    iexists _; iexact HW

set_option maxHeartbeats 8000000 in
theorem runZ (hc1 : ¬ k0_cond1 i (nuW c b1) = 1#1) (hc3 : k0_cond3 i (nuW c b1) = 1#1) (W : Waits sig Unit) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt c tb0 b0 ∗ tbPt c tb1 b1 ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay5 (F := F)) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt c tb0 b0 ∗ tbPt c tb1 b1 ∗ (∃ W', owes (c : Thread nD τ) 0 W')) -∗ K ⟨⟩))
      ⊢ wp frame (wpE (defs₀ (F := F)) Variants.none c none) Set.univ (cc0_experts i tb0 htb0 tb1 htb1 arg3 harg3 arg4 harg4 arg5 harg5 arg6 harg6 arg7 harg7 arg8 harg8 arg9 harg9 arg10 harg10 arg11 harg11 arg12 harg12) K := by
    simp only [cc0_experts_eq_skeleton]; unfold cc0_experts_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, HT0, HT1, HW, Hk⟩
    obtain rfl := harg3.eq_unread hf0
    obtain rfl := harg4.eq_unread hf1
    obtain rfl := harg5.eq_unread hf2
    obtain rfl := harg6.eq_unread hf3
    obtain rfl := harg7.eq_unread hf4
    sl_exec (disch := first | sl_exact hc1 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      exact read_full arg8.view _ z2 _ _
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HT0]; · iexact HT0
    isplitl [HT1]; · iexact HT1
    iexists _; iexact HW

end Cert.ExpertsIdeal.Run

end
-- ==== Proof.ExpertsIdealBlocks.lean ====
module

public import proofs.«01_k».proof.Proof.ExpertsIdealBody

public import Idealize.ShloMosaic.Lib.ValueIdxCore
public import Idealize.ShloMosaic.Lib.Pipeline.ValueKit.Geometry

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ExpertsIdeal.Gen
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions of a point -/

theorem ne_bit (b : Bool) : IntOp.cmpi .ne ((BitVec.ofBool b).setWidth 32) 0#32 = BitVec.ofBool b := by cases b <;> decide
theorem bit_one (b : Bool) : BitVec.ofBool b = 1#1 ↔ b = true := by cases b <;> decide

theorem lt154 (i : grid0.Coords) : (i 0).val < 154 := (i 0).isLt

theorem word_toInt {n : ℕ} (h : n < 154) : (BitVec.ofNat 32 n).toInt = (n : ℤ) := by
  rw [BitVec.toInt_eq_toNat_of_lt] <;> simp only [BitVec.toNat_ofNat] <;> omega

theorem c1_iff (i : grid0.Coords) (v : BitVec 32) : k0_cond1 i v = 1#1 ↔ ((i 0).val : ℤ) < v.toInt := by
  refine (Iff.of_eq (congrArg (· = 1#1) (ne_bit ((BitVec.ofNat 32 (i 0).val).slt v)))).trans ((bit_one _).trans ?_)
  rw [BitVec.slt_iff_toInt_lt, word_toInt (lt154 i)]
theorem c3_iff (i : grid0.Coords) (v : BitVec 32) : k0_cond3 i v = 1#1 ↔ v.toInt ≤ ((i 0).val : ℤ) := by
  refine (Iff.of_eq (congrArg (· = 1#1) (ne_bit (v.sle (BitVec.ofNat 32 (i 0).val))))).trans ((bit_one _).trans ?_)
  rw [BitVec.sle_iff_toInt_le, word_toInt (lt154 i)]

theorem keep_iff (c : Dev nD) (i : grid0.Coords) (b0 : TbBuf (F := F) c tb0) (h : ¬ reload c i b0 = 1#1) : (i 0).val ≠ 0 ∧ beW c i b0 = bpW c i b0 := by
  have e : reload c i b0 = BitVec.ofBool ((BitVec.ofNat 32 (i 0).val == 0#32) || (beW c i b0 != bpW c i b0)) := by
    unfold reload
    generalize beW c i b0 = x; generalize bpW c i b0 = y
    have g : ∀ p q : Bool, IntOp.cmpi .ne ((BitVec.ofBool p ||| BitVec.ofBool q).setWidth 32) 0#32 = BitVec.ofBool (p || q) := by decide
    exact g _ _
  rw [e, bit_one] at h
  simp only [Bool.or_eq_true, not_or, beq_iff_eq, bne_iff_ne, ne_eq, not_not] at h
  exact ⟨fun h0 => h.1 (by rw [h0]), h.2⟩

theorem coord_eq (t : Fin grid0.N) : (grid0.coords t 0).val = t.val := by
  have ht : t.val < 154 := Nat.lt_of_lt_of_eq t.isLt N_0
  have e0 : (grid0.coords t 0).val = t.val / 1 % 154 := Pipeline.Grid.coords_val t 0 (by decide) rfl
  omega

theorem off2_eq (t : Fin grid0.N) : k0_off2 (grid0.coords t) = ![t.val] := by
  have ht : t.val < 154 := Nat.lt_of_lt_of_eq t.isLt N_0
  show ![(BitVec.ofNat 32 (grid0.coords t 0).val).toNat] = _
  rw [coord_eq, BitVec.toNat_ofNat, Nat.mod_eq_of_lt (by omega)]
theorem off3_eq (t : Fin grid0.N) (h : t.val ≠ 0) : k0_off3 (grid0.coords t) = ![t.val - 1] := by
  have ht : t.val < 154 := Nat.lt_of_lt_of_eq t.isLt N_0
  show ![(IntOp.maxsi (IntOp.subi (BitVec.ofNat 32 (grid0.coords t 0).val) 1#32) 0#32).toNat] = _
  rw [coord_eq]
  have e : IntOp.subi (BitVec.ofNat 32 t.val) 1#32 = BitVec.ofNat 32 (t.val - 1) := by
    apply BitVec.eq_of_toNat_eq
    show ((BitVec.ofNat 32 t.val) - 1#32).toNat = _
    rw [BitVec.toNat_sub]; simp only [BitVec.toNat_ofNat]; omega
  rw [e]
  have g : IntOp.maxsi (BitVec.ofNat 32 (t.val - 1)) 0#32 = BitVec.ofNat 32 (t.val - 1) := by
    unfold IntOp.maxsi
    split
    · rfl
    · rename_i hn
      rw [BitVec.slt_iff_toInt_lt, word_toInt (show t.val - 1 < 154 by omega)] at hn
      have : (0#32 : BitVec 32).toInt = 0 := by decide
      rw [this] at hn
      have : t.val - 1 = 0 := by omega
      rw [this]
  rw [g, BitVec.toNat_ofNat, Nat.mod_eq_of_lt (by omega)]

/-- A word of the table of experts. -/
def bAt (c : Dev nD) (b0 : TbBuf (F := F) c tb0) (n : ℕ) (h : n < 154) : BitVec 32 := (b0 : S154.Idx → Elt F .i32) (ix1 (⟨n, h⟩ : Fin 154))

theorem table_at (c : Dev nD) (b0 : TbBuf (F := F) c tb0) {off : Fin 1 → ℕ} (inb : ∀ a, off a + S1.size a ≤ S154.size a) (n : ℕ) (h : n < 154) (e : off = ![n]) :
    tb0.view.readAt (Elt F) (Rect.unit (s := S154) off S1.size inb).toLoadRect b0 (Shape.Idx.first (Nat.lt_of_lt_of_eq Nat.one_pos numel1_S1.symm)) = bAt c b0 n h := by
  subst e
  refine congrArg (b0 : S154.Idx → Elt F .i32) (funext fun a => Fin.ext ?_)
  match a with
  | ⟨0, _⟩ => exact Nat.add_zero n

theorem beW_at (c : Dev nD) (b0 : TbBuf (F := F) c tb0) (t : Fin grid0.N) : beW c (grid0.coords t) b0 = bAt c b0 t.val (Nat.lt_of_lt_of_eq t.isLt N_0) :=
  table_at c b0 _ _ _ (off2_eq t)
theorem bpW_at (c : Dev nD) (b0 : TbBuf (F := F) c tb0) (t : Fin grid0.N) (h : t.val ≠ 0) : bpW c (grid0.coords t) b0 = bAt c b0 (t.val - 1) (by have := Nat.lt_of_lt_of_eq t.isLt N_0; omega) :=
  table_at c b0 _ _ _ (off3_eq t h)

/-! ## The windows' blocks -/

theorem ix1_eq (c : Dev nD) (i : grid0.Coords) : cc0_transform_1 k0_off1_inb numel1_S1 (tbl m) i = ![(beW c i (tbl m 0)).toNat, 0, 0] := rfl
theorem ix2_eq (c : Dev nD) (i : grid0.Coords) : cc0_transform_2 k0_off1_inb numel1_S1 (tbl m) i = ![(beW c i (tbl m 0)).toNat, 0, 0] := rfl
theorem ix3_eq (c : Dev nD) (i : grid0.Coords) : cc0_transform_3 k0_off1_inb numel1_S1 (tbl m) i = ![(beW c i (tbl m 0)).toNat, 0, 0] := rfl
theorem ix4_eq (c : Dev nD) (i : grid0.Coords) : cc0_transform_4 k0_off1_inb numel1_S1 (tbl m) i = ![(beW c i (tbl m 0)).toNat, 0, 0] := rfl
theorem ix0_eq (c : Dev nD) (i : grid0.Coords) : cc0_transform_0 inb_S1_S1_0 numel1_S1 (tbl m) i = ![(IntOp.minsi (BitVec.ofNat 32 (i 0).val) (IntOp.subi (nuW c (tbl m 1)) 1#32)).toNat, 0] := rfl

theorem be_lt (hO : Ok m) (c : Dev nD) (i : grid0.Coords) : (beW c i (tbl m 0)).toNat < 32 := by
  obtain ⟨h, -⟩ := hO.2.1 i
  have h0 := h 0
  rw [ix1_eq m c] at h0
  have : ((beW c i (tbl m 0)).toNat + 1) * 1 ≤ 32 := h0
  omega
theorem mn_lt (hO : Ok m) (c : Dev nD) (i : grid0.Coords) : (IntOp.minsi (BitVec.ofNat 32 (i 0).val) (IntOp.subi (nuW c (tbl m 1)) 1#32)).toNat < 154 := by
  obtain ⟨h, -⟩ := hO.1 i
  have h0 := h 0
  rw [ix0_eq m c] at h0
  have : ((IntOp.minsi (BitVec.ofNat 32 (i 0).val) (IntOp.subi (nuW c (tbl m 1)) 1#32)).toNat + 1) * 2176 ≤ 335104 := h0
  omega

theorem iblk1_at (hO : Ok m) (c : Dev nD) (t : Fin (cfgM m hO).N) (y : (S1x1024x2048).Idx) :
    (iblk m hO c 1 t : (S1x1024x2048).Idx → Elt F .f32) y = (V m c main_v0 : S32x1024x2048.Idx → Elt F .f32) (ix3 (⟨(beW c (grid0.coords t) (tbl m 0)).toNat, be_lt m hO c _⟩ : Fin 32) (y 1) (y 2)) := by
  refine congrArg (V m c main_v0 : S32x1024x2048.Idx → Elt F .f32) (funext fun a => Fin.ext ?_)
  match a with
  | ⟨0, _⟩ =>
    refine (ValueKit.rect_emb_unit_val _ _ _ _ _).trans ?_
    show (beW c (grid0.coords t) (tbl m 0)).toNat * 1 + (y 0).val = (beW c (grid0.coords t) (tbl m 0)).toNat
    have : (y 0).val < 1 := (y 0).isLt
    omega
  | ⟨1, _⟩ =>
    refine (ValueKit.rect_emb_unit_val _ _ _ _ _).trans ?_
    show 0 * 1024 + (y 1).val = (y 1).val
    omega
  | ⟨2, _⟩ =>
    refine (ValueKit.rect_emb_unit_val _ _ _ _ _).trans ?_
    show 0 * 2048 + (y 2).val = (y 2).val
    omega

theorem iblk2_at (hO : Ok m) (c : Dev nD) (t : Fin (cfgM m hO).N) (y : (S1x1x2048).Idx) :
    (iblk m hO c 2 t : (S1x1x2048).Idx → Elt F .f32) y = (V m c main_v4 : S32x1x2048.Idx → Elt F .f32) (ix3 (⟨(beW c (grid0.coords t) (tbl m 0)).toNat, be_lt m hO c _⟩ : Fin 32) (y 1) (y 2)) := by
  refine congrArg (V m c main_v4 : S32x1x2048.Idx → Elt F .f32) (funext fun a => Fin.ext ?_)
  match a with
  | ⟨0, _⟩ =>
    refine (ValueKit.rect_emb_unit_val _ _ _ _ _).trans ?_
    show (beW c (grid0.coords t) (tbl m 0)).toNat * 1 + (y 0).val = (beW c (grid0.coords t) (tbl m 0)).toNat
    have : (y 0).val < 1 := (y 0).isLt
    omega
  | ⟨1, _⟩ =>
    refine (ValueKit.rect_emb_unit_val _ _ _ _ _).trans ?_
    show 0 * 1 + (y 1).val = (y 1).val
    omega
  | ⟨2, _⟩ =>
    refine (ValueKit.rect_emb_unit_val _ _ _ _ _).trans ?_
    show 0 * 2048 + (y 2).val = (y 2).val
    omega

theorem iblk3_at (hO : Ok m) (c : Dev nD) (t : Fin (cfgM m hO).N) (y : (S1x1024x1024).Idx) :
    (iblk m hO c 3 t : (S1x1024x1024).Idx → Elt F .f32) y = (V m c main_v2 : S32x1024x1024.Idx → Elt F .f32) (ix3 (⟨(beW c (grid0.coords t) (tbl m 0)).toNat, be_lt m hO c _⟩ : Fin 32) (y 1) (y 2)) := by
  refine congrArg (V m c main_v2 : S32x1024x1024.Idx → Elt F .f32) (funext fun a => Fin.ext ?_)
  match a with
  | ⟨0, _⟩ =>
    refine (ValueKit.rect_emb_unit_val _ _ _ _ _).trans ?_
    show (beW c (grid0.coords t) (tbl m 0)).toNat * 1 + (y 0).val = (beW c (grid0.coords t) (tbl m 0)).toNat
    have : (y 0).val < 1 := (y 0).isLt
    omega
  | ⟨1, _⟩ =>
    refine (ValueKit.rect_emb_unit_val _ _ _ _ _).trans ?_
    show 0 * 1024 + (y 1).val = (y 1).val
    omega
  | ⟨2, _⟩ =>
    refine (ValueKit.rect_emb_unit_val _ _ _ _ _).trans ?_
    show 0 * 1024 + (y 2).val = (y 2).val
    omega

theorem iblk4_at (hO : Ok m) (c : Dev nD) (t : Fin (cfgM m hO).N) (y : (S1x1x1024).Idx) :
    (iblk m hO c 4 t : (S1x1x1024).Idx → Elt F .f32) y = (V m c main_v5 : S32x1x1024.Idx → Elt F .f32) (ix3 (⟨(beW c (grid0.coords t) (tbl m 0)).toNat, be_lt m hO c _⟩ : Fin 32) (y 1) (y 2)) := by
  refine congrArg (V m c main_v5 : S32x1x1024.Idx → Elt F .f32) (funext fun a => Fin.ext ?_)
  match a with
  | ⟨0, _⟩ =>
    refine (ValueKit.rect_emb_unit_val _ _ _ _ _).trans ?_
    show (beW c (grid0.coords t) (tbl m 0)).toNat * 1 + (y 0).val = (beW c (grid0.coords t) (tbl m 0)).toNat
    have : (y 0).val < 1 := (y 0).isLt
    omega
  | ⟨1, _⟩ =>
    refine (ValueKit.rect_emb_unit_val _ _ _ _ _).trans ?_
    show 0 * 1 + (y 1).val = (y 1).val
    omega
  | ⟨2, _⟩ =>
    refine (ValueKit.rect_emb_unit_val _ _ _ _ _).trans ?_
    show 0 * 1024 + (y 2).val = (y 2).val
    omega

set_option maxHeartbeats 2000000 in
theorem iblk0_at (hO : Ok m) (c : Dev nD) (t : Fin (cfgM m hO).N) (h : k0_cond1 (grid0.coords t) (nuW c (tbl m 1)) = 1#1) (y : S2176x128.Idx) :
    (iblk m hO c 0 t : S2176x128.Idx → Elt F .i32) y = (V m c main_arg2 : S335104x128.Idx → Elt F .i32)
      (ix2 (⟨t.val * 2176 + (y 0).val, by have : (y 0).val < 2176 := (y 0).isLt; have : t.val < 154 := Nat.lt_of_lt_of_eq t.isLt N_0; omega⟩ : Fin 335104) (y 1)) := by
  have ht : t.val < 154 := Nat.lt_of_lt_of_eq t.isLt N_0
  have hm : (IntOp.minsi (BitVec.ofNat 32 (grid0.coords t 0).val) (IntOp.subi (nuW c (tbl m 1)) 1#32)).toNat = t.val := by
    rw [c1_iff, coord_eq] at h
    rw [coord_eq]
    generalize nuW c (tbl m 1) = v at h
    have hs : (IntOp.subi v 1#32).toInt = v.toInt - 1 := by
      show (v - 1#32).toInt = _
      have h1 : v.toInt < 2 ^ 31 := by have := BitVec.toInt_lt (x := v); omega
      rw [BitVec.toInt_sub]
      have : (1#32 : BitVec 32).toInt = 1 := by decide
      rw [this, Int.bmod_eq_of_le] <;> omega
    unfold IntOp.minsi
    split
    · rw [BitVec.toNat_ofNat, Nat.mod_eq_of_lt (by omega)]
    · rename_i hn
      rw [BitVec.slt_iff_toInt_lt, word_toInt ht, hs] at hn
      have e : (IntOp.subi v 1#32).toInt = (t.val : ℤ) := by rw [hs]; omega
      have e2 : IntOp.subi v 1#32 = BitVec.ofNat 32 t.val := BitVec.eq_of_toInt_eq (by rw [e, word_toInt ht])
      rw [e2, BitVec.toNat_ofNat, Nat.mod_eq_of_lt (by omega)]
  refine congrArg (V m c main_arg2 : S335104x128.Idx → Elt F .i32) (funext fun a => Fin.ext ?_)
  match a with
  | ⟨0, _⟩ =>
    refine (ValueKit.rect_emb_unit_val _ _ _ _ _).trans ?_
    exact congrArg (fun n => n * 2176 + (y 0).val) hm
  | ⟨1, _⟩ =>
    refine (ValueKit.rect_emb_unit_val _ _ _ _ _).trans ?_
    show 0 * 128 + (y 1).val = (y 1).val
    omega

end Cert.ExpertsIdeal.Run

end
-- ==== Proof.ExpertsIdealTracked.lean ====
module

public import proofs.«01_k».proof.Proof.ExpertsIdealBlocks

public import Idealize.ShloMosaic.Lib.ValueIdxCore

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ExpertsIdeal.Gen
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point computes its block. -/
abbrev act (c : Dev nD) (i : grid0.Coords) : Prop := k0_cond1 i (nuW c (tbl m 1)) = 1#1

/-- The point's expert's weights, cast. -/
def WU (hO : Ok m) (c : Dev nD) (t : Fin (cfgM m hO).N) : S1024x2048.Idx → Elt F .bf16 := k0_pay6 (iblk m hO c 1 t)
def WD (hO : Ok m) (c : Dev nD) (t : Fin (cfgM m hO).N) : S1024x1024.Idx → Elt F .bf16 := k0_pay7 (iblk m hO c 3 t)
/-- The block that the point writes. -/
def outN (hO : Ok m) (c : Dev nD) (t : Fin (cfgM m hO).N) : S544x1024.Idx → Elt F .bf16 :=
  if act m c (grid0.coords t) then outOf (actOf (xOf (iblk m hO c 0 t)) (WU m hO c t) (iblk m hO c 2 t)) (WD m hO c t) (iblk m hO c 4 t) else k0_pay5 (F := F)

abbrev sc0 : Memref sig .tc .vmem S544x1024 .bf16 := Memref.whole cc0_scratch0
abbrev sc1 : Memref sig .tc .vmem S544x1024 .bf16 := Memref.whole cc0_scratch1
abbrev sc2 : Memref sig .tc .vmem S1024x2048 .bf16 := Memref.whole cc0_scratch2
abbrev sc3 : Memref sig .tc .vmem S1024x1024 .bf16 := Memref.whole cc0_scratch3

theorem PhiA_eq (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- Before point `n` the two weight buffers hold what the point before it, if it computed its block, has cast. -/
def PhiN (hO : Ok m) (c : Dev nD) (n : ℕ) : sProp 𝕄 :=
  iprop(((∃ d, owns (c : Thread nD τ) sc0 fullShare d) ∗ (∃ d, owns (c : Thread nD τ) sc1 fullShare d)
    ∗ (∃ d, ⌜∀ t : Fin (cfgM m hO).N, t.val + 1 = n → act m c (grid0.coords t) → d = WU m hO c t⌝ ∗ owns (c : Thread nD τ) sc2 fullShare d)
    ∗ (∃ d, ⌜∀ t : Fin (cfgM m hO).N, t.val + 1 = n → act m c (grid0.coords t) → d = WD m hO c t⌝ ∗ owns (c : Thread nD τ) sc3 fullShare d)) ∗ (∃ r, prngReg c r)
    ∗ Pipeline.ΦT pre0 (tbl m) c)

def tdats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outN m hO c t
    | ⟨_ + 6, h⟩ => absurd h (Nat.not_lt.2 (Nat.le_add_left _ _))
  Φ t := PhiN m hO c t.val
  q _ := fullShare
  owed _ := 0

theorem tA_eq (hO : Ok m) (c : Dev nD) (w : Fin (cfgM m hO).W) : (tdats m hO 0 c).A w = V m c (Pipeline.arrRef spec0 w) := by
  dsimp only [tdats]
theorem tafter_0 (hO : Ok m) (c : Dev nD) (t : Fin (cfgM m hO).N) : (tdats m hO 0 c).after 0 t = iblk m hO c 0 t := by dsimp only [tdats]; try rfl
theorem tbefore_0 (hO : Ok m) (c : Dev nD) (t : Fin (cfgM m hO).N) (d) : (tdats m hO 0 c).before 0 t d = iblk m hO c 0 t :=
  before_of m hO (tdats m hO 0 c) (tA_eq m hO c) (tafter_0 m hO c) t d
theorem tafter_1 (hO : Ok m) (c : Dev nD) (t : Fin (cfgM m hO).N) : (tdats m hO 0 c).after 1 t = iblk m hO c 1 t := by dsimp only [tdats]; try rfl
theorem tbefore_1 (hO : Ok m) (c : Dev nD) (t : Fin (cfgM m hO).N) (d) : (tdats m hO 0 c).before 1 t d = iblk m hO c 1 t :=
  before_of1 m hO (tdats m hO 0 c) (tA_eq m hO c) (tafter_1 m hO c) t d
theorem tafter_2 (hO : Ok m) (c : Dev nD) (t : Fin (cfgM m hO).N) : (tdats m hO 0 c).after 2 t = iblk m hO c 2 t := by dsimp only [tdats]; try rfl
theorem tbefore_2 (hO : Ok m) (c : Dev nD) (t : Fin (cfgM m hO).N) (d) : (tdats m hO 0 c).before 2 t d = iblk m hO c 2 t :=
  before_of2 m hO (tdats m hO 0 c) (tA_eq m hO c) (tafter_2 m hO c) t d
theorem tafter_3 (hO : Ok m) (c : Dev nD) (t : Fin (cfgM m hO).N) : (tdats m hO 0 c).after 3 t = iblk m hO c 3 t := by dsimp only [tdats]; try rfl
theorem tbefore_3 (hO : Ok m) (c : Dev nD) (t : Fin (cfgM m hO).N) (d) : (tdats m hO 0 c).before 3 t d = iblk m hO c 3 t :=
  before_of3 m hO (tdats m hO 0 c) (tA_eq m hO c) (tafter_3 m hO c) t d
theorem tafter_4 (hO : Ok m) (c : Dev nD) (t : Fin (cfgM m hO).N) : (tdats m hO 0 c).after 4 t = iblk m hO c 4 t := by dsimp only [tdats]; try rfl
theorem tbefore_4 (hO : Ok m) (c : Dev nD) (t : Fin (cfgM m hO).N) (d) : (tdats m hO 0 c).before 4 t d = iblk m hO c 4 t :=
  before_of4 m hO (tdats m hO 0 c) (tA_eq m hO c) (tafter_4 m hO c) t d
theorem tafter_5 (hO : Ok m) (c : Dev nD) (t : Fin (cfgM m hO).N) : (tdats m hO 0 c).after 5 t = outN m hO c t := by dsimp only [tdats]; try rfl

/-- What the body is called with at point `t`, window by window, -/
def tPre (hO : Ok m) (c : Dev nD) (t : Fin (cfgM m hO).N) : sProp 𝕄 :=
  iprop((tdats m hO 0 c).Φ t.castSucc ∗ (tdats m hO 0 c).owesAt () t.castSucc ∗ (∃ d, owns (c : Thread nD τ) (ms0 m hO t) fullShare ((tdats m hO 0 c).before 0 t d)) ∗ (∃ d, owns (c : Thread nD τ) (ms1 m hO t) fullShare ((tdats m hO 0 c).before 1 t d)) ∗ (∃ d, owns (c : Thread nD τ) (ms2 m hO t) fullShare ((tdats m hO 0 c).before 2 t d)) ∗ (∃ d, owns (c : Thread nD τ) (ms3 m hO t) fullShare ((tdats m hO 0 c).before 3 t d)) ∗ (∃ d, owns (c : Thread nD τ) (ms4 m hO t) fullShare ((tdats m hO 0 c).before 4 t d)) ∗ (∃ d, owns (c : Thread nD τ) (ms5 m hO t) fullShare ((tdats m hO 0 c).before 5 t d)))
/-- and what it returns. -/
def tPost (hO : Ok m) (c : Dev nD) (t : Fin (cfgM m hO).N) : sProp 𝕄 :=
  iprop((tdats m hO 0 c).Φ t.succ ∗ (tdats m hO 0 c).owesAt () t.succ ∗ owns (c : Thread nD τ) (ms0 m hO t) fullShare ((tdats m hO 0 c).after 0 t) ∗ owns (c : Thread nD τ) (ms1 m hO t) fullShare ((tdats m hO 0 c).after 1 t) ∗ owns (c : Thread nD τ) (ms2 m hO t) fullShare ((tdats m hO 0 c).after 2 t) ∗ owns (c : Thread nD τ) (ms3 m hO t) fullShare ((tdats m hO 0 c).after 3 t) ∗ owns (c : Thread nD τ) (ms4 m hO t) fullShare ((tdats m hO 0 c).after 4 t) ∗ owns (c : Thread nD τ) (ms5 m hO t) fullShare ((tdats m hO 0 c).after 5 t))

/-- The body at point `t`. -/
abbrev bodyAt (hO : Ok m) (t : Fin (cfgM m hO).N) := cc0_experts (F := F) (grid0.coords t) (Memref.whole main_arg0) (Memref.isWhole_whole _) (Memref.whole main_arg1) (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)

/-- A point that keeps the weights of the point before it. -/
theorem keep_prev (hO : Ok m) (c : Dev nD) (t : Fin (cfgM m hO).N) (h1 : act m c (grid0.coords t)) (h2 : ¬ reload c (grid0.coords t) (tbl m 0) = 1#1) :
    ∃ t' : Fin (cfgM m hO).N, t'.val + 1 = t.val ∧ act m c (grid0.coords t') ∧ WU m hO c t' = WU m hO c t ∧ WD m hO c t' = WD m hO c t := by
  obtain ⟨h0, hb⟩ := keep_iff c _ _ h2
  rw [coord_eq] at h0
  have ht := t.isLt
  refine ⟨⟨t.val - 1, by omega⟩, by show t.val - 1 + 1 = t.val; omega, ?_, ?_, ?_⟩
  · unfold act at h1 ⊢
    rw [c1_iff, coord_eq] at h1 ⊢
    show ((t.val - 1 : ℕ) : ℤ) < _
    omega
  all_goals
    have hb' : (beW c (grid0.coords (⟨t.val - 1, by omega⟩ : Fin (cfgM m hO).N)) (tbl m 0)) = beW c (grid0.coords t) (tbl m 0) := by
      exact (beW_at c (tbl m 0) (⟨t.val - 1, Nat.lt_of_le_of_lt (Nat.sub_le _ _) t.isLt⟩ : Fin grid0.N)).trans ((bpW_at c (tbl m 0) t h0).symm.trans hb.symm)
  · unfold WU
    refine congrArg k0_pay6 (funext fun (y : S1x1024x2048.Idx) => ?_)
    refine (iblk1_at m hO c _ y).trans (Eq.trans ?_ (iblk1_at m hO c t y).symm)
    exact congrArg (fun e : Fin 32 => (V m c main_v0 : S32x1024x2048.Idx → Elt F .f32) (ix3 e (y 1) (y 2))) (Fin.ext (congrArg BitVec.toNat hb'))
  · unfold WD
    refine congrArg k0_pay7 (funext fun (y : S1x1024x1024.Idx) => ?_)
    refine (iblk3_at m hO c _ y).trans (Eq.trans ?_ (iblk3_at m hO c t y).symm)
    exact congrArg (fun e : Fin 32 => (V m c main_v2 : S32x1024x1024.Idx → Elt F .f32) (ix3 e (y 1) (y 2))) (Fin.ext (congrArg BitVec.toNat hb'))

theorem only (hO : Ok m) (c : Dev nD) {S : Shape} {d : S.Idx → Elt F .bf16} (f : Fin (cfgM m hO).N → S.Idx → Elt F .bf16) (t : Fin (cfgM m hO).N) (h : d = f t) :
    ∀ t' : Fin (cfgM m hO).N, t'.val + 1 = t.val + 1 → act m c (grid0.coords t') → d = f t' := fun t' e _ => by
  obtain rfl : t' = t := Fin.ext (by omega)
  exact h
theorem none_of (hO : Ok m) (c : Dev nD) {S : Shape} {d : S.Idx → Elt F .bf16} (f : Fin (cfgM m hO).N → S.Idx → Elt F .bf16) (t : Fin (cfgM m hO).N) (h : ¬ act m c (grid0.coords t)) :
    ∀ t' : Fin (cfgM m hO).N, t'.val + 1 = t.val + 1 → act m c (grid0.coords t') → d = f t' := fun t' e h' => by
  obtain rfl : t' = t := Fin.ext (by omega)
  exact absurd h' h

set_option maxHeartbeats 4000000 in
theorem tbody (hO : Ok m) (c : Dev nD) (t : Fin (cfgM m hO).N) :
    tPre m hO c t ⊢ wp frame (wpE (defs₀ (F := F)) Variants.none c none) Set.univ (bodyAt m hO t) (fun _ => tPost m hO c t) := by
  unfold tPre tPost
  simp only [tbefore_0, tbefore_1, tbefore_2, tbefore_3, tbefore_4, tafter_0, tafter_1, tafter_2, tafter_3, tafter_4, tafter_5]
  rw [show (tdats m hO 0 c).Φ t.succ = PhiN m hO c (t.val + 1) from rfl, show (tdats m hO 0 c).Φ t.castSucc = PhiN m hO c t.val from rfl]
  unfold PhiN
  rw [PhiT0_eq]
  unfold Dat.owesAt Pipeline.owesWithin
  rw [show (tdats m hO 0 c).owed t.castSucc = 0 from rfl, show (tdats m hO 0 c).owed t.succ = 0 from rfl]
  iintro ⟨⟨⟨⟨%s0, S0⟩, ⟨%s1, S1⟩, ⟨%s2, %hs2, S2⟩, ⟨%s3, %hs3, S3⟩⟩, Hg, HT0, HT1⟩, ⟨%W, -, HW⟩, ⟨%d0, H0⟩, ⟨%d1, H1⟩, ⟨%d2, H2⟩, ⟨%d3, H3⟩, ⟨%d4, H4⟩, ⟨%d5, H5⟩⟩
  by_cases h1 : act m c (grid0.coords t)
  · have h3 : ¬ k0_cond3 (grid0.coords t) (nuW c (tbl m 1)) = 1#1 := by
      unfold act at h1; rw [c1_iff] at h1; rw [c3_iff]; omega
    have hout : outN m hO c t = outOf (actOf (xOf (iblk m hO c 0 t)) (WU m hO c t) (iblk m hO c 2 t)) (WD m hO c t) (iblk m hO c 4 t) := if_pos h1
    by_cases h2 : reload c (grid0.coords t) (tbl m 0) = 1#1
    · iapply (runR (F := F) c (grid0.coords t) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m hO c 0 t) (iblk m hO c 1 t) (iblk m hO c 2 t) (iblk m hO c 3 t) (iblk m hO c 4 t) (tbl m 0) (tbl m 1) h1 h2 h3 W _)
      isplitl [H0]; · iexact H0
      isplitl [H1]; · iexact H1
      isplitl [H2]; · iexact H2
      isplitl [H3]; · iexact H3
      isplitl [H4]; · iexact H4
      isplitl [H5]; · iexists _; iexact H5
      isplitl [S0]; · iexists _; iexact S0
      isplitl [S1]; · iexists _; iexact S1
      isplitl [S2]; · iexists _; iexact S2
      isplitl [S3]; · iexists _; iexact S3
      isplitl [HT0]; · iexact HT0
      isplitl [HT1]; · iexact HT1
      isplitl [HW]; · iexact HW
      iintro ⟨H0, H1, H2, H3, H4, H5, ⟨%e0, S0⟩, ⟨%e1, S1⟩, S2, S3, HT0, HT1, ⟨%W', HW'⟩⟩
      isplitl [S0 S1 S2 S3 Hg HT0 HT1]
      · isplitl [S0 S1 S2 S3]
        · isplitl [S0]; · iexists _; iexact S0
          isplitl [S1]; · iexists _; iexact S1
          isplitl [S2]
          · iexists _; isplitr; swap; · iexact S2
            ipureintro; exact only m hO c (WU m hO c) t rfl
          iexists _; isplitr; swap; · iexact S3
          ipureintro; exact only m hO c (WD m hO c) t rfl
        isplitl [Hg]; · iexact Hg
        isplitl [HT0]; · iexact HT0
        iexact HT1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      rw [hout]; iexact H5
    · obtain ⟨t', ht', ha', hu, hd⟩ := keep_prev m hO c t h1 h2
      obtain rfl : s2 = WU m hO c t := (hs2 t' ht' ha').trans hu
      obtain rfl : s3 = WD m hO c t := (hs3 t' ht' ha').trans hd
      iapply (runK (F := F) c (grid0.coords t) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m hO c 0 t) (iblk m hO c 1 t) (iblk m hO c 2 t) (iblk m hO c 3 t) (iblk m hO c 4 t) (tbl m 0) (tbl m 1) (WU m hO c t) (WD m hO c t) h1 h2 h3 W _)
      isplitl [H0]; · iexact H0
      isplitl [H1]; · iexact H1
      isplitl [H2]; · iexact H2
      isplitl [H3]; · iexact H3
      isplitl [H4]; · iexact H4
      isplitl [H5]; · iexists _; iexact H5
      isplitl [S0]; · iexists _; iexact S0
      isplitl [S1]; · iexists _; iexact S1
      isplitl [S2]; · iexact S2
      isplitl [S3]; · iexact S3
      isplitl [HT0]; · iexact HT0
      isplitl [HT1]; · iexact HT1
      isplitl [HW]; · iexact HW
      iintro ⟨H0, H1, H2, H3, H4, H5, ⟨%e0, S0⟩, ⟨%e1, S1⟩, S2, S3, HT0, HT1, ⟨%W', HW'⟩⟩
      isplitl [S0 S1 S2 S3 Hg HT0 HT1]
      · isplitl [S0 S1 S2 S3]
        · isplitl [S0]; · iexists _; iexact S0
          isplitl [S1]; · iexists _; iexact S1
          isplitl [S2]
          · iexists _; isplitr; swap; · iexact S2
            ipureintro; exact only m hO c (WU m hO c) t rfl
          iexists _; isplitr; swap; · iexact S3
          ipureintro; exact only m hO c (WD m hO c) t rfl
        isplitl [Hg]; · iexact Hg
        isplitl [HT0]; · iexact HT0
        iexact HT1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      rw [hout]; iexact H5
  · have h3 : k0_cond3 (grid0.coords t) (nuW c (tbl m 1)) = 1#1 := by
      unfold act at h1; rw [c1_iff] at h1; rw [c3_iff]; omega
    have hout : outN m hO c t = k0_pay5 (F := F) := if_neg h1
    iapply (runZ (F := F) c (grid0.coords t) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m hO c 0 t) (iblk m hO c 1 t) (iblk m hO c 2 t) (iblk m hO c 3 t) (iblk m hO c 4 t) (tbl m 0) (tbl m 1) h1 h3 W _)
    isplitl [H0]; · iexact H0
    isplitl [H1]; · iexact H1
    isplitl [H2]; · iexact H2
    isplitl [H3]; · iexact H3
    isplitl [H4]; · iexact H4
    isplitl [H5]; · iexists _; iexact H5
    isplitl [S0]; · iexists _; iexact S0
    isplitl [S1]; · iexists _; iexact S1
    isplitl [S2]; · iexists _; iexact S2
    isplitl [S3]; · iexists _; iexact S3
    isplitl [HT0]; · iexact HT0
    isplitl [HT1]; · iexact HT1
    isplitl [HW]; · iexact HW
    iintro ⟨H0, H1, H2, H3, H4, H5, ⟨%e0, S0⟩, ⟨%e1, S1⟩, ⟨%e2, S2⟩, ⟨%e3, S3⟩, HT0, HT1, ⟨%W', HW'⟩⟩
    isplitl [S0 S1 S2 S3 Hg HT0 HT1]
    · isplitl [S0 S1 S2 S3]
      · isplitl [S0]; · iexists _; iexact S0
        isplitl [S1]; · iexists _; iexact S1
        isplitl [S2]
        · iexists _; isplitr; swap; · iexact S2
          ipureintro; exact none_of m hO c (WU m hO c) t h1
        iexists _; isplitr; swap; · iexact S3
        ipureintro; exact none_of m hO c (WD m hO c) t h1
      isplitl [Hg]; · iexact Hg
      isplitl [HT0]; · iexact HT0
      iexact HT1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    rw [hout]; iexact H5

theorem idle_false (i : grid0.Coords) (v : BitVec 32) : (!(k0_cond1 i v == 1#1) && !(k0_cond3 i v == 1#1)) = false := by
  rcases lt_or_ge ((i 0).val : ℤ) v.toInt with h | h
  · rw [(c1_iff i v).2 h]; rfl
  · rw [(c3_iff i v).2 h]; simp

theorem idle_eq (hO : Ok m) (w : Fin 6) (i : grid0.Coords) : (cfgM m hO).idle w i = idle0 (tbl m) w i := rfl

theorem idle_at (pf : pre0.Contents (Elt F)) (i : grid0.Coords) : idle0 pf 5 i = false := idle_false i _

theorem idle5 (hO : Ok m) (i : grid0.Coords) : (cfgM m hO).idle (5 : Fin 6) i = false := (idle_eq m hO 5 i).trans (idle_at _ i)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]; try rfl

set_option maxHeartbeats 2000000 in
theorem body_obligation (hO : Ok m) (c : Dev nD) : BodyObligation (tdats (F := F) m hO 0 c) (defs₀ (F := F)) Variants.none () Set.univ := fun t => by
  rw [bigSep_W0, bigSep_W0, defs₀_row m hO]
  rw [idle5 m hO]
  exact triple_restated (tbody m hO c t) rfl .rfl fun _ => .rfl

theorem Phi_in (hO : Ok m) (c : Dev nD) : iprop(Pipeline.ΦA spec0 c ∗ Pipeline.ΦT pre0 (tbl m) c) ⊢ (tdats (F := F) m hO 0 c).Φ 0 := by
  rw [show (tdats m hO 0 c).Φ 0 = PhiN m hO c 0 from rfl, PhiA_eq]
  unfold PhiN
  iintro ⟨⟨⟨H0, H1, ⟨%d2, H2⟩, ⟨%d3, H3⟩⟩, Hg⟩, HT⟩
  isplitl [H0 H1 H2 H3]
  · isplitl [H0]; · iexact H0
    isplitl [H1]; · iexact H1
    isplitl [H2]
    · iexists d2; isplitr; · ipureintro; exact fun _ h => absurd h (Nat.succ_ne_zero _)
      iexact H2
    iexists d3; isplitr; · ipureintro; exact fun _ h => absurd h (Nat.succ_ne_zero _)
    iexact H3
  isplitl [Hg]; · iexact Hg
  iexact HT

theorem Phi_out (hO : Ok m) (c : Dev nD) : (tdats (F := F) m hO 0 c).Φ (Fin.last (cfgM m hO).N) ⊢ Pipeline.ΦA spec0 c := by
  rw [show (tdats m hO 0 c).Φ (Fin.last (cfgM m hO).N) = PhiN m hO c (cfgM m hO).N from rfl, PhiA_eq]
  unfold PhiN
  iintro ⟨⟨H0, H1, ⟨%d2, -, H2⟩, ⟨%d3, -, H3⟩⟩, Hg, -⟩
  isplitl [H0 H1 H2 H3]
  · isplitl [H0]; · iexact H0
    isplitl [H1]; · iexact H1
    isplitl [H2]; · iexists _; iexact H2
    iexists _; iexact H3
  iexact Hg

set_option backward.isDefEq.respectTransparency.types false in
theorem run_main (hO : Ok m) : θ_run defs (onTc (τ := τ) (main (F := F))) (s₀ m ρ) (fun r => Pipeline.FramePost (Pipeline.pin pcfgs fun _ => adm m hO) (tdats m hO) 0 (V m) r ∧ r.2.sem = fun _ => 0) :=
  Pipeline.θ_run_frameP_track (Q' := _) pcfgs (fun _ => adm m hO) (tdats m hO) (0 : Fin 1) launch0 defs₀ Variants.none m ρ main
    (hbody := fun c => (body_obligation m hO c).loose) (hshare := fun c => (tdats m hO 0 c).share_full fun _ => rfl)
    (howed := fun _ _ => rfl) (V := V m) (hmain := hmain m Variants.none) (hA := tA_eq m hO) (hpf := V_pre m) (hin := Phi_in m hO) (hout := Phi_out m hO)

end Cert.ExpertsIdeal.Run

end
-- ==== Proof.ExpertsRange.lean ====
module

public import proofs.«01_k».proof.Proof.Gen.Pre_experts_in_range

public import Idealize.ShloMosaic.Lib.ValueIdxCore

@[expose] public section

noncomputable section

/-! What the precondition says of the two tables. -/

namespace Cert.Pre_experts_in_range.Read

open Idealize.ShloMosaic
open Cert.Pre_experts_in_range.Gen
open Idealize.ShloMosaic.ValueIdx (ix1)

variable {F : FTy → Type} [FloatOps F]

theorem bits3 : ∀ p q r : Bool, (BitVec.ofBool p &&& BitVec.ofBool q) &&& BitVec.ofBool r = 1#1 → p = true ∧ q = true ∧ r = true := by decide

theorem word_lt {v : BitVec 32} (h : 0 ≤ v.toInt ∧ v.toInt < 32) : v.toNat < 32 := by
  rw [BitVec.toInt_eq_toNat_cond] at h
  split at h <;> have := v.isLt <;> omega

/-- Every expert is one of the 32, and some block is used. -/
theorem in_range {b : IVec S154 32} {n : IVec S1 32} {a2 : IVec S335104x128 32} {a3 : FVec F S1x32x1024x2048 .f32} {a4 : FVec F S1x32x2048 .f32}
    {a5 : FVec F S1x32x1024x1024 .f32} {a6 : FVec F S1x32x1024 .f32} (h : Cert.Pre_experts_in_range.fn (F := F) b n a2 a3 a4 a5 a6 = fun _ => 1#1) :
    (∀ j : S154.Idx, 0 ≤ (b j).toInt ∧ (b j).toInt < 32) ∧ ∀ j : S1.Idx, 1 ≤ (n j).toInt := by
  have key : ∀ j : S154.Idx, ((0#32).sle (b j) = true ∧ (b j).slt 32#32 = true ∧ (1#32).sle (n (ix1 (0 : Fin 1))) = true) := fun j => by
    have e := congrFun h j
    refine bits3 _ _ _ (Eq.trans ?_ e)
    refine congrArg (fun z : S1.Idx => (BitVec.ofBool ((0#32).sle (b j)) &&& BitVec.ofBool ((b j).slt 32#32)) &&& BitVec.ofBool ((1#32).sle (n z))) (funext fun a => ?_)
    match a with
    | ⟨0, _⟩ => exact Subsingleton.elim (α := Fin 1) _ _
  refine ⟨fun j => ⟨?_, ?_⟩, fun j => ?_⟩
  · have := BitVec.sle_iff_toInt_le.mp (key j).1; exact this
  · have := BitVec.slt_iff_toInt_lt.mp (key j).2.1; exact this
  · have := BitVec.sle_iff_toInt_le.mp (key (ix1 (0 : Fin 154))).2.2
    have e : j = ix1 (0 : Fin 1) := funext fun a => by
      match a with
      | ⟨0, _⟩ => exact Subsingleton.elim (α := Fin 1) _ _
    rw [e]; exact this

end Cert.Pre_experts_in_range.Read

end
-- ==== Proof.ExpertsIdealFrame.lean ====
module

public import proofs.«01_k».proof.Proof.ExpertsIdealTracked

public import proofs.«01_k».proof.Proof.ExpertsRange

public import Idealize.ShloMosaic.Lib.ValueIdxCore

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ExpertsIdeal.Gen
open Idealize.ShloMosaic.ValueIdx (ix2)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks lie inside their arrays -/

theorem tbl0 : (tbl m 0 : S154.Idx → BitVec 32) = m ((0 : Dev nD).tc.loc main_arg0) := V_of m 0 main_arg0 (by decide)
theorem tbl1 : (tbl m 1 : S1.Idx → BitVec 32) = m ((0 : Dev nD).tc.loc main_arg1) := V_of m 0 main_arg1 (by decide)

theorem min_lt {n : ℕ} (hn : n < 154) {v : BitVec 32} (h : 1 ≤ v.toInt) : (IntOp.minsi (BitVec.ofNat 32 n) (IntOp.subi v 1#32)).toNat < 154 := by
  have hs : (IntOp.subi v 1#32).toInt = v.toInt - 1 := by
    show (v - 1#32).toInt = _
    have h1 : v.toInt < 2 ^ 31 := by have := BitVec.toInt_lt (x := v); omega
    rw [BitVec.toInt_sub]
    have : (1#32 : BitVec 32).toInt = 1 := by decide
    rw [this, Int.bmod_eq_of_le] <;> omega
  unfold IntOp.minsi
  split
  · rw [BitVec.toNat_ofNat, Nat.mod_eq_of_lt (by omega)]; exact hn
  · rename_i hc
    rw [BitVec.slt_iff_toInt_lt, word_toInt hn, hs] at hc
    have := BitVec.toInt_eq_toNat_cond (IntOp.subi v 1#32)
    rw [hs] at this
    split at this <;> have := (IntOp.subi v 1#32).isLt <;> omega

theorem ok_of (hb : ∀ j : S154.Idx, 0 ≤ ((m ((0 : Dev nD).tc.loc main_arg0) : S154.Idx → BitVec 32) j).toInt ∧ ((m ((0 : Dev nD).tc.loc main_arg0) : S154.Idx → BitVec 32) j).toInt < 32)
    (hn : ∀ j : S1.Idx, 1 ≤ ((m ((0 : Dev nD).tc.loc main_arg1) : S1.Idx → BitVec 32) j).toInt) : Ok m := by
  have hb' : ∀ j : S154.Idx, ((tbl m 0 : S154.Idx → BitVec 32) j).toNat < 32 := fun j => by
    rw [tbl0 m]; exact Cert.Pre_experts_in_range.Read.word_lt (hb j)
  have hn' : ∀ j : S1.Idx, 1 ≤ ((tbl m 1 : S1.Idx → BitVec 32) j).toInt := fun j => by
    rw [tbl1 m]; exact hn j
  have hw : ∀ i : grid0.Coords, (beW (0 : Dev nD) i (tbl m 0)).toNat < 32 := fun i => hb' _
  have hm : ∀ i : grid0.Coords, (IntOp.minsi (BitVec.ofNat 32 (i 0).val) (IntOp.subi (nuW (0 : Dev nD) (tbl m 1)) 1#32)).toNat < 154 := fun i =>
    min_lt (lt154 i) (hn' _)
  refine ⟨fun i => ⟨?_, Or.inl rfl⟩, fun i => ⟨?_, Or.inl rfl⟩, fun i => ⟨?_, Or.inl rfl⟩, fun i => ⟨?_, Or.inl rfl⟩, fun i => ⟨?_, Or.inl rfl⟩⟩
  · rw [ix0_eq m (0 : Dev nD)]
    have := hm i
    intro a
    match a with
    | ⟨0, _⟩ => show ((IntOp.minsi (BitVec.ofNat 32 (i 0).val) (IntOp.subi (nuW (0 : Dev nD) (tbl m 1)) 1#32)).toNat + 1) * 2176 ≤ 335104; omega
    | ⟨1, _⟩ => show (0 + 1) * 128 ≤ 128; omega
  · rw [ix1_eq m (0 : Dev nD)]
    have := hw i
    intro a
    match a with
    | ⟨0, _⟩ => show ((beW (0 : Dev nD) i (tbl m 0)).toNat + 1) * 1 ≤ 32; omega
    | ⟨1, _⟩ => show (0 + 1) * 1024 ≤ 1024; omega
    | ⟨2, _⟩ => show (0 + 1) * 2048 ≤ 2048; omega
  · rw [ix2_eq m (0 : Dev nD)]
    have := hw i
    intro a
    match a with
    | ⟨0, _⟩ => show ((beW (0 : Dev nD) i (tbl m 0)).toNat + 1) * 1 ≤ 32; omega
    | ⟨1, _⟩ => show (0 + 1) * 1 ≤ 1; omega
    | ⟨2, _⟩ => show (0 + 1) * 2048 ≤ 2048; omega
  · rw [ix3_eq m (0 : Dev nD)]
    have := hw i
    intro a
    match a with
    | ⟨0, _⟩ => show ((beW (0 : Dev nD) i (tbl m 0)).toNat + 1) * 1 ≤ 32; omega
    | ⟨1, _⟩ => show (0 + 1) * 1024 ≤ 1024; omega
    | ⟨2, _⟩ => show (0 + 1) * 1024 ≤ 1024; omega
  · rw [ix4_eq m (0 : Dev nD)]
    have := hw i
    intro a
    match a with
    | ⟨0, _⟩ => show ((beW (0 : Dev nD) i (tbl m 0)).toNat + 1) * 1 ≤ 32; omega
    | ⟨1, _⟩ => show (0 + 1) * 1 ≤ 1; omega
    | ⟨2, _⟩ => show (0 + 1) * 1024 ≤ 1024; omega

/-! ## The arguments end unchanged -/

theorem unchanged_of (hO : Ok m) {r : PUnit × MemSt nD τ sig (Elt F)}
    (h : Pipeline.FramePost (Pipeline.pin pcfgs fun _ => adm m hO) (tdats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (show ∀ w : Fin 6, (spec0 w).arr.view.ref ≠ main_arg0 by decide))).trans (V_of m c main_arg0 (by decide)),
    ((h c).2 main_arg1 (Pipeline.mem_restRefs_of main_arg1 (by decide) (show ∀ w : Fin 6, (spec0 w).arr.view.ref ≠ main_arg1 by decide))).trans (V_of m c main_arg1 (by decide)),
    ((h.in_eq c (0 : Fin 6) rfl).trans (tA_eq m hO c 0)).trans (V_of m c main_arg2 (by decide)),
    ((h c).2 main_arg3 (Pipeline.mem_restRefs_of main_arg3 (by decide) (show ∀ w : Fin 6, (spec0 w).arr.view.ref ≠ main_arg3 by decide))).trans (V_of m c main_arg3 (by decide)),
    ((h c).2 main_arg4 (Pipeline.mem_restRefs_of main_arg4 (by decide) (show ∀ w : Fin 6, (spec0 w).arr.view.ref ≠ main_arg4 by decide))).trans (V_of m c main_arg4 (by decide)),
    ((h c).2 main_arg5 (Pipeline.mem_restRefs_of main_arg5 (by decide) (show ∀ w : Fin 6, (spec0 w).arr.view.ref ≠ main_arg5 by decide))).trans (V_of m c main_arg5 (by decide)),
    ((h c).2 main_arg6 (Pipeline.mem_restRefs_of main_arg6 (by decide) (show ∀ w : Fin 6, (spec0 w).arr.view.ref ≠ main_arg6 by decide))).trans (V_of m c main_arg6 (by decide))⟩

theorem frame (hO : Ok m) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => unchanged_of m hO h.1 c, h.2⟩) (run_main m ρ hO)

end Cert.ExpertsIdeal.Run

end
-- ==== Proof.ExpertsFrame.lean ====
module

public import proofs.«01_k».proof.Proof.ExpertsIdealFrame
public import proofs.«01_k».proof.Proof.Gen.Experts
public import proofs.«01_k».proof.Defs

@[expose] public section

set_option maxRecDepth 16384

noncomputable section

/-! The experts' kernel and its idealization have one text: the one's run is the other's. -/

namespace Cert.Experts.Run

open Idealize.ShloMosaic Idealize.ShloMosaic.TcCoe Idealize.SL.Sem
open Idealize.SL

variable {F : FTy → Type} [FloatOps F]

theorem kernel_eq : (Cert.Experts.cc0_experts (F := F)) = Cert.ExpertsIdeal.cc0_experts (F := F) := by
  delta Cert.Experts.cc0_experts Cert.ExpertsIdeal.cc0_experts
  rfl

theorem body_eq : (Cert.Experts.defs₀ (F := F)) = Cert.ExpertsIdeal.defs₀ (F := F) := by
  delta Cert.Experts.defs₀ Cert.ExpertsIdeal.defs₀
  refine congrArg Defs.onTc (funext fun x => funext fun y => ?_)
  match x, y with
  | 0, (t, s) =>
    dsimp only
    rw [kernel_eq]
    rfl
  | ⟨n + 1, h⟩, _ => exact absurd h (Nat.not_lt.2 (Nat.le_add_left _ _))

theorem defs_eq : (Cert.Experts.defs (F := F)) = Cert.ExpertsIdeal.defs (F := F) :=
  congrArg (Pipeline.defs (Cert.ExpertsIdeal.pcfgs (F := F))) body_eq

set_option maxHeartbeats 1000000 in
theorem main_eq : (Cert.Experts.main (F := F)) = Cert.ExpertsIdeal.main (F := F) := rfl

theorem frame : Cert.quiescent_Experts := fun m g hp => by
  have hr := Cert.Pre_experts_in_range.Read.in_range (hp 0)
  rw [defs_eq, main_eq]
  exact Cert.ExpertsIdeal.Run.frame (F := Bits) m g (Cert.ExpertsIdeal.Run.ok_of m hr.1 hr.2)

end Cert.Experts.Run

end
-- ==== Proof.Moe.lean ====
module

public import Idealize.ShloMosaic.Lib.Pointwise

@[expose] public section

noncomputable section

/-! The mathematics of one row of one expert, over the extended reals: what the kernel's blocks and the reference's are both
    read as. -/

namespace Cert.Moe

open Idealize.ShloMosaic

/-- A row times a column of the expert's matrix, plus the column's bias. -/
def lin (x w : Fin 1024 → EReal) (b : EReal) : EReal := (∑ k, x k * w k) + b

/-- The gate's and the linear half's clamped activation. -/
def swiglu (g l : EReal) : EReal :=
  min g (Ideal.ofBits FTy.f32 1088421888#32) * Ideal.logistic (Ideal.ofBits FTy.f32 1071242019#32 * min g (Ideal.ofBits FTy.f32 1088421888#32))
    * (min (Ideal.ofBits FTy.f32 1088421888#32) (max (Ideal.ofBits FTy.f32 3235905536#32) l) + 1)

/-- A row's activations. -/
def acts (x : Fin 1024 → EReal) (wu : Fin 1024 → Fin 2048 → EReal) (bu : Fin 2048 → EReal) (f : Fin 1024) : EReal :=
  swiglu (lin x (fun k => wu k ⟨f.val, by omega⟩) (bu ⟨f.val, by omega⟩)) (lin x (fun k => wu k ⟨1024 + f.val, by omega⟩) (bu ⟨1024 + f.val, by omega⟩))

/-- A row's output. -/
def row (x : Fin 1024 → EReal) (wu : Fin 1024 → Fin 2048 → EReal) (bu : Fin 2048 → EReal) (wd : Fin 1024 → Fin 1024 → EReal) (bd : Fin 1024 → EReal) (o : Fin 1024) : EReal :=
  lin (acts x wu bu) (fun f => wd f o) (bd o)

/-- The number a word holds for column `k` of its row: the low half's for the first 512 columns, the high half's for the
    others. -/
def half (k : Fin 1024) (b : BitVec 32) : EReal :=
  if k.val < 512 then Ideal.ofBits FTy.f32 (b <<< 16#32) else Ideal.ofBits FTy.f32 (b &&& 4294901760#32)

theorem lin_congr {x x' w w' : Fin 1024 → EReal} {b b' : EReal} (hx : ∀ k, x k = x' k) (hw : ∀ k, w k = w' k) (hb : b = b') : lin x w b = lin x' w' b' := by
  rw [funext hx, funext hw, hb]

theorem row_congr {x x' : Fin 1024 → EReal} {wu wu' : Fin 1024 → Fin 2048 → EReal} {bu bu' : Fin 2048 → EReal} {wd wd' : Fin 1024 → Fin 1024 → EReal} {bd bd' : Fin 1024 → EReal} {o o' : Fin 1024}
    (hx : ∀ k, x k = x' k) (hwu : ∀ k f, wu k f = wu' k f) (hbu : ∀ f, bu f = bu' f) (hwd : ∀ k f, wd k f = wd' k f) (hbd : ∀ f, bd f = bd' f) (ho : o = o') :
    row x wu bu wd bd o = row x' wu' bu' wd' bd' o' := by
  rw [funext hx, funext fun k => funext (hwu k), funext hbu, funext fun k => funext (hwd k), funext hbd, ho]

end Cert.Moe

end
-- ==== Proof.ExpertsIdealValue.lean ====
module

public import proofs.«01_k».proof.Proof.ExpertsIdealFrame
public import proofs.«01_k».proof.Proof.Moe
public import Idealize.ShloMosaic.Lib.Pointwise
public import Idealize.ShloMosaic.Lib.Pointwise.Index

@[expose] public section

set_option maxRecDepth 16384

noncomputable section

/-! The kernel's blocks at the extended reals, element by element. -/

namespace Cert.ExpertsIdeal.Val

open Idealize.ShloMosaic Idealize.ShloMosaic.TcCoe Idealize.ShloMosaic.Tactic
open Cert.ExpertsIdeal.Gen
open Cert.ExpertsIdeal.Run
open Cert.Moe

theorem part_at {s : Shape} {e : EltTy} {off size : Fin s.rank → ℕ} {inb : ∀ a, off a + size a ≤ s.size a} {w : s.Idx → Elt Ideal e}
    {y : (Rect.unit (s := s) off size inb).toLoadRect.shape.Idx} {z : s.Idx} (h : ∀ a, off a + (y a).val = (z a).val) : part (F := Ideal) off size inb w y = w z :=
  congrArg w (funext fun a => Fin.ext (by show off a + 1 * (y a).val = _; rw [Nat.one_mul]; exact h a))

/-! ## The stretches of the activations and of the outputs -/

section
variable (x : Vec Ideal S544x1024 .bf16) (w v : Vec Ideal S1024x256 .bf16) (p q : Vec Ideal S1x1x256 .f32) (s : Fin 544)

/-- What a column of a stretch of the activations is. -/
abbrev actCol (j : Fin 256) : EReal :=
  swiglu (lin (fun k => x (ix2 s k)) (fun k => w (ix2 k j)) (p (ix3 0 0 j))) (lin (fun k => x (ix2 s k)) (fun k => v (ix2 k j)) (q (ix3 0 0 j)))

theorem act0 (j : Fin 256) : k0_pay17 (F := Ideal) x w p x v q (ix2 s j) = actCol x w v p q s j := by
  pointwise [k0_pay17, dot_S544x1024_S1024x256_S544x256_1_0_0_1_n_n]
  try rfl
theorem act1 (j : Fin 256) : k0_pay19 (F := Ideal) (k0_pay18 x w) p x v q (ix2 s j) = actCol x w v p q s j := by
  pointwise [k0_pay19, k0_pay18, dot_S544x1024_S1024x256_S544x256_1_0_0_1_n_n]
  try rfl
theorem act2 (j : Fin 256) : k0_pay22 (F := Ideal) (k0_pay20 x w) (k0_pay21 p) x v q (ix2 s j) = actCol x w v p q s j := by
  pointwise [k0_pay22, k0_pay20, k0_pay21, dot_S544x1024_S1024x256_S544x256_1_0_0_1_n_n]
  try rfl
theorem act3 (j : Fin 256) : k0_pay24 (F := Ideal) (k0_pay23 x w p) x v q (ix2 s j) = actCol x w v p q s j := by
  pointwise [k0_pay24, k0_pay23, dot_S544x1024_S1024x256_S544x256_1_0_0_1_n_n]
  try rfl
theorem out0 (j : Fin 128) : k0_pay28 (F := Ideal) (k0_pay25 x w p) (ix2 s j) = lin (fun k => x (ix2 s k)) (fun k => w (ix2 k ⟨j.val, by omega⟩)) (p (ix3 0 0 ⟨j.val, by omega⟩)) := by
  pointwise [k0_pay28, k0_pay25, dot_S544x1024_S1024x256_S544x256_1_0_0_1_n_n]
  try rfl
theorem out1 (j : Fin 128) : k0_pay30 (F := Ideal) (k0_pay25 x w p) (ix2 s j) = lin (fun k => x (ix2 s k)) (fun k => w (ix2 k ⟨128 + j.val, by omega⟩)) (p (ix3 0 0 ⟨128 + j.val, by omega⟩)) := by
  pointwise [k0_pay30, k0_pay25, dot_S544x1024_S1024x256_S544x256_1_0_0_1_n_n]
  try rfl
theorem out2 (j : Fin 128) : k0_pay1 (F := Ideal) (k0_pay32 x w p) (ix2 s j) = lin (fun k => x (ix2 s k)) (fun k => w (ix2 k ⟨j.val, by omega⟩)) (p (ix3 0 0 ⟨j.val, by omega⟩)) := by
  pointwise [k0_pay1, k0_pay32, dot_S544x1024_S1024x256_S544x256_1_0_0_1_n_n]
  try rfl
theorem out3 (j : Fin 128) : k0_pay3 (F := Ideal) (k0_pay32 x w p) (ix2 s j) = lin (fun k => x (ix2 s k)) (fun k => w (ix2 k ⟨128 + j.val, by omega⟩)) (p (ix3 0 0 ⟨128 + j.val, by omega⟩)) := by
  pointwise [k0_pay3, k0_pay32, dot_S544x1024_S1024x256_S544x256_1_0_0_1_n_n]
  try rfl
theorem out4 (j : Fin 128) : k0_pay29 (F := Ideal) (k0_pay26 x w) p (ix2 s j) = lin (fun k => x (ix2 s k)) (fun k => w (ix2 k ⟨j.val, by omega⟩)) (p (ix3 0 0 ⟨j.val, by omega⟩)) := by
  pointwise [k0_pay29, k0_pay27, k0_pay26, dot_S544x1024_S1024x256_S544x256_1_0_0_1_n_n]
  try rfl
theorem out5 (j : Fin 128) : k0_pay31 (F := Ideal) (k0_pay26 x w) p (ix2 s j) = lin (fun k => x (ix2 s k)) (fun k => w (ix2 k ⟨128 + j.val, by omega⟩)) (p (ix3 0 0 ⟨128 + j.val, by omega⟩)) := by
  pointwise [k0_pay31, k0_pay27, k0_pay26, dot_S544x1024_S1024x256_S544x256_1_0_0_1_n_n]
  try rfl
theorem out6 (j : Fin 128) : k0_pay2 (F := Ideal) (k0_pay33 x w p) (ix2 s j) = lin (fun k => x (ix2 s k)) (fun k => w (ix2 k ⟨j.val, by omega⟩)) (p (ix3 0 0 ⟨j.val, by omega⟩)) := by
  pointwise [k0_pay2, k0_pay33, dot_S544x1024_S1024x256_S544x256_1_0_0_1_n_n]
  try rfl
theorem out7 (j : Fin 128) : k0_pay4 (F := Ideal) (k0_pay33 x w p) (ix2 s j) = lin (fun k => x (ix2 s k)) (fun k => w (ix2 k ⟨128 + j.val, by omega⟩)) (p (ix3 0 0 ⟨128 + j.val, by omega⟩)) := by
  pointwise [k0_pay4, k0_pay33, dot_S544x1024_S1024x256_S544x256_1_0_0_1_n_n]
  try rfl
theorem word0 (u : Vec Ideal S544x128 .i32) (y : S544x128.Idx) : k0_pay8 (F := Ideal) u y = Ideal.ofBits FTy.f32 (u y <<< 16#32) := by
  pointwise [k0_pay8]
  try rfl
theorem word1 (u : Vec Ideal S544x128 .i32) (y : S544x128.Idx) : k0_pay10 (F := Ideal) u y = Ideal.ofBits FTy.f32 (u y <<< 16#32) := by
  pointwise [k0_pay10]
  try rfl
theorem word2 (u : Vec Ideal S544x128 .i32) (y : S544x128.Idx) : k0_pay13 (F := Ideal) u y = Ideal.ofBits FTy.f32 (u y <<< 16#32) := by
  pointwise [k0_pay13]
  try rfl
theorem word3 (u : Vec Ideal S544x128 .i32) (y : S544x128.Idx) : k0_pay15 (F := Ideal) u y = Ideal.ofBits FTy.f32 (u y <<< 16#32) := by
  pointwise [k0_pay15]
  try rfl
theorem word4 (u : Vec Ideal S544x128 .i32) (y : S544x128.Idx) : k0_pay9 (F := Ideal) u y = Ideal.ofBits FTy.f32 (u y &&& 4294901760#32) := by
  pointwise [k0_pay9]
  try rfl
theorem word5 (u : Vec Ideal S544x128 .i32) (y : S544x128.Idx) : k0_pay12 (F := Ideal) (k0_pay11 u) y = Ideal.ofBits FTy.f32 (u y &&& 4294901760#32) := by
  pointwise [k0_pay12, k0_pay11]
  try rfl
theorem word6 (u : Vec Ideal S544x128 .i32) (y : S544x128.Idx) : k0_pay14 (F := Ideal) u y = Ideal.ofBits FTy.f32 (u y &&& 4294901760#32) := by
  pointwise [k0_pay14]
  try rfl
theorem word7 (u : Vec Ideal S544x128 .i32) (y : S544x128.Idx) : k0_pay16 (F := Ideal) u y = Ideal.ofBits FTy.f32 (u y &&& 4294901760#32) := by
  pointwise [k0_pay16]
  try rfl
end

/-! ## A point's block -/

/-- A stretch of the words, read at an index. -/
theorem wpart_at {o : ℕ} {inb : ∀ a, S544x128.size a = 0 ∨ (![o, 0] : Fin 2 → Nat) a + (![4, 1] : Fin 2 → Nat) a * (S544x128.size a - 1) < S2176x128.size a} (x : S2176x128.Idx → Elt Ideal .i32)
    (y : S544x128.Idx) (z : S2176x128.Idx) (h0 : o + 4 * (y 0).val = (z 0).val) (h1 : (y 1).val = (z 1).val) : wpart (F := Ideal) o inb x y = x z :=
  congrArg x (funext fun a => Fin.ext (by
    match a with
    | ⟨0, _⟩ => exact h0
    | ⟨1, _⟩ => exact (show 0 + 1 * (y 1).val = (z 1).val by omega)))

theorem xOf_at (x : S2176x128.Idx → Elt Ideal .i32) (s : Fin 544) (k : Fin 1024) :
    xOf x (ix2 s k) = half k (x (ix2 ⟨s.val * 4 + k.val % 512 / 128, by omega⟩ ⟨k.val % 128, by omega⟩)) := by
  unfold xOf half
  by_cases c0 : k.val < 128
  · rw [if_pos (by omega)]
    exact (cols8_at _ _ _ _ _ _ _ _ 0 (ix2 s k) (ix2 s ⟨k.val - 0, by omega⟩) rfl (by show k.val = 128 * 0 + (k.val - 0); omega)).trans
      ((word0 _ _).trans (congrArg (fun b : BitVec 32 => Ideal.ofBits FTy.f32 (b <<< 16#32))
        (wpart_at x _ _ (by show 0 + 4 * s.val = s.val * 4 + k.val % 512 / 128; omega) (by show k.val - 0 = k.val % 128; omega))))
  by_cases c1 : k.val < 256
  · rw [if_pos (by omega)]
    exact (cols8_at _ _ _ _ _ _ _ _ 1 (ix2 s k) (ix2 s ⟨k.val - 128, by omega⟩) rfl (by show k.val = 128 * 1 + (k.val - 128); omega)).trans
      ((word1 _ _).trans (congrArg (fun b : BitVec 32 => Ideal.ofBits FTy.f32 (b <<< 16#32))
        (wpart_at x _ _ (by show 1 + 4 * s.val = s.val * 4 + k.val % 512 / 128; omega) (by show k.val - 128 = k.val % 128; omega))))
  by_cases c2 : k.val < 384
  · rw [if_pos (by omega)]
    exact (cols8_at _ _ _ _ _ _ _ _ 2 (ix2 s k) (ix2 s ⟨k.val - 256, by omega⟩) rfl (by show k.val = 128 * 2 + (k.val - 256); omega)).trans
      ((word2 _ _).trans (congrArg (fun b : BitVec 32 => Ideal.ofBits FTy.f32 (b <<< 16#32))
        (wpart_at x _ _ (by show 2 + 4 * s.val = s.val * 4 + k.val % 512 / 128; omega) (by show k.val - 256 = k.val % 128; omega))))
  by_cases c3 : k.val < 512
  · rw [if_pos (by omega)]
    exact (cols8_at _ _ _ _ _ _ _ _ 3 (ix2 s k) (ix2 s ⟨k.val - 384, by omega⟩) rfl (by show k.val = 128 * 3 + (k.val - 384); omega)).trans
      ((word3 _ _).trans (congrArg (fun b : BitVec 32 => Ideal.ofBits FTy.f32 (b <<< 16#32))
        (wpart_at x _ _ (by show 3 + 4 * s.val = s.val * 4 + k.val % 512 / 128; omega) (by show k.val - 384 = k.val % 128; omega))))
  by_cases c4 : k.val < 640
  · rw [if_neg (by omega)]
    exact (cols8_at _ _ _ _ _ _ _ _ 4 (ix2 s k) (ix2 s ⟨k.val - 512, by omega⟩) rfl (by show k.val = 128 * 4 + (k.val - 512); omega)).trans
      ((word4 _ _).trans (congrArg (fun b : BitVec 32 => Ideal.ofBits FTy.f32 (b &&& 4294901760#32))
        (wpart_at x _ _ (by show 0 + 4 * s.val = s.val * 4 + k.val % 512 / 128; omega) (by show k.val - 512 = k.val % 128; omega))))
  by_cases c5 : k.val < 768
  · rw [if_neg (by omega)]
    exact (cols8_at _ _ _ _ _ _ _ _ 5 (ix2 s k) (ix2 s ⟨k.val - 640, by omega⟩) rfl (by show k.val = 128 * 5 + (k.val - 640); omega)).trans
      ((word5 _ _).trans (congrArg (fun b : BitVec 32 => Ideal.ofBits FTy.f32 (b &&& 4294901760#32))
        (wpart_at x _ _ (by show 1 + 4 * s.val = s.val * 4 + k.val % 512 / 128; omega) (by show k.val - 640 = k.val % 128; omega))))
  by_cases c6 : k.val < 896
  · rw [if_neg (by omega)]
    exact (cols8_at _ _ _ _ _ _ _ _ 6 (ix2 s k) (ix2 s ⟨k.val - 768, by omega⟩) rfl (by show k.val = 128 * 6 + (k.val - 768); omega)).trans
      ((word6 _ _).trans (congrArg (fun b : BitVec 32 => Ideal.ofBits FTy.f32 (b &&& 4294901760#32))
        (wpart_at x _ _ (by show 2 + 4 * s.val = s.val * 4 + k.val % 512 / 128; omega) (by show k.val - 768 = k.val % 128; omega))))
  rw [if_neg (by omega)]
  exact (cols8_at _ _ _ _ _ _ _ _ 7 (ix2 s k) (ix2 s ⟨k.val - 896, by omega⟩) rfl (by show k.val = 128 * 7 + (k.val - 896); omega)).trans
      ((word7 _ _).trans (congrArg (fun b : BitVec 32 => Ideal.ofBits FTy.f32 (b &&& 4294901760#32))
        (wpart_at x _ _ (by show 3 + 4 * s.val = s.val * 4 + k.val % 512 / 128; omega) (by show k.val - 896 = k.val % 128; omega))))

theorem actOf_at (x : S544x1024.Idx → Elt Ideal .bf16) (wu : S1024x2048.Idx → Elt Ideal .bf16) (bu : S1x1x2048.Idx → Elt Ideal .f32) (s : Fin 544) (f : Fin 1024) :
    actOf x wu bu (ix2 s f) = acts (fun k => x (ix2 s k)) (fun k j => wu (ix2 k j)) (fun j => bu (ix3 0 0 j)) f := by
  have hf : f.val < 1024 := f.isLt
  unfold actOf actP acts
  by_cases c0 : f.val < 256
  · refine (cols4_at _ _ _ _ 0 (ix2 s f) (ix2 s ⟨f.val - 0, by omega⟩) rfl (by show f.val = 256 * 0 + (f.val - 0); omega)).trans ?_
    refine (act0 _ _ _ _ _ s _).trans ?_
    refine congrArg₂ swiglu (lin_congr (fun _ => rfl) (fun k => (part_at fun a => by
        match a with
        | ⟨0, _⟩ => exact Nat.zero_add _
        | ⟨1, _⟩ => show 0 + (f.val - 0) = f.val; omega)) (part_at fun a => by
        match a with
        | ⟨0, _⟩ => rfl
        | ⟨1, _⟩ => rfl
        | ⟨2, _⟩ => show 0 + (f.val - 0) = f.val; omega)) (lin_congr (fun _ => rfl) (fun k => (part_at fun a => by
        match a with
        | ⟨0, _⟩ => exact Nat.zero_add _
        | ⟨1, _⟩ => show 1024 + (f.val - 0) = 1024 + f.val; omega)) (part_at fun a => by
        match a with
        | ⟨0, _⟩ => rfl
        | ⟨1, _⟩ => rfl
        | ⟨2, _⟩ => show 1024 + (f.val - 0) = 1024 + f.val; omega))
  by_cases c1 : f.val < 512
  · refine (cols4_at _ _ _ _ 1 (ix2 s f) (ix2 s ⟨f.val - 256, by omega⟩) rfl (by show f.val = 256 * 1 + (f.val - 256); omega)).trans ?_
    refine (act1 _ _ _ _ _ s _).trans ?_
    refine congrArg₂ swiglu (lin_congr (fun _ => rfl) (fun k => (part_at fun a => by
        match a with
        | ⟨0, _⟩ => exact Nat.zero_add _
        | ⟨1, _⟩ => show 256 + (f.val - 256) = f.val; omega)) (part_at fun a => by
        match a with
        | ⟨0, _⟩ => rfl
        | ⟨1, _⟩ => rfl
        | ⟨2, _⟩ => show 256 + (f.val - 256) = f.val; omega)) (lin_congr (fun _ => rfl) (fun k => (part_at fun a => by
        match a with
        | ⟨0, _⟩ => exact Nat.zero_add _
        | ⟨1, _⟩ => show 1280 + (f.val - 256) = 1024 + f.val; omega)) (part_at fun a => by
        match a with
        | ⟨0, _⟩ => rfl
        | ⟨1, _⟩ => rfl
        | ⟨2, _⟩ => show 1280 + (f.val - 256) = 1024 + f.val; omega))
  by_cases c2 : f.val < 768
  · refine (cols4_at _ _ _ _ 2 (ix2 s f) (ix2 s ⟨f.val - 512, by omega⟩) rfl (by show f.val = 256 * 2 + (f.val - 512); omega)).trans ?_
    refine (act2 _ _ _ _ _ s _).trans ?_
    refine congrArg₂ swiglu (lin_congr (fun _ => rfl) (fun k => (part_at fun a => by
        match a with
        | ⟨0, _⟩ => exact Nat.zero_add _
        | ⟨1, _⟩ => show 512 + (f.val - 512) = f.val; omega)) (part_at fun a => by
        match a with
        | ⟨0, _⟩ => rfl
        | ⟨1, _⟩ => rfl
        | ⟨2, _⟩ => show 512 + (f.val - 512) = f.val; omega)) (lin_congr (fun _ => rfl) (fun k => (part_at fun a => by
        match a with
        | ⟨0, _⟩ => exact Nat.zero_add _
        | ⟨1, _⟩ => show 1536 + (f.val - 512) = 1024 + f.val; omega)) (part_at fun a => by
        match a with
        | ⟨0, _⟩ => rfl
        | ⟨1, _⟩ => rfl
        | ⟨2, _⟩ => show 1536 + (f.val - 512) = 1024 + f.val; omega))
  refine (cols4_at _ _ _ _ 3 (ix2 s f) (ix2 s ⟨f.val - 768, by omega⟩) rfl (by show f.val = 256 * 3 + (f.val - 768); omega)).trans ?_
  refine (act3 _ _ _ _ _ s _).trans ?_
  refine congrArg₂ swiglu (lin_congr (fun _ => rfl) (fun k => (part_at fun a => by
        match a with
        | ⟨0, _⟩ => exact Nat.zero_add _
        | ⟨1, _⟩ => show 768 + (f.val - 768) = f.val; omega)) (part_at fun a => by
        match a with
        | ⟨0, _⟩ => rfl
        | ⟨1, _⟩ => rfl
        | ⟨2, _⟩ => show 768 + (f.val - 768) = f.val; omega)) (lin_congr (fun _ => rfl) (fun k => (part_at fun a => by
        match a with
        | ⟨0, _⟩ => exact Nat.zero_add _
        | ⟨1, _⟩ => show 1792 + (f.val - 768) = 1024 + f.val; omega)) (part_at fun a => by
        match a with
        | ⟨0, _⟩ => rfl
        | ⟨1, _⟩ => rfl
        | ⟨2, _⟩ => show 1792 + (f.val - 768) = 1024 + f.val; omega))

theorem outOf_at (x : S544x1024.Idx → Elt Ideal .bf16) (wd : S1024x1024.Idx → Elt Ideal .bf16) (bd : S1x1x1024.Idx → Elt Ideal .f32) (s : Fin 544) (f : Fin 1024) :
    outOf x wd bd (ix2 s f) = lin (fun k => x (ix2 s k)) (fun k => wd (ix2 k f)) (bd (ix3 0 0 f)) := by
  have hf : f.val < 1024 := f.isLt
  unfold outOf outP
  by_cases c0 : f.val < 128
  · refine (cols8_at _ _ _ _ _ _ _ _ 0 (ix2 s f) (ix2 s ⟨f.val - 0, by omega⟩) rfl (by show f.val = 128 * 0 + (f.val - 0); omega)).trans ?_
    refine (out0 _ _ _ s _).trans ?_
    refine lin_congr (fun _ => rfl) (fun k => (part_at fun a => by
        match a with
        | ⟨0, _⟩ => exact Nat.zero_add _
        | ⟨1, _⟩ => show 0 + (f.val - 0) = f.val; omega)) (part_at fun a => by
        match a with
        | ⟨0, _⟩ => rfl
        | ⟨1, _⟩ => rfl
        | ⟨2, _⟩ => show 0 + (f.val - 0) = f.val; omega)
  by_cases c1 : f.val < 256
  · refine (cols8_at _ _ _ _ _ _ _ _ 1 (ix2 s f) (ix2 s ⟨f.val - 128, by omega⟩) rfl (by show f.val = 128 * 1 + (f.val - 128); omega)).trans ?_
    refine (out1 _ _ _ s _).trans ?_
    refine lin_congr (fun _ => rfl) (fun k => (part_at fun a => by
        match a with
        | ⟨0, _⟩ => exact Nat.zero_add _
        | ⟨1, _⟩ => show 0 + (128 + (f.val - 128)) = f.val; omega)) (part_at fun a => by
        match a with
        | ⟨0, _⟩ => rfl
        | ⟨1, _⟩ => rfl
        | ⟨2, _⟩ => show 0 + (128 + (f.val - 128)) = f.val; omega)
  by_cases c2 : f.val < 384
  · refine (cols8_at _ _ _ _ _ _ _ _ 2 (ix2 s f) (ix2 s ⟨f.val - 256, by omega⟩) rfl (by show f.val = 128 * 2 + (f.val - 256); omega)).trans ?_
    refine (out2 _ _ _ s _).trans ?_
    refine lin_congr (fun _ => rfl) (fun k => (part_at fun a => by
        match a with
        | ⟨0, _⟩ => exact Nat.zero_add _
        | ⟨1, _⟩ => show 256 + (f.val - 256) = f.val; omega)) (part_at fun a => by
        match a with
        | ⟨0, _⟩ => rfl
        | ⟨1, _⟩ => rfl
        | ⟨2, _⟩ => show 256 + (f.val - 256) = f.val; omega)
  by_cases c3 : f.val < 512
  · refine (cols8_at _ _ _ _ _ _ _ _ 3 (ix2 s f) (ix2 s ⟨f.val - 384, by omega⟩) rfl (by show f.val = 128 * 3 + (f.val - 384); omega)).trans ?_
    refine (out3 _ _ _ s _).trans ?_
    refine lin_congr (fun _ => rfl) (fun k => (part_at fun a => by
        match a with
        | ⟨0, _⟩ => exact Nat.zero_add _
        | ⟨1, _⟩ => show 256 + (128 + (f.val - 384)) = f.val; omega)) (part_at fun a => by
        match a with
        | ⟨0, _⟩ => rfl
        | ⟨1, _⟩ => rfl
        | ⟨2, _⟩ => show 256 + (128 + (f.val - 384)) = f.val; omega)
  by_cases c4 : f.val < 640
  · refine (cols8_at _ _ _ _ _ _ _ _ 4 (ix2 s f) (ix2 s ⟨f.val - 512, by omega⟩) rfl (by show f.val = 128 * 4 + (f.val - 512); omega)).trans ?_
    refine (out4 _ _ _ s _).trans ?_
    refine lin_congr (fun _ => rfl) (fun k => (part_at fun a => by
        match a with
        | ⟨0, _⟩ => exact Nat.zero_add _
        | ⟨1, _⟩ => show 512 + (f.val - 512) = f.val; omega)) (part_at fun a => by
        match a with
        | ⟨0, _⟩ => rfl
        | ⟨1, _⟩ => rfl
        | ⟨2, _⟩ => show 512 + (f.val - 512) = f.val; omega)
  by_cases c5 : f.val < 768
  · refine (cols8_at _ _ _ _ _ _ _ _ 5 (ix2 s f) (ix2 s ⟨f.val - 640, by omega⟩) rfl (by show f.val = 128 * 5 + (f.val - 640); omega)).trans ?_
    refine (out5 _ _ _ s _).trans ?_
    refine lin_congr (fun _ => rfl) (fun k => (part_at fun a => by
        match a with
        | ⟨0, _⟩ => exact Nat.zero_add _
        | ⟨1, _⟩ => show 512 + (128 + (f.val - 640)) = f.val; omega)) (part_at fun a => by
        match a with
        | ⟨0, _⟩ => rfl
        | ⟨1, _⟩ => rfl
        | ⟨2, _⟩ => show 512 + (128 + (f.val - 640)) = f.val; omega)
  by_cases c6 : f.val < 896
  · refine (cols8_at _ _ _ _ _ _ _ _ 6 (ix2 s f) (ix2 s ⟨f.val - 768, by omega⟩) rfl (by show f.val = 128 * 6 + (f.val - 768); omega)).trans ?_
    refine (out6 _ _ _ s _).trans ?_
    refine lin_congr (fun _ => rfl) (fun k => (part_at fun a => by
        match a with
        | ⟨0, _⟩ => exact Nat.zero_add _
        | ⟨1, _⟩ => show 768 + (f.val - 768) = f.val; omega)) (part_at fun a => by
        match a with
        | ⟨0, _⟩ => rfl
        | ⟨1, _⟩ => rfl
        | ⟨2, _⟩ => show 768 + (f.val - 768) = f.val; omega)
  refine (cols8_at _ _ _ _ _ _ _ _ 7 (ix2 s f) (ix2 s ⟨f.val - 896, by omega⟩) rfl (by show f.val = 128 * 7 + (f.val - 896); omega)).trans ?_
  refine (out7 _ _ _ s _).trans ?_
  refine lin_congr (fun _ => rfl) (fun k => (part_at fun a => by
        match a with
        | ⟨0, _⟩ => exact Nat.zero_add _
        | ⟨1, _⟩ => show 768 + (128 + (f.val - 896)) = f.val; omega)) (part_at fun a => by
        match a with
        | ⟨0, _⟩ => rfl
        | ⟨1, _⟩ => rfl
        | ⟨2, _⟩ => show 768 + (128 + (f.val - 896)) = f.val; omega)

theorem pay6_at (x : Vec Ideal S1x1024x2048 .f32) (k : Fin 1024) (j : Fin 2048) : k0_pay6 (F := Ideal) x (ix2 k j) = x (ix3 0 k j) := by
  pointwise [k0_pay6]
  try rfl
theorem pay7_at (x : Vec Ideal S1x1024x1024 .f32) (k : Fin 1024) (j : Fin 1024) : k0_pay7 (F := Ideal) x (ix2 k j) = x (ix3 0 k j) := by
  pointwise [k0_pay7]
  try rfl
theorem pay5_at (y : S544x1024.Idx) : k0_pay5 (F := Ideal) y = (0 : EReal) := by
  pointwise [k0_pay5]
  try rfl

end Cert.ExpertsIdeal.Val

end
-- ==== Proof.BlocksValue.lean ====
module

public import proofs.«01_k».proof.Proof.Gen.BlocksIdeal.Run
public import proofs.«01_k».proof.Proof.Moe
public import Idealize.ShloMosaic.Lib.Pointwise
public import Idealize.ShloMosaic.Lib.Pointwise.Index

@[expose] public section

set_option maxRecDepth 16384

noncomputable section

namespace Cert.BlocksIdeal.Blocks

open Idealize.ShloMosaic Idealize.ShloMosaic.TcCoe
open Cert.BlocksIdeal.Gen Cert.BlocksIdeal.Value
open Cert.Moe

/-! The reference's own expressions, in the steps it takes them. -/

section
variable {F : FTy → Type} [FloatOps F]

/-- The experts, a negative one counted from the end. -/
def idxR (b : IVec S154 32) : IVec S154 32 := (select (cmpi .slt b (broadcastInDim S154 ![] bcast_S_S154 (constantI S_ 32 0#32))) (addi b (broadcastInDim S154 ![] bcast_S_S154 (constantI S_ 32 32#32))) b)

/-- Where each block's matrix of the first product starts. -/
def st3U (b : IVec S154 32) : S154x3.Idx → BitVec 32 := (concatenate S154x3 1 [⟨S154x1, ((broadcastInDim S154x1 ![0] bcast_S154_S154x1_0 (idxR b)) : IVec S154x1 32)⟩, ⟨S154x1, ((broadcastInDim S154x1 ![] bcast_S_S154x1 (select (cmpi .slt (constantI S_ 32 0#32) (constantI S_ 32 0#32)) (addi (constantI S_ 32 0#32) (constantI S_ 32 1024#32)) (constantI S_ 32 0#32))) : IVec S154x1 32)⟩, ⟨S154x1, ((broadcastInDim S154x1 ![] bcast_S_S154x1 (select (cmpi .slt (constantI S_ 32 0#32) (constantI S_ 32 0#32)) (addi (constantI S_ 32 0#32) (constantI S_ 32 2048#32)) (constantI S_ 32 0#32))) : IVec S154x1 32)⟩] concatenates_S154x1_S154x1_S154x1_S154x3_d1 : IVec S154x3 32)

/-- Where each block's biases of the first product start. -/
def st2U (b : IVec S154 32) : S154x2.Idx → BitVec 32 := (concatenate S154x2 1 [⟨S154x1, (broadcastInDim S154x1 ![0] bcast_S154_S154x1_0 (idxR b))⟩, ⟨S154x1, (broadcastInDim S154x1 ![] bcast_S_S154x1 (select (cmpi .slt (constantI S_ 32 0#32) (constantI S_ 32 0#32)) (addi (constantI S_ 32 0#32) (constantI S_ 32 2048#32)) (constantI S_ 32 0#32)))⟩] concatenates_S154x1_S154x1_S154x2_d1)

/-- Each block's matrix of the first product. -/
def upW (b : IVec S154 32) (wu : FVec F S1x32x1024x2048 .f32) : S154x1024x2048.Idx → F .f32 := (shapeCast _ (Host.gather gather_S32x1024x2048_S154x3_S154x1x1024x2048_123_n_n_n_012_1_110242048 (shapeCast _ wu shapeCasts_S1x32x1024x2048_S32x1024x2048) ((st3U b))) shapeCasts_S154x1x1024x2048_S154x1024x2048)

/-- Each block's biases of the first product. -/
def upB (b : IVec S154 32) (bu : FVec F S1x32x2048 .f32) : S154x2048.Idx → F .f32 := (shapeCast _ (Host.gather gather_S32x2048_S154x2_S154x1x2048_12_n_n_n_01_1_12048 (shapeCast _ bu shapeCasts_S1x32x2048_S32x2048) (st2U b)) shapeCasts_S154x1x2048_S154x2048)

/-- The low halves of all words, a row's 512 side by side. -/
def lowR (x : IVec S335104x128 32) : S83776x512.Idx → F .f32 := shapeCast _ (bitcastToFloat (F := F) .f32 (Host.shli x (broadcastInDim S335104x128 ![] bcast_S_S335104x128 (constantI S_ 32 16#32)))) shapeCasts_S335104x128_S83776x512

/-- The high halves of all words, a row's 512 side by side. -/
def highR (x : IVec S335104x128 32) : S83776x512.Idx → F .f32 := shapeCast _ (bitcastToFloat (F := F) .f32 (andi x (broadcastInDim S335104x128 ![] bcast_S_S335104x128 (constantI S_ 32 4294901760#32)))) shapeCasts_S335104x128_S83776x512

/-- The rows, unpacked from their words. -/
def rowsW (x : IVec S335104x128 32) : S83776x1024.Idx → F .f32 := concatenate S83776x1024 1 [⟨S83776x512, (lowR x : S83776x512.Idx → F .f32)⟩, ⟨S83776x512, (highR x : S83776x512.Idx → F .f32)⟩] concatenates_S83776x512_S83776x512_S83776x1024_d1

/-- The hidden rows of all blocks. -/
def hidR (b : IVec S154 32) (x : IVec S335104x128 32) (wu : FVec F S1x32x1024x2048 .f32) (bu : FVec F S1x32x2048 .f32) : S154x544x2048.Idx → F .f32 := (addf (Host.dotGeneral dot_S154x544x1024_S154x1024x2048_S154x544x2048_2_1_1_2_0_0 none (shapeCast _ (rowsW x) shapeCasts_S83776x1024_S154x544x1024) (upW b wu)) (broadcastInDim S154x544x2048 ![0, 1, 2] bcast_S154x1x2048_S154x544x2048_0_1_2 (broadcastInDim S154x1x2048 ![0, 2] bcast_S154x2048_S154x1x2048_0_2 (upB b bu))))

/-- The activations of all blocks. -/
def actR (b : IVec S154 32) (x : IVec S335104x128 32) (wu : FVec F S1x32x1024x2048 .f32) (bu : FVec F S1x32x2048 .f32) : S154x544x1024.Idx → F .f32 := (mulf (mulf (minimumf (extractStridedSlice S154x544x1024 ![0, 0, 0] (hidR b x wu bu) slices_S154x544x2048_S154x544x1024_0_0_0) (broadcastInDim S154x544x1024 ![] bcast_S_S154x544x1024 (constant S_ .f32 0x40E00000#32))) (Host.divf (broadcastInDim S154x544x1024 ![] bcast_S_S154x544x1024 (constant S_ .f32 0x3F800000#32)) (addf (broadcastInDim S154x544x1024 ![] bcast_S_S154x544x1024 (constant S_ .f32 0x3F800000#32)) (Host.exp (Host.negf (mulf (broadcastInDim S154x544x1024 ![] bcast_S_S154x544x1024 (constant S_ .f32 0x3FD9DB23#32)) (minimumf (extractStridedSlice S154x544x1024 ![0, 0, 0] (hidR b x wu bu) slices_S154x544x2048_S154x544x1024_0_0_0) (broadcastInDim S154x544x1024 ![] bcast_S_S154x544x1024 (constant S_ .f32 0x40E00000#32))))))))) (addf (minimumf (broadcastInDim S154x544x1024 ![] bcast_S_S154x544x1024 (id (constant S_ .f32 0x40E00000#32))) (maximumf (broadcastInDim S154x544x1024 ![] bcast_S_S154x544x1024 (id (constant S_ .f32 0xC0E00000#32))) (extractStridedSlice S154x544x1024 ![0, 0, 1024] (hidR b x wu bu) slices_S154x544x2048_S154x544x1024_0_0_1024))) (broadcastInDim S154x544x1024 ![] bcast_S_S154x544x1024 (constant S_ .f32 0x3F800000#32))))

/-- Where each block's matrix of the second product starts. -/
def st3D (b : IVec S154 32) : S154x3.Idx → BitVec 32 := (concatenate S154x3 1 [⟨S154x1, ((broadcastInDim S154x1 ![0] bcast_S154_S154x1_0 (idxR b)) : IVec S154x1 32)⟩, ⟨S154x1, ((broadcastInDim S154x1 ![] bcast_S_S154x1 (select (cmpi .slt (constantI S_ 32 0#32) (constantI S_ 32 0#32)) (addi (constantI S_ 32 0#32) (constantI S_ 32 1024#32)) (constantI S_ 32 0#32))) : IVec S154x1 32)⟩, ⟨S154x1, ((broadcastInDim S154x1 ![] bcast_S_S154x1 (select (cmpi .slt (constantI S_ 32 0#32) (constantI S_ 32 0#32)) (addi (constantI S_ 32 0#32) (constantI S_ 32 1024#32)) (constantI S_ 32 0#32))) : IVec S154x1 32)⟩] concatenates_S154x1_S154x1_S154x1_S154x3_d1 : IVec S154x3 32)

/-- Where each block's biases of the second product start. -/
def st2D (b : IVec S154 32) : S154x2.Idx → BitVec 32 := (concatenate S154x2 1 [⟨S154x1, (broadcastInDim S154x1 ![0] bcast_S154_S154x1_0 (idxR b))⟩, ⟨S154x1, (broadcastInDim S154x1 ![] bcast_S_S154x1 (select (cmpi .slt (constantI S_ 32 0#32) (constantI S_ 32 0#32)) (addi (constantI S_ 32 0#32) (constantI S_ 32 1024#32)) (constantI S_ 32 0#32)))⟩] concatenates_S154x1_S154x1_S154x2_d1)

/-- Each block's matrix of the second product. -/
def dnW (b : IVec S154 32) (wd : FVec F S1x32x1024x1024 .f32) : S154x1024x1024.Idx → F .f32 := (shapeCast _ (Host.gather gather_S32x1024x1024_S154x3_S154x1x1024x1024_123_n_n_n_012_1_110241024 (shapeCast _ wd shapeCasts_S1x32x1024x1024_S32x1024x1024) ((st3D b))) shapeCasts_S154x1x1024x1024_S154x1024x1024)

/-- Each block's biases of the second product. -/
def dnB (b : IVec S154 32) (bd : FVec F S1x32x1024 .f32) : S154x1024.Idx → F .f32 := (shapeCast _ (Host.gather gather_S32x1024_S154x2_S154x1x1024_12_n_n_n_01_1_11024 (shapeCast _ bd shapeCasts_S1x32x1024_S32x1024) (st2D b)) shapeCasts_S154x1x1024_S154x1024)

/-- The second product of all blocks, with its biases. -/
def rowsR (b : IVec S154 32) (x : IVec S335104x128 32) (wu : FVec F S1x32x1024x2048 .f32) (bu : FVec F S1x32x2048 .f32) (wd : FVec F S1x32x1024x1024 .f32) (bd : FVec F S1x32x1024 .f32) : S154x544x1024.Idx → F .f32 := (addf (Host.dotGeneral dot_S154x544x1024_S154x1024x1024_S154x544x1024_2_1_1_2_0_0 none (actR b x wu bu) (dnW b wd)) (broadcastInDim S154x544x1024 ![0, 1, 2] bcast_S154x1x1024_S154x544x1024_0_1_2 (broadcastInDim S154x1x1024 ![0, 2] bcast_S154x1024_S154x1x1024_0_2 (dnB b bd))))

/-- The result. -/
def resR (b : IVec S154 32) (n : IVec S1 32) (x : IVec S335104x128 32) (wu : FVec F S1x32x1024x2048 .f32) (bu : FVec F S1x32x2048 .f32) (wd : FVec F S1x32x1024x1024 .f32) (bd : FVec F S1x32x1024 .f32) : FVec F S83776x1024 .bf16 := truncf .bf16 (shapeCast _ (select (broadcastInDim S154x544x1024 ![0] bcast_S154_S154x544x1024_0 (cmpi .slt (iotaInDim S154 32 0) (broadcastInDim S154 ![] bcast_S_S154 (shapeCast _ n shapeCasts_S1_S_)))) (rowsR b x wu bu wd bd) (broadcastInDim S154x544x1024 ![1, 2] bcast_S544x1024_S154x544x1024_1_2 (broadcastInDim S544x1024 ![] bcast_S_S544x1024 (id (constant S_ .f32 0x00000000#32))))) shapeCasts_S154x544x1024_S83776x1024) bitsLt_bf16_f32

theorem res_eq (m : (ℓ : Loc nD τ sig) → Buf (Elt F) ℓ) (c : Dev nD) : res_out0 m c = resR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) := rfl

end

section
variable (b : IVec S154 32) (n : IVec S1 32) (x : IVec S335104x128 32) (wu : FVec Ideal S1x32x1024x2048 .f32) (bu : FVec Ideal S1x32x2048 .f32) (wd : FVec Ideal S1x32x1024x1024 .f32) (bd : FVec Ideal S1x32x1024 .f32)
theorem low_at (t : Fin 83776) (j : Fin 512) : lowR (F := Ideal) x (ix2 t j) = Ideal.ofBits FTy.f32 (x (ix2 ⟨t.val * 4 + j.val / 128, by omega⟩ ⟨j.val % 128, by omega⟩) <<< 16#32) := by
  unfold lowR
  refine (shapeCast_apply _ _ (ix2 t j) (ix2 ⟨t.val * 4 + j.val / 128, by omega⟩ ⟨j.val % 128, by omega⟩) ?_).trans ?_
  · rw [Shape.rowMajor_val_two, Shape.rowMajor_val_two]
    show (t.val * 4 + j.val / 128) * 128 + j.val % 128 = t.val * 512 + j.val
    omega
  · rfl
theorem high_at (t : Fin 83776) (j : Fin 512) : highR (F := Ideal) x (ix2 t j) = Ideal.ofBits FTy.f32 (x (ix2 ⟨t.val * 4 + j.val / 128, by omega⟩ ⟨j.val % 128, by omega⟩) &&& 4294901760#32) := by
  unfold highR
  refine (shapeCast_apply _ _ (ix2 t j) (ix2 ⟨t.val * 4 + j.val / 128, by omega⟩ ⟨j.val % 128, by omega⟩) ?_).trans ?_
  · rw [Shape.rowMajor_val_two, Shape.rowMajor_val_two]
    show (t.val * 4 + j.val / 128) * 128 + j.val % 128 = t.val * 512 + j.val
    omega
  · rfl
theorem catL_at (p q : S83776x512.Idx → EReal) (h : Shape.Concatenates ([(⟨S83776x512, p⟩ : (s : Shape) × (s.Idx → EReal)), ⟨S83776x512, q⟩].map (·.1)) S83776x1024 1) (t : Fin 83776) (k : Fin 1024) (hk : k.val < 512) :
    concatenate S83776x1024 1 [⟨S83776x512, p⟩, ⟨S83776x512, q⟩] h (ix2 t k) = p (ix2 t ⟨k.val, hk⟩) :=
  concatenate_apply_piece 1 _ h (ix2 t k) 0 (Nat.zero_lt_succ _) S83776x512 p rfl rfl 0 rfl (ix2 t ⟨k.val, hk⟩)
    (fun a ha => match a, ha with
      | ⟨0, _⟩, _ => rfl
      | ⟨1, _⟩, h => absurd rfl h) (Nat.zero_add _)
theorem catR_at (p q : S83776x512.Idx → EReal) (h : Shape.Concatenates ([(⟨S83776x512, p⟩ : (s : Shape) × (s.Idx → EReal)), ⟨S83776x512, q⟩].map (·.1)) S83776x1024 1) (t : Fin 83776) (k : Fin 1024) (hk : ¬ k.val < 512) :
    concatenate S83776x1024 1 [⟨S83776x512, p⟩, ⟨S83776x512, q⟩] h (ix2 t k) = q (ix2 t ⟨k.val - 512, by omega⟩) :=
  concatenate_apply_piece 1 _ h (ix2 t k) 1 (Nat.succ_lt_succ (Nat.zero_lt_succ _)) S83776x512 q rfl rfl 512 rfl (ix2 t ⟨k.val - 512, by omega⟩)
    (fun a ha => match a, ha with
      | ⟨0, _⟩, _ => rfl
      | ⟨1, _⟩, h => absurd rfl h) (by show 512 + (k.val - 512) = k.val; omega)
theorem rowsW_at (t : Fin 83776) (k : Fin 1024) : rowsW (F := Ideal) x (ix2 t k) = half k (x (ix2 ⟨t.val * 4 + k.val % 512 / 128, by omega⟩ ⟨k.val % 128, by omega⟩)) := by
  unfold rowsW half
  by_cases hk : k.val < 512
  · rw [if_pos hk]
    refine (catL_at _ _ _ t k hk).trans ((low_at x t _).trans ?_)
    refine congrArg (fun z => Ideal.ofBits FTy.f32 (x z <<< 16#32)) (congrArg₂ ix2 (Fin.ext ?_) (Fin.ext ?_))
    · show t.val * 4 + k.val / 128 = t.val * 4 + k.val % 512 / 128; omega
    · rfl
  · rw [if_neg hk]
    refine (catR_at _ _ _ t k hk).trans ((high_at x t _).trans ?_)
    refine congrArg (fun z => Ideal.ofBits FTy.f32 (x z &&& 4294901760#32)) (congrArg₂ ix2 (Fin.ext ?_) (Fin.ext ?_))
    · show t.val * 4 + (k.val - 512) / 128 = t.val * 4 + k.val % 512 / 128; omega
    · show (k.val - 512) % 128 = k.val % 128; omega
theorem hid_at (t : Fin 154) (s : Fin 544) (f : Fin 2048) :
    hidR (F := Ideal) b x wu bu (ix3 t s f) = lin (fun k => rowsW (F := Ideal) x (ix2 ⟨t.val * 544 + s.val, by omega⟩ k)) (fun k => upW (F := Ideal) b wu (ix3 t k f)) (upB (F := Ideal) b bu (ix2 t f)) := by
  pointwise [hidR, dot_S154x544x1024_S154x1024x2048_S154x544x2048_2_1_1_2_0_0]
  try rfl
theorem act_at (t : Fin 154) (s : Fin 544) (f : Fin 1024) :
    actR (F := Ideal) b x wu bu (ix3 t s f) = swiglu (hidR (F := Ideal) b x wu bu (ix3 t s ⟨f.val, by omega⟩)) (hidR (F := Ideal) b x wu bu (ix3 t s ⟨1024 + f.val, by omega⟩)) := by
  pointwise [actR]
  try rfl
theorem rows_at (t : Fin 154) (s : Fin 544) (f : Fin 1024) :
    rowsR (F := Ideal) b x wu bu wd bd (ix3 t s f) = lin (fun k => actR (F := Ideal) b x wu bu (ix3 t s k)) (fun k => dnW (F := Ideal) b wd (ix3 t k f)) (dnB (F := Ideal) b bd (ix2 t f)) := by
  pointwise [rowsR, dot_S154x544x1024_S154x1024x1024_S154x544x1024_2_1_1_2_0_0]
  try rfl
theorem res_at (t : Fin 83776) (f : Fin 1024) :
    resR (F := Ideal) b n x wu bu wd bd (ix2 t f) = Scalar.select (IntOp.cmpi CmpIPredicate.slt (BitVec.ofNat 32 (t.val / 544)) (n (ix1 0)))
      (rowsR (F := Ideal) b x wu bu wd bd (ix3 ⟨t.val / 544, by omega⟩ ⟨t.val % 544, by omega⟩ f)) (0 : EReal) := by
  pointwise [resR]
  try exact congrArg (Scalar.select _ _) (Ideal.ofBits_zero .f32)
theorem idx_at (t : Fin 154) (h : 0 ≤ (b (ix1 t)).toInt) : idxR b (ix1 t) = b (ix1 t) := by
  pointwise [idxR]
  have e : IntOp.cmpi CmpIPredicate.slt (b (ix1 t)) 0#32 = 0#1 := by
    show BitVec.ofBool ((b (ix1 t)).slt 0#32) = 0#1
    rw [show (b (ix1 t)).slt 0#32 = false from Bool.eq_false_iff.mpr fun h' => by
      rw [BitVec.slt_iff_toInt_lt] at h'
      exact absurd h' (not_lt.mpr h)]
    rfl
  rw [e]; rfl
/-- Columns put side by side, read in the first of them. -/
theorem cat3_at (p q r : IVec S154x1 32) (h : Shape.Concatenates ([(⟨S154x1, p⟩ : (s : Shape) × (s.Idx → BitVec 32)), ⟨S154x1, q⟩, ⟨S154x1, r⟩].map (·.1)) S154x3 1) (t : Fin 154) :
    concatenate S154x3 1 [⟨S154x1, p⟩, ⟨S154x1, q⟩, ⟨S154x1, r⟩] h (ix2 t (0 : Fin 3)) = p (ix2 t (0 : Fin 1)) :=
  concatenate_apply_piece 1 _ h (ix2 t (0 : Fin 3)) 0 (Nat.zero_lt_succ _) S154x1 p rfl rfl 0 rfl (ix2 t (0 : Fin 1))
    (fun a ha => match a, ha with
      | ⟨0, _⟩, _ => rfl
      | ⟨1, _⟩, h => absurd rfl h) rfl
theorem cat2_at (p q : IVec S154x1 32) (h : Shape.Concatenates ([(⟨S154x1, p⟩ : (s : Shape) × (s.Idx → BitVec 32)), ⟨S154x1, q⟩].map (·.1)) S154x2 1) (t : Fin 154) :
    concatenate S154x2 1 [⟨S154x1, p⟩, ⟨S154x1, q⟩] h (ix2 t (0 : Fin 2)) = p (ix2 t (0 : Fin 1)) :=
  concatenate_apply_piece 1 _ h (ix2 t (0 : Fin 2)) 0 (Nat.zero_lt_succ _) S154x1 p rfl rfl 0 rfl (ix2 t (0 : Fin 1))
    (fun a ha => match a, ha with
      | ⟨0, _⟩, _ => rfl
      | ⟨1, _⟩, h => absurd rfl h) rfl
theorem colR_at (t : Fin 154) : (broadcastInDim S154x1 ![0] bcast_S154_S154x1_0 (idxR b) : IVec S154x1 32) (ix2 t (0 : Fin 1)) = idxR b (ix1 t) := by
  pointwise
theorem st3U_at (t : Fin 154) : st3U b (ix2 t (0 : Fin 3)) = idxR b (ix1 t) := by
  unfold st3U
  exact (cat3_at _ _ _ _ t).trans (colR_at b t)
theorem st3D_at (t : Fin 154) : st3D b (ix2 t (0 : Fin 3)) = idxR b (ix1 t) := by
  unfold st3D
  exact (cat3_at _ _ _ _ t).trans (colR_at b t)
theorem st2U_at (t : Fin 154) : st2U b (ix2 t (0 : Fin 2)) = idxR b (ix1 t) := by
  unfold st2U
  exact (cat2_at _ _ _ t).trans (colR_at b t)
theorem st2D_at (t : Fin 154) : st2D b (ix2 t (0 : Fin 2)) = idxR b (ix1 t) := by
  unfold st2D
  exact (cat2_at _ _ _ t).trans (colR_at b t)

theorem upW_at (t : Fin 154) (k0 : Fin 1024) (k1 : Fin 2048) (e : Fin 32) (he : (idxR b (ix1 t)).toInt = (e.val : ℤ)) : upW (F := Ideal) b wu (ix3 t k0 k1) = wu (ix4 0 e k0 k1) := by
  pointwise [upW]
  have key : Host.gather gather_S32x1024x2048_S154x3_S154x1x1024x2048_123_n_n_n_012_1_110242048 (shapeCast S32x1024x2048 wu shapeCasts_S1x32x1024x2048_S32x1024x2048) (st3U b) (ix4 t 0 k0 k1) = shapeCast S32x1024x2048 wu shapeCasts_S1x32x1024x2048_S32x1024x2048 (ix3 e k0 k1) := by
    unfold Host.gather
    refine congrArg _ (funext fun a => Fin.ext ?_)
    show gather_S32x1024x2048_S154x3_S154x1x1024x2048_123_n_n_n_012_1_110242048.start _ (st3U b) a + gather_S32x1024x2048_S154x3_S154x1x1024x2048_123_n_n_n_012_1_110242048.batchCoord _ a + gather_S32x1024x2048_S154x3_S154x1x1024x2048_123_n_n_n_012_1_110242048.offCoord _ a = _
    rw [GatherDims.batchCoord_eq_zero _ _ _ List.not_mem_nil]
    match a with
    | ⟨0, _⟩ =>
      have hs : gather_S32x1024x2048_S154x3_S154x1x1024x2048_123_n_n_n_012_1_110242048.start (ix4 t 0 k0 k1) (st3U b) (0 : Fin 3) = e.val := by
        unfold GatherDims.start
        rw [dif_pos (show (0 : Fin 3) ∈ gather_S32x1024x2048_S154x3_S154x1x1024x2048_123_n_n_n_012_1_110242048.startIndexMap by decide)]
        have hi : gather_S32x1024x2048_S154x3_S154x1x1024x2048_123_n_n_n_012_1_110242048.siIdx (ix4 t 0 k0 k1) ⟨gather_S32x1024x2048_S154x3_S154x1x1024x2048_123_n_n_n_012_1_110242048.startIndexMap.idxOf (0 : Fin 3), List.idxOf_lt_length_iff.2 (by decide)⟩ = ix2 t (0 : Fin 3) := by
          funext c; refine Fin.ext ?_
          match c with
          | ⟨0, _⟩ => rfl
          | ⟨1, _⟩ => rfl
        rw [hi, st3U_at, he]
        show min (e.val : ℤ).toNat (32 - 1) = e.val
        have := e.isLt
        omega
      have ho : gather_S32x1024x2048_S154x3_S154x1x1024x2048_123_n_n_n_012_1_110242048.offCoord (ix4 t 0 k0 k1) (0 : Fin 3) = 0 := rfl
      exact (congrArg₂ (fun p q => p + 0 + q) hs ho).trans rfl
    | ⟨1, _⟩ =>
      have hs : gather_S32x1024x2048_S154x3_S154x1x1024x2048_123_n_n_n_012_1_110242048.start (ix4 t 0 k0 k1) (st3U b) (1 : Fin 3) = 0 := Nat.le_zero.mp (gather_S32x1024x2048_S154x3_S154x1x1024x2048_123_n_n_n_012_1_110242048.start_le _ _ _)
      have ho : gather_S32x1024x2048_S154x3_S154x1x1024x2048_123_n_n_n_012_1_110242048.offCoord (ix4 t 0 k0 k1) (1 : Fin 3) = k0.val := rfl
      exact (congrArg₂ (fun p q => p + 0 + q) hs ho).trans (by show 0 + 0 + k0.val = k0.val; omega)
    | ⟨2, _⟩ =>
      have hs : gather_S32x1024x2048_S154x3_S154x1x1024x2048_123_n_n_n_012_1_110242048.start (ix4 t 0 k0 k1) (st3U b) (2 : Fin 3) = 0 := Nat.le_zero.mp (gather_S32x1024x2048_S154x3_S154x1x1024x2048_123_n_n_n_012_1_110242048.start_le _ _ _)
      have ho : gather_S32x1024x2048_S154x3_S154x1x1024x2048_123_n_n_n_012_1_110242048.offCoord (ix4 t 0 k0 k1) (2 : Fin 3) = k1.val := rfl
      exact (congrArg₂ (fun p q => p + 0 + q) hs ho).trans (by show 0 + 0 + k1.val = k1.val; omega)
  refine key.trans ?_
  pointwise []
  try rfl

theorem upB_at (t : Fin 154) (k0 : Fin 2048) (e : Fin 32) (he : (idxR b (ix1 t)).toInt = (e.val : ℤ)) : upB (F := Ideal) b bu (ix2 t k0) = bu (ix3 0 e k0) := by
  pointwise [upB]
  have key : Host.gather gather_S32x2048_S154x2_S154x1x2048_12_n_n_n_01_1_12048 (shapeCast S32x2048 bu shapeCasts_S1x32x2048_S32x2048) (st2U b) (ix3 t 0 k0) = shapeCast S32x2048 bu shapeCasts_S1x32x2048_S32x2048 (ix2 e k0) := by
    unfold Host.gather
    refine congrArg _ (funext fun a => Fin.ext ?_)
    show gather_S32x2048_S154x2_S154x1x2048_12_n_n_n_01_1_12048.start _ (st2U b) a + gather_S32x2048_S154x2_S154x1x2048_12_n_n_n_01_1_12048.batchCoord _ a + gather_S32x2048_S154x2_S154x1x2048_12_n_n_n_01_1_12048.offCoord _ a = _
    rw [GatherDims.batchCoord_eq_zero _ _ _ List.not_mem_nil]
    match a with
    | ⟨0, _⟩ =>
      have hs : gather_S32x2048_S154x2_S154x1x2048_12_n_n_n_01_1_12048.start (ix3 t 0 k0) (st2U b) (0 : Fin 2) = e.val := by
        unfold GatherDims.start
        rw [dif_pos (show (0 : Fin 2) ∈ gather_S32x2048_S154x2_S154x1x2048_12_n_n_n_01_1_12048.startIndexMap by decide)]
        have hi : gather_S32x2048_S154x2_S154x1x2048_12_n_n_n_01_1_12048.siIdx (ix3 t 0 k0) ⟨gather_S32x2048_S154x2_S154x1x2048_12_n_n_n_01_1_12048.startIndexMap.idxOf (0 : Fin 2), List.idxOf_lt_length_iff.2 (by decide)⟩ = ix2 t (0 : Fin 2) := by
          funext c; refine Fin.ext ?_
          match c with
          | ⟨0, _⟩ => rfl
          | ⟨1, _⟩ => rfl
        rw [hi, st2U_at, he]
        show min (e.val : ℤ).toNat (32 - 1) = e.val
        have := e.isLt
        omega
      have ho : gather_S32x2048_S154x2_S154x1x2048_12_n_n_n_01_1_12048.offCoord (ix3 t 0 k0) (0 : Fin 2) = 0 := rfl
      exact (congrArg₂ (fun p q => p + 0 + q) hs ho).trans rfl
    | ⟨1, _⟩ =>
      have hs : gather_S32x2048_S154x2_S154x1x2048_12_n_n_n_01_1_12048.start (ix3 t 0 k0) (st2U b) (1 : Fin 2) = 0 := Nat.le_zero.mp (gather_S32x2048_S154x2_S154x1x2048_12_n_n_n_01_1_12048.start_le _ _ _)
      have ho : gather_S32x2048_S154x2_S154x1x2048_12_n_n_n_01_1_12048.offCoord (ix3 t 0 k0) (1 : Fin 2) = k0.val := rfl
      exact (congrArg₂ (fun p q => p + 0 + q) hs ho).trans (by show 0 + 0 + k0.val = k0.val; omega)
  refine key.trans ?_
  pointwise []
  try rfl

theorem dnW_at (t : Fin 154) (k0 : Fin 1024) (k1 : Fin 1024) (e : Fin 32) (he : (idxR b (ix1 t)).toInt = (e.val : ℤ)) : dnW (F := Ideal) b wd (ix3 t k0 k1) = wd (ix4 0 e k0 k1) := by
  pointwise [dnW]
  have key : Host.gather gather_S32x1024x1024_S154x3_S154x1x1024x1024_123_n_n_n_012_1_110241024 (shapeCast S32x1024x1024 wd shapeCasts_S1x32x1024x1024_S32x1024x1024) (st3D b) (ix4 t 0 k0 k1) = shapeCast S32x1024x1024 wd shapeCasts_S1x32x1024x1024_S32x1024x1024 (ix3 e k0 k1) := by
    unfold Host.gather
    refine congrArg _ (funext fun a => Fin.ext ?_)
    show gather_S32x1024x1024_S154x3_S154x1x1024x1024_123_n_n_n_012_1_110241024.start _ (st3D b) a + gather_S32x1024x1024_S154x3_S154x1x1024x1024_123_n_n_n_012_1_110241024.batchCoord _ a + gather_S32x1024x1024_S154x3_S154x1x1024x1024_123_n_n_n_012_1_110241024.offCoord _ a = _
    rw [GatherDims.batchCoord_eq_zero _ _ _ List.not_mem_nil]
    match a with
    | ⟨0, _⟩ =>
      have hs : gather_S32x1024x1024_S154x3_S154x1x1024x1024_123_n_n_n_012_1_110241024.start (ix4 t 0 k0 k1) (st3D b) (0 : Fin 3) = e.val := by
        unfold GatherDims.start
        rw [dif_pos (show (0 : Fin 3) ∈ gather_S32x1024x1024_S154x3_S154x1x1024x1024_123_n_n_n_012_1_110241024.startIndexMap by decide)]
        have hi : gather_S32x1024x1024_S154x3_S154x1x1024x1024_123_n_n_n_012_1_110241024.siIdx (ix4 t 0 k0 k1) ⟨gather_S32x1024x1024_S154x3_S154x1x1024x1024_123_n_n_n_012_1_110241024.startIndexMap.idxOf (0 : Fin 3), List.idxOf_lt_length_iff.2 (by decide)⟩ = ix2 t (0 : Fin 3) := by
          funext c; refine Fin.ext ?_
          match c with
          | ⟨0, _⟩ => rfl
          | ⟨1, _⟩ => rfl
        rw [hi, st3D_at, he]
        show min (e.val : ℤ).toNat (32 - 1) = e.val
        have := e.isLt
        omega
      have ho : gather_S32x1024x1024_S154x3_S154x1x1024x1024_123_n_n_n_012_1_110241024.offCoord (ix4 t 0 k0 k1) (0 : Fin 3) = 0 := rfl
      exact (congrArg₂ (fun p q => p + 0 + q) hs ho).trans rfl
    | ⟨1, _⟩ =>
      have hs : gather_S32x1024x1024_S154x3_S154x1x1024x1024_123_n_n_n_012_1_110241024.start (ix4 t 0 k0 k1) (st3D b) (1 : Fin 3) = 0 := Nat.le_zero.mp (gather_S32x1024x1024_S154x3_S154x1x1024x1024_123_n_n_n_012_1_110241024.start_le _ _ _)
      have ho : gather_S32x1024x1024_S154x3_S154x1x1024x1024_123_n_n_n_012_1_110241024.offCoord (ix4 t 0 k0 k1) (1 : Fin 3) = k0.val := rfl
      exact (congrArg₂ (fun p q => p + 0 + q) hs ho).trans (by show 0 + 0 + k0.val = k0.val; omega)
    | ⟨2, _⟩ =>
      have hs : gather_S32x1024x1024_S154x3_S154x1x1024x1024_123_n_n_n_012_1_110241024.start (ix4 t 0 k0 k1) (st3D b) (2 : Fin 3) = 0 := Nat.le_zero.mp (gather_S32x1024x1024_S154x3_S154x1x1024x1024_123_n_n_n_012_1_110241024.start_le _ _ _)
      have ho : gather_S32x1024x1024_S154x3_S154x1x1024x1024_123_n_n_n_012_1_110241024.offCoord (ix4 t 0 k0 k1) (2 : Fin 3) = k1.val := rfl
      exact (congrArg₂ (fun p q => p + 0 + q) hs ho).trans (by show 0 + 0 + k1.val = k1.val; omega)
  refine key.trans ?_
  pointwise []
  try rfl

theorem dnB_at (t : Fin 154) (k0 : Fin 1024) (e : Fin 32) (he : (idxR b (ix1 t)).toInt = (e.val : ℤ)) : dnB (F := Ideal) b bd (ix2 t k0) = bd (ix3 0 e k0) := by
  pointwise [dnB]
  have key : Host.gather gather_S32x1024_S154x2_S154x1x1024_12_n_n_n_01_1_11024 (shapeCast S32x1024 bd shapeCasts_S1x32x1024_S32x1024) (st2D b) (ix3 t 0 k0) = shapeCast S32x1024 bd shapeCasts_S1x32x1024_S32x1024 (ix2 e k0) := by
    unfold Host.gather
    refine congrArg _ (funext fun a => Fin.ext ?_)
    show gather_S32x1024_S154x2_S154x1x1024_12_n_n_n_01_1_11024.start _ (st2D b) a + gather_S32x1024_S154x2_S154x1x1024_12_n_n_n_01_1_11024.batchCoord _ a + gather_S32x1024_S154x2_S154x1x1024_12_n_n_n_01_1_11024.offCoord _ a = _
    rw [GatherDims.batchCoord_eq_zero _ _ _ List.not_mem_nil]
    match a with
    | ⟨0, _⟩ =>
      have hs : gather_S32x1024_S154x2_S154x1x1024_12_n_n_n_01_1_11024.start (ix3 t 0 k0) (st2D b) (0 : Fin 2) = e.val := by
        unfold GatherDims.start
        rw [dif_pos (show (0 : Fin 2) ∈ gather_S32x1024_S154x2_S154x1x1024_12_n_n_n_01_1_11024.startIndexMap by decide)]
        have hi : gather_S32x1024_S154x2_S154x1x1024_12_n_n_n_01_1_11024.siIdx (ix3 t 0 k0) ⟨gather_S32x1024_S154x2_S154x1x1024_12_n_n_n_01_1_11024.startIndexMap.idxOf (0 : Fin 2), List.idxOf_lt_length_iff.2 (by decide)⟩ = ix2 t (0 : Fin 2) := by
          funext c; refine Fin.ext ?_
          match c with
          | ⟨0, _⟩ => rfl
          | ⟨1, _⟩ => rfl
        rw [hi, st2D_at, he]
        show min (e.val : ℤ).toNat (32 - 1) = e.val
        have := e.isLt
        omega
      have ho : gather_S32x1024_S154x2_S154x1x1024_12_n_n_n_01_1_11024.offCoord (ix3 t 0 k0) (0 : Fin 2) = 0 := rfl
      exact (congrArg₂ (fun p q => p + 0 + q) hs ho).trans rfl
    | ⟨1, _⟩ =>
      have hs : gather_S32x1024_S154x2_S154x1x1024_12_n_n_n_01_1_11024.start (ix3 t 0 k0) (st2D b) (1 : Fin 2) = 0 := Nat.le_zero.mp (gather_S32x1024_S154x2_S154x1x1024_12_n_n_n_01_1_11024.start_le _ _ _)
      have ho : gather_S32x1024_S154x2_S154x1x1024_12_n_n_n_01_1_11024.offCoord (ix3 t 0 k0) (1 : Fin 2) = k0.val := rfl
      exact (congrArg₂ (fun p q => p + 0 + q) hs ho).trans (by show 0 + 0 + k0.val = k0.val; omega)
  refine key.trans ?_
  pointwise []
  try rfl

/-- The result at a row of a block: the block's expert applied to the row, or zero past the used blocks. -/
theorem result_at (hb : ∀ j : S154.Idx, 0 ≤ (b j).toInt ∧ (b j).toInt < 32) (t : Fin 154) (s : Fin 544) (o : Fin 1024) (e : Fin 32) (he : (b (ix1 t)).toNat = e.val) :
    resR (F := Ideal) b n x wu bu wd bd (ix2 ⟨t.val * 544 + s.val, by omega⟩ o)
      = Scalar.select (IntOp.cmpi CmpIPredicate.slt (BitVec.ofNat 32 t.val) (n (ix1 0)))
          (row (fun k => half k (x (ix2 ⟨(t.val * 544 + s.val) * 4 + k.val % 512 / 128, by omega⟩ ⟨k.val % 128, by omega⟩))) (fun k f => wu (ix4 0 e k f)) (fun f => bu (ix3 0 e f)) (fun k f => wd (ix4 0 e k f)) (fun f => bd (ix3 0 e f)) o) (0 : EReal) := by
  have hi : (idxR b (ix1 t)).toInt = (e.val : ℤ) := by
    rw [idx_at b t (hb _).1, ← he]
    have := (hb (ix1 t)).1
    have h2 := (b (ix1 t)).isLt
    rw [BitVec.toInt_eq_toNat_cond] at this ⊢
    split at this <;> split <;> omega
  have e1 : (⟨(t.val * 544 + s.val) / 544, by omega⟩ : Fin 154) = t := Fin.ext (by show (t.val * 544 + s.val) / 544 = t.val; omega)
  have e2 : (⟨(t.val * 544 + s.val) % 544, by omega⟩ : Fin 544) = s := Fin.ext (by show (t.val * 544 + s.val) % 544 = s.val; omega)
  refine (res_at b n x wu bu wd bd _ o).trans ?_
  dsimp only
  rw [e1, e2, show (t.val * 544 + s.val) / 544 = t.val by omega]
  refine congrArg (fun z => Scalar.select _ z (0 : EReal)) ?_
  refine (rows_at b x wu bu wd bd t s o).trans ?_
  unfold row acts
  refine lin_congr (fun f => ?_) (fun k => dnW_at b wd t k o e hi) (dnB_at b bd t o e hi)
  refine (act_at b x wu bu t s f).trans (congrArg₂ swiglu ?_ ?_)
  · exact (hid_at b x wu bu t s _).trans (lin_congr (fun k => rowsW_at x _ k) (fun k => upW_at b wu t k _ e hi) (upB_at b bu t _ e hi))
  · exact (hid_at b x wu bu t s _).trans (lin_congr (fun k => rowsW_at x _ k) (fun k => upW_at b wu t k _ e hi) (upB_at b bu t _ e hi))

end
end Cert.BlocksIdeal.Blocks

end
-- ==== Proof.ExpertsAgree.lean ====
module

public import proofs.«01_k».proof.Proof.ExpertsIdealValue
public import proofs.«01_k».proof.Proof.BlocksValue
public import Idealize.ShloMosaic.Lib.StableHlo.ReadAt

@[expose] public section

set_option maxRecDepth 16384

noncomputable section

/-! What the experts' kernel leaves is what the reference computes. -/

namespace Cert.ExpertsIdeal.Val

open Idealize.ShloMosaic Idealize.ShloMosaic.TcCoe Idealize.ShloMosaic.Tactic
open Cert.ExpertsIdeal.Gen
open Cert.ExpertsIdeal.Run
open Cert.Moe
open Cert.BlocksIdeal.Blocks (resR result_at)

variable (m : (ℓ : Loc nD τ sig) → Buf (Elt Ideal) ℓ) (c : Dev nD)

/-! ## The arguments -/

abbrev B0 : S154.Idx → BitVec 32 := m ((c.tc : Thread nD τ).loc main_arg0)
abbrev N1 : S1.Idx → BitVec 32 := m ((c.tc : Thread nD τ).loc main_arg1)
abbrev X2 : S335104x128.Idx → BitVec 32 := m ((c.tc : Thread nD τ).loc main_arg2)
abbrev W3 : S1x32x1024x2048.Idx → EReal := m ((c.tc : Thread nD τ).loc main_arg3)
abbrev C4 : S1x32x2048.Idx → EReal := m ((c.tc : Thread nD τ).loc main_arg4)
abbrev W5 : S1x32x1024x1024.Idx → EReal := m ((c.tc : Thread nD τ).loc main_arg5)
abbrev C6 : S1x32x1024.Idx → EReal := m ((c.tc : Thread nD τ).loc main_arg6)

theorem v0_at (e : Fin 32) (k : Fin 1024) (f : Fin 2048) : (V m c main_v0 : S32x1024x2048.Idx → EReal) (ix3 e k f) = W3 m c (ix4 0 e k f) := by
  unfold V; after_reads_at

theorem v2_at (e : Fin 32) (k f : Fin 1024) : (V m c main_v2 : S32x1024x1024.Idx → EReal) (ix3 e k f) = W5 m c (ix4 0 e k f) := by
  unfold V; after_reads_at

theorem v4_at (e : Fin 32) (f : Fin 2048) : (V m c main_v4 : S32x1x2048.Idx → EReal) (ix3 e 0 f) = C4 m c (ix3 0 e f) := by
  unfold V; after_reads_at

theorem v5_at (e : Fin 32) (f : Fin 1024) : (V m c main_v5 : S32x1x1024.Idx → EReal) (ix3 e 0 f) = C6 m c (ix3 0 e f) := by
  unfold V; after_reads_at

theorem nu_eq : nuW (0 : Dev nD) (tbl m 1) = N1 m 0 (ix1 0) := by
  rw [tbl1 m]
  refine congrArg (N1 m 0) (funext fun a => Fin.ext ?_)
  match a with
  | ⟨0, _⟩ => rfl

theorem be_eq (t : Fin grid0.N) : beW (0 : Dev nD) (grid0.coords t) (tbl m 0) = B0 m 0 (ix1 ⟨t.val, Nat.lt_of_lt_of_eq t.isLt N_0⟩) := by
  refine (beW_at (0 : Dev nD) (tbl m 0) t).trans ((congrFun (tbl0 m) _).trans ?_)
  refine congrArg (B0 m 0) (funext fun a => Fin.ext ?_)
  match a with
  | ⟨0, _⟩ => rfl

/-- The result of all blocks. -/
abbrev resArr : S83776x1024.Idx → EReal := resR (F := Ideal) (B0 m c) (N1 m c) (X2 m c) (W3 m c) (C4 m c) (W5 m c) (C6 m c)

/-- Whether a block is used, as the reference asks it. -/
theorem used_iff (t : Fin grid0.N) : IntOp.cmpi CmpIPredicate.slt (BitVec.ofNat 32 t.val) (N1 m 0 (ix1 0)) = 1#1 ↔ act m (0 : Dev nD) (grid0.coords t) := by
  refine Iff.trans ?_ (c1_iff (grid0.coords t) (nuW (0 : Dev nD) (tbl m 1))).symm
  rw [coord_eq, nu_eq]
  show BitVec.ofBool ((BitVec.ofNat 32 t.val).slt (N1 m 0 (ix1 0))) = 1#1 ↔ _
  rw [← word_toInt (Nat.lt_of_lt_of_eq t.isLt N_0), ← BitVec.slt_iff_toInt_lt]
  cases (BitVec.ofNat 32 t.val).slt (N1 m 0 (ix1 0)) <;> decide

/-- A word of a used block. -/
theorem x2_at (hO : Ok m) (t : Fin grid0.N) (h : act m (0 : Dev nD) (grid0.coords t)) (r : Fin 2176) (j : Fin 128) (z : Fin 335104) (hz : z.val = t.val * 2176 + r.val) :
    (iblk m hO 0 0 t : S2176x128.Idx → BitVec 32) (ix2 r j) = X2 m 0 (ix2 z j) :=
  ((iblk0_at m hO 0 t h (ix2 r j)).trans (congrFun (V_of m 0 main_arg2 (by decide)) _)).trans (congrArg (fun i => X2 m 0 (ix2 i j)) (Fin.ext hz.symm))

theorem outN_at (hO : Ok m) (hb : ∀ j : S154.Idx, 0 ≤ (B0 m 0 j).toInt ∧ (B0 m 0 j).toInt < 32) (t : Fin grid0.N) (s : Fin 544) (o : Fin 1024) :
    (outN m hO (0 : Dev nD) t : S544x1024.Idx → EReal) (ix2 s o)
      = resArr m 0 (ix2 ⟨t.val * 544 + s.val, by have := Nat.lt_of_lt_of_eq t.isLt N_0; omega⟩ o) := by
  have ht : t.val < 154 := Nat.lt_of_lt_of_eq t.isLt N_0
  refine Eq.trans ?_ (result_at (B0 m 0) (N1 m 0) (X2 m 0) (W3 m 0) (C4 m 0) (W5 m 0) (C6 m 0) hb ⟨t.val, ht⟩ s o
    ⟨(beW (0 : Dev nD) (grid0.coords t) (tbl m 0)).toNat, be_lt m hO 0 _⟩ (congrArg BitVec.toNat (be_eq m t)).symm).symm
  unfold outN
  by_cases h : act m (0 : Dev nD) (grid0.coords t)
  · rw [if_pos h, (used_iff m t).2 h]
    refine ((outOf_at _ _ _ s o).trans ?_).trans (ValueIdx.select_one _ _).symm
    unfold row
    refine lin_congr (fun f => (actOf_at _ _ _ s f).trans ?_) (fun k => ?_) ?_
    · unfold acts
      refine congrArg₂ swiglu (lin_congr (fun k => ?_) (fun k => ?_) ?_) (lin_congr (fun k => ?_) (fun k => ?_) ?_)
      · exact (xOf_at _ s k).trans (congrArg (half k) (x2_at m hO t h _ _ _ (by show (t.val * 544 + s.val) * 4 + k.val % 512 / 128 = t.val * 2176 + (s.val * 4 + k.val % 512 / 128); omega)))
      · exact ((pay6_at _ k _).trans (iblk1_at m hO 0 t _)).trans (v0_at m 0 _ _ _)
      · exact (iblk2_at m hO 0 t _).trans (v4_at m 0 _ _)
      · exact (xOf_at _ s k).trans (congrArg (half k) (x2_at m hO t h _ _ _ (by show (t.val * 544 + s.val) * 4 + k.val % 512 / 128 = t.val * 2176 + (s.val * 4 + k.val % 512 / 128); omega)))
      · exact ((pay6_at _ k _).trans (iblk1_at m hO 0 t _)).trans (v0_at m 0 _ _ _)
      · exact (iblk2_at m hO 0 t _).trans (v4_at m 0 _ _)
    · exact ((pay7_at _ k o).trans (iblk3_at m hO 0 t _)).trans (v2_at m 0 _ _ _)
    · exact (iblk4_at m hO 0 t _).trans (v5_at m 0 _ _)
  · rw [if_neg h]
    have e : IntOp.cmpi CmpIPredicate.slt (BitVec.ofNat 32 t.val) (N1 m 0 (ix1 0)) = 0#1 := by
      have := (used_iff m t).not.2 h
      revert this
      generalize IntOp.cmpi CmpIPredicate.slt (BitVec.ofNat 32 t.val) (N1 m 0 (ix1 0)) = v
      revert v
      decide
    exact (pay5_at _).trans ((congrArg (fun v => Scalar.select v _ (0 : EReal)) e).trans (ValueIdx.select_zero _ _)).symm

/-! ## The whole array -/

theorem index5 : ∀ (t : Fin grid0.N) (a : Fin 2), cc0_transform_5 (grid0.coords t) a = if a = 0 then t.val else 0 := by decide +kernel

theorem flush5 : ∀ t : Fin grid0.N, Pipeline.Window.flushOf grid0 true cc0_transform_5 t = true := by decide +kernel

theorem pos5 : ∀ a : Fin 2, 0 < S544x1024.size a := by decide

theorem covers5 (hO : Ok m) : ((cfgM m hO).win 5).Covers := by
  refine ⟨pos5, fun β => ⟨⟨(β (0 : Fin 2)).val, Nat.lt_of_lt_of_eq (β (0 : Fin 2)).isLt (show (83776 + 544 - 1) / 544 = grid0.N by rw [N_0])⟩, flush5 _, fun a => ⟨(index5 _ a).trans ?_, Or.inl rfl⟩⟩⟩
  match a with
  | ⟨0, _⟩ => rfl
  | ⟨1, _⟩ =>
    have : (β (1 : Fin 2)).val < 1 := Nat.lt_of_lt_of_eq (β (1 : Fin 2)).isLt (show (1024 + 1024 - 1) / 1024 = 1 by decide)
    show 0 = (β (1 : Fin 2)).val
    omega

theorem emb5 (hO : Ok m) (t : Fin grid0.N) (y : ((cfgM m hO).win 5).block.Idx) (a : Fin 2) :
    ((((cfgM m hO).win 5).blk t).view.emb y a).val = cc0_transform_5 (grid0.coords t) a * S544x1024.size a + (y a).val :=
  ValueKit.rect_emb_unit_val _ _ _ _ _

theorem place5 (hO : Ok m) (hb : ∀ j : S154.Idx, 0 ≤ (B0 m 0 j).toInt ∧ (B0 m 0 j).toInt < 32) (t : Fin grid0.N) (y : S544x1024.Idx) (z : S83776x1024.Idx)
    (hz : ∀ a, (z a).val = cc0_transform_5 (grid0.coords t) a * S544x1024.size a + (y a).val) : (outN m hO 0 t : S544x1024.Idx → EReal) y = resArr m 0 z := by
  have ht : t.val < 154 := Nat.lt_of_lt_of_eq t.isLt N_0
  rw [eq_ix2 y]
  refine (outN_at m hO hb t (y 0) (y 1)).trans (congrArg (resArr m 0) (funext fun a => Fin.ext ((hz a).trans ?_).symm))
  rw [index5]
  match a with
  | ⟨0, _⟩ => rfl
  | ⟨1, _⟩ => exact (congrArg (· + _) (Nat.zero_mul _)).trans (Nat.zero_add _)

theorem final5 (hO : Ok m) (hb : ∀ j : S154.Idx, 0 ≤ (B0 m 0 j).toInt ∧ (B0 m 0 j).toInt < 32) :
    (tdats m hO 0 (0 : Dev nD)).arrAt 5 (cfgM m hO).N = resArr m 0 :=
  Pipeline.Dat.arrAt_eq_of_covers (cfg := cfgM m hO) (c := (0 : Dev nD)) (tdats m hO 0 0) 5 (resArr m 0) (covers5 m hO)
    (fun t _ y => (congrFun (tafter_5 m hO 0 t) _).trans (place5 m hO hb t _ _ (emb5 m hO t y)))

theorem results_of (hO : Ok m) (hb : ∀ j : S154.Idx, 0 ≤ (B0 m 0 j).toInt ∧ (B0 m 0 j).toInt < 32) {r : PUnit × MemSt nD τ sig (Elt Ideal)}
    (h : Pipeline.FramePost (Pipeline.pin pcfgs fun _ => adm m hO) (tdats m hO) 0 (V m) r) :
    r.2.mem ((c.tc : Thread nD τ).loc main_v6) = resArr m c := by
  obtain rfl : c = 0 := Subsingleton.elim _ _
  exact (h.out_eq 0 (5 : Fin 6)).trans (final5 m hO hb)

end Cert.ExpertsIdeal.Val

end
-- ==== Proof.lean ====
/- The proof of the certificate's claim: the frames, the rewrites' statements, and the results' equality. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.BlocksIdeal
public import proofs.«01_k».proof.Proof.Gen.BlocksIdeal.Run
public import proofs.«01_k».proof.Proof.Gen.Pre_experts_in_range
public import proofs.«01_k».proof.Proof.KernelFrame
public import proofs.«01_k».proof.Proof.KernelIdealFrame
public import proofs.«01_k».proof.Proof.Agree
public import proofs.«01_k».proof.Proof.ExpertsFrame
public import proofs.«01_k».proof.Proof.ExpertsAgree
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The prefetched tables are in range: what the experts' launch needs. -/
theorem expertsIdeal_ok (m : (ℓ : Loc Cert.ExpertsIdeal.nD Cert.ExpertsIdeal.τ Cert.ExpertsIdeal.sig) → Buf (Elt Ideal) ℓ) (hp : Cert.Pre_ExpertsIdeal m) :
    Cert.ExpertsIdeal.Run.Ok m :=
  Cert.ExpertsIdeal.Run.ok_of m (Cert.Pre_experts_in_range.Read.in_range (hp 0)).1 (Cert.Pre_experts_in_range.Read.in_range (hp 0)).2

theorem claim : Cert.Claim :=
  ⟨Cert.Kernel.Gen.facts, Cert.KernelIdeal.Gen.facts, Cert.ReferenceIdeal.Gen.facts, Cert.Experts.Gen.facts, Cert.ExpertsIdeal.Gen.facts,
    Cert.BlocksIdeal.Gen.facts, Cert.Pre_experts_in_range.Gen.facts,
    fun m ρ _ => Cert.Kernel.Run.frame m ρ,
    fun m ρ _ => Cert.KernelIdeal.Run.frame m ρ,
    fun m ρ _ => (θ_run _ _ _).mono (fun r h => ⟨fun c => (h c).2.2.2, sem_eq_zero_of_no_sems (by decide) r.2⟩) (Cert.ReferenceIdeal.Value.run m ρ),
    Cert.Experts.Run.frame,
    fun m ρ hp => Cert.ExpertsIdeal.Run.frame m ρ (expertsIdeal_ok m hp),
    fun m ρ _ => (θ_run _ _ _).mono (fun r h => ⟨fun c => (h c).2, sem_eq_zero_of_no_sems (by decide) r.2⟩) (Cert.BlocksIdeal.Value.run m ρ),
    ⟨IdealRules.bf16_pair.bufferStatement _ _, IdealRules.bf16_pair.statement _ _, IdealRules.bf16_pack.statement _⟩,
    fun m g m' g' _ ha => by
      refine ⟨Cert.KernelIdeal.Track.stateArr m, Cert.KernelIdeal.Track.keyArr m, Cert.KernelIdeal.Track.valArr m, ?_, ?_⟩
      · refine (θ_run _ _ _).mono (fun r h c => ?_) (Cert.KernelIdeal.Track.run_track m g)
        obtain ⟨h0, h1, h2⟩ := Cert.KernelIdeal.Track.results_of m h c
        exact ⟨h0, h1, h2, Cert.KernelIdeal.Run.unchanged_of m _ (fun c w => Cert.KernelIdeal.Track.tA_eq m c w) h c⟩
      · refine (θ_run _ _ _).mono (fun r h c => ?_) (Cert.ReferenceIdeal.Value.run m' g')
        obtain ⟨e0, e1, e2, e3, -, -, e6, e7, e8, e9, -⟩ := ha c
        obtain ⟨h0, h1, h2, h3⟩ := h c
        exact ⟨h0.trans (Cert.Agree.state_eq m m' c e0 e1 e6 e7 e8 e9), h1.trans (Cert.Agree.key_eq m m' c _ e0 e2 e6 e7),
          h2.trans (Cert.Agree.val_eq m m' c _ e0 e3 e6 e7), h3⟩,
    trivial,
    fun m g m' g' hp ha => by
      have hO := expertsIdeal_ok m hp
      have hb := (Cert.Pre_experts_in_range.Read.in_range (hp 0)).1
      refine ⟨Cert.ExpertsIdeal.Val.resArr m, ?_, ?_⟩
      · exact (θ_run _ _ _).mono (fun r h c => ⟨Cert.ExpertsIdeal.Val.results_of m c hO hb h.1, Cert.ExpertsIdeal.Run.unchanged_of m hO h.1 c⟩)
          (Cert.ExpertsIdeal.Run.run_main m g hO)
      · refine (θ_run _ _ _).mono (fun r h c => ?_) (Cert.BlocksIdeal.Value.run m' g')
        obtain ⟨e0, e1, e2, e3, e4, e5, e6⟩ := ha c
        refine ⟨(h c).1.trans ((Cert.BlocksIdeal.Blocks.res_eq m' c).trans ?_), (h c).2⟩
        rw [e0, e1, e2, e3, e4, e5, e6]⟩

end Cert.Proof

end
